-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_v9_3) = v3 c
          ∧ r.2.mem ((c.tc : Thread Cert.ReferenceIdeal.nD Cert.ReferenceIdeal.τ).loc Cert.ReferenceIdeal.main_v9_4) = v4 c
          ∧ r.2.mem ((c.tc : Thread Cert.ReferenceIdeal.nD Cert.ReferenceIdeal.τ).loc Cert.ReferenceIdeal.main_v9_5) = v5 c
          ∧ r.2.mem ((c.tc : Thread Cert.ReferenceIdeal.nD Cert.ReferenceIdeal.τ).loc Cert.ReferenceIdeal.main_v9_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x1024 : Shape := ⟨3, ![8, 4096, 1024]⟩
abbrev S8x4096x256 : Shape := ⟨3, ![8, 4096, 256]⟩
abbrev S8x1024x4096 : Shape := ⟨3, ![8, 1024, 4096]⟩
abbrev S8x16x32 : Shape := ⟨3, ![8, 16, 32]⟩
abbrev S8x256x4096 : Shape := ⟨3, ![8, 256, 4096]⟩
abbrev S8x4x32 : Shape := ⟨3, ![8, 4, 32]⟩
abbrev S8x1x256 : Shape := ⟨3, ![8, 1, 256]⟩
abbrev S1x128x1024 : Shape := ⟨3, ![1, 128, 1024]⟩
abbrev S1x4096x256 : Shape := ⟨3, ![1, 4096, 256]⟩
abbrev S1x1024x128 : Shape := ⟨3, ![1, 1024, 128]⟩
abbrev S1x16x32 : Shape := ⟨3, ![1, 16, 32]⟩
abbrev S1x256x4096 : Shape := ⟨3, ![1, 256, 4096]⟩
abbrev S1x4x32 : Shape := ⟨3, ![1, 4, 32]⟩
abbrev S1x1x256 : Shape := ⟨3, ![1, 1, 256]⟩
abbrev S4096x512 : Shape := ⟨2, ![4096, 512]⟩
abbrev S2x4096x128 : Shape := ⟨3, ![2, 4096, 128]⟩
abbrev S4x32x128 : Shape := ⟨3, ![4, 32, 128]⟩
abbrev S256x4096 : Shape := ⟨2, ![256, 4096]⟩
abbrev S256x128 : Shape := ⟨2, ![256, 128]⟩
abbrev S4x128x512 : Shape := ⟨3, ![4, 128, 512]⟩
abbrev S16x128 : Shape := ⟨2, ![16, 128]⟩
abbrev S2x32x512 : Shape := ⟨3, ![2, 32, 512]⟩
abbrev S2x1x512 : Shape := ⟨3, ![2, 1, 512]⟩
abbrev S128x768 : Shape := ⟨2, ![128, 768]⟩
abbrev S4x128 : Shape := ⟨2, ![4, 128]⟩
abbrev S1x128 : Shape := ⟨2, ![1, 128]⟩
abbrev S1x128x256 : Shape := ⟨3, ![1, 128, 256]⟩
abbrev S128x256 : Shape := ⟨2, ![128, 256]⟩
abbrev S4x64x128 : Shape := ⟨3, ![4, 64, 128]⟩
abbrev S4 : Shape := ⟨1, ![4]⟩
abbrev S4x1 : Shape := ⟨2, ![4, 1]⟩
abbrev S1x1x128 : Shape := ⟨3, ![1, 1, 128]⟩
abbrev S64x128 : Shape := ⟨2, ![64, 128]⟩
abbrev S1x64x128 : Shape := ⟨3, ![1, 64, 128]⟩
abbrev S128x128 : Shape := ⟨2, ![128, 128]⟩
abbrev S1x128x128 : Shape := ⟨3, ![1, 128, 128]⟩
abbrev S4x32 : Shape := ⟨2, ![4, 32]⟩
abbrev S128x1024 : Shape := ⟨2, ![128, 1024]⟩
abbrev S1024x128 : Shape := ⟨2, ![1024, 128]⟩
abbrev S16x64x128 : Shape := ⟨3, ![16, 64, 128]⟩
abbrev S16 : Shape := ⟨1, ![16]⟩
abbrev S16x1 : Shape := ⟨2, ![16, 1]⟩
abbrev S16x32 : Shape := ⟨2, ![16, 32]⟩
abbrev S1x128x768 : Shape := ⟨3, ![1, 128, 768]⟩
abbrev S1x32x128 : Shape := ⟨3, ![1, 32, 128]⟩
abbrev S32x128 : Shape := ⟨2, ![32, 128]⟩
abbrev S1x1x512 : Shape := ⟨3, ![1, 1, 512]⟩
abbrev S1x512 : Shape := ⟨2, ![1, 512]⟩
abbrev S8x512 : Shape := ⟨2, ![8, 512]⟩
abbrev S128x512 : Shape := ⟨2, ![128, 512]⟩
abbrev S16x8x512 : Shape := ⟨3, ![16, 8, 512]⟩
abbrev S1x8x512 : Shape := ⟨3, ![1, 8, 512]⟩
abbrev S512x512 : Shape := ⟨2, ![512, 512]⟩
abbrev S64x512 : Shape := ⟨2, ![64, 512]⟩
abbrev S1x512x128 : Shape := ⟨3, ![1, 512, 128]⟩
abbrev S512x128 : Shape := ⟨2, ![512, 128]⟩
abbrev S1x128x512 : Shape := ⟨3, ![1, 128, 512]⟩
abbrev S512 : Shape := ⟨1, ![512]⟩
abbrev S8x256 : Shape := ⟨2, ![8, 256]⟩
abbrev S16x8x256 : Shape := ⟨3, ![16, 8, 256]⟩
abbrev S256 : Shape := ⟨1, ![256]⟩
abbrev S1x256 : Shape := ⟨2, ![1, 256]⟩
abbrev S1x256x128 : Shape := ⟨3, ![1, 256, 128]⟩

abbrev nBuf : Space → Nat
  | .hbm => 10
  | .vmem => 30
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x256, .bf16⟩
  | .hbm, ⟨2, _⟩ => ⟨S8x4096x256, .bf16⟩
  | .hbm, ⟨3, _⟩ => ⟨S8x4096x1024, .bf16⟩
  | .hbm, ⟨4, _⟩ => ⟨S8x1024x4096, .fp8e4m3⟩
  | .hbm, ⟨5, _⟩ => ⟨S8x16x32, .f32⟩
  | .hbm, ⟨6, _⟩ => ⟨S8x256x4096, .fp8e4m3⟩
  | .hbm, ⟨7, _⟩ => ⟨S8x4x32, .f32⟩
  | .hbm, ⟨8, _⟩ => ⟨S8x256x4096, .fp8e4m3⟩
  | .hbm, ⟨9, _⟩ => ⟨S8x1x256, .f32⟩
  | .local _ .vmem, ⟨0, _⟩ => ⟨S1x128x1024, .bf16⟩
  | .local _ .vmem, ⟨1, _⟩ => ⟨S1x128x1024, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x1024x128, .fp8e4m3⟩
  | .local _ .vmem, ⟨9, _⟩ => ⟨S1x1024x128, .fp8e4m3⟩
  | .local _ .vmem, ⟨10, _⟩ => ⟨S1x16x32, .f32⟩
  | .local _ .vmem, ⟨11, _⟩ => ⟨S1x16x32, .f32⟩
  | .local _ .vmem, ⟨12, _⟩ => ⟨S1x256x4096, .fp8e4m3⟩
  | .local _ .vmem, ⟨13, _⟩ => ⟨S1x256x4096, .fp8e4m3⟩
  | .local _ .vmem, ⟨14, _⟩ => ⟨S1x4x32, .f32⟩
  | .local _ .vmem, ⟨15, _⟩ => ⟨S1x4x32, .f32⟩
  | .local _ .vmem, ⟨16, _⟩ => ⟨S1x256x4096, .fp8e4m3⟩
  | .local _ .vmem, ⟨17, _⟩ => ⟨S1x256x4096, .fp8e4m3⟩
  | .local _ .vmem, ⟨18, _⟩ => ⟨S1x1x256, .f32⟩
  | .local _ .vmem, ⟨19, _⟩ => ⟨S1x1x256, .f32⟩
  | .local _ .vmem, ⟨20, _⟩ => ⟨S4096x512, .f32⟩
  | .local _ .vmem, ⟨21, _⟩ => ⟨S2x4096x128, .fp8e4m3⟩
  | .local _ .vmem, ⟨22, _⟩ => ⟨S4x32x128, .f32⟩
  | .local _ .vmem, ⟨23, _⟩ => ⟨S256x4096, .fp8e4m3⟩
  | .local _ .vmem, ⟨24, _⟩ => ⟨S256x128, .f32⟩
  | .local _ .vmem, ⟨25, _⟩ => ⟨S4x128x512, .fp8e4m3⟩
  | .local _ .vmem, ⟨26, _⟩ => ⟨S16x128, .f32⟩
  | .local _ .vmem, ⟨27, _⟩ => ⟨S2x32x512, .f32⟩
  | .local _ .vmem, ⟨28, _⟩ => ⟨S2x1x512, .f32⟩
  | .local _ .vmem, ⟨29, _⟩ => ⟨S128x768, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![257], ![false]⟩

def k0_cond2 (i : grid0.Coords) : BitVec 1 :=
  let arg0 : BitVec 32 := BitVec.ofNat 32 (i 0).val
  let c32_i32 : BitVec 32 := 32#32
  let v3 : BitVec 32 := Scalar.remsi arg0 c32_i32
  let c0_i32_1 : BitVec 32 := 0#32
  let v4 : BitVec 1 := Scalar.cmpi .eq v3 c0_i32_1
  let c256_i32 : BitVec 32 := 256#32
  let v5 : BitVec 1 := Scalar.cmpi .slt arg0 c256_i32
  let v6 : BitVec 1 := Scalar.andi v4 v5
  let v7 : BitVec 32 := Scalar.extui v6
  let c0_i32_2 : BitVec 32 := 0#32
  let v8 : BitVec 1 := Scalar.cmpi .ne v7 c0_i32_2
  v8

@[reducible] def k0_t1_loop : Scf.Loop 32 :=
  let c0_i32_626 : BitVec 32 := 0#32
  let c32_i32_627 : BitVec 32 := 32#32
  let v1350 : BitVec 32 := Scalar.addi c0_i32_626 c32_i32_627
  let c1_i32 : BitVec 32 := 1#32
  ⟨c0_i32_626, v1350, c1_i32⟩
def k0_off1 (k0_t1 : Fin k0_t1_loop.trips) : Fin 3 → Nat :=
  let c0_632 : Index := 0#32
  let c0_i32_626 : BitVec 32 := 0#32
  let c1_i32 : BitVec 32 := 1#32
  let arg21 : BitVec 32 := Scf.iv c0_i32_626 c1_i32 k0_t1
  let c128_i32 : BitVec 32 := 128#32
  let v1356 : BitVec 32 := Scalar.muli arg21 c128_i32
  let v1357 : Index := Scalar.indexCast v1356
  let c0_633 : Index := 0#32
  ![0, v1357.toNat, 0]
def k0_off2 (k0_t1 : Fin k0_t1_loop.trips) : Fin 3 → Nat :=
  let c0_645 : Index := 0#32
  let c0_i32_626 : BitVec 32 := 0#32
  let c1_i32 : BitVec 32 := 1#32
  let arg21 : BitVec 32 := Scf.iv c0_i32_626 c1_i32 k0_t1
  let v1398 : Index := Scalar.indexCast arg21
  let c0_646 : Index := 0#32
  ![0, v1398.toNat, 0]
def k0_off3 (k0_t1 : Fin k0_t1_loop.trips) : Fin 3 → Nat :=
  let c0_649 : Index := 0#32
  let c0_650 : Index := 0#32
  let c0_i32_626 : BitVec 32 := 0#32
  let c1_i32 : BitVec 32 := 1#32
  let arg21 : BitVec 32 := Scf.iv c0_i32_626 c1_i32 k0_t1
  let c128_i32 : BitVec 32 := 128#32
  let v1356 : BitVec 32 := Scalar.muli arg21 c128_i32
  let v1411 : Index := Scalar.indexCast v1356
  ![0, 0, v1411.toNat]
def k0_off4 (k0_t1 : Fin k0_t1_loop.trips) : Fin 3 → Nat :=
  let c1_651 : Index := 1#32
  let c0_i32_626 : BitVec 32 := 0#32
  let c1_i32 : BitVec 32 := 1#32
  let arg21 : BitVec 32 := Scf.iv c0_i32_626 c1_i32 k0_t1
  let v1416 : Index := Scalar.indexCast arg21
  let c0_652 : Index := 0#32
  ![1, v1416.toNat, 0]
def k0_off5 (k0_t1 : Fin k0_t1_loop.trips) : Fin 3 → Nat :=
  let c0_655 : Index := 0#32
  let c64_656 : Index := 64#32
  let c0_i32_626 : BitVec 32 := 0#32
  let c1_i32 : BitVec 32 := 1#32
  let arg21 : BitVec 32 := Scf.iv c0_i32_626 c1_i32 k0_t1
  let c128_i32 : BitVec 32 := 128#32
  let v1356 : BitVec 32 := Scalar.muli arg21 c128_i32
  let v1429 : Index := Scalar.indexCast v1356
  ![0, 64, v1429.toNat]
def k0_off6 (k0_t1 : Fin k0_t1_loop.trips) : Fin 3 → Nat :=
  let c2_657 : Index := 2#32
  let c0_i32_626 : BitVec 32 := 0#32
  let c1_i32 : BitVec 32 := 1#32
  let arg21 : BitVec 32 := Scf.iv c0_i32_626 c1_i32 k0_t1
  let v1434 : Index := Scalar.indexCast arg21
  let c0_658 : Index := 0#32
  ![2, v1434.toNat, 0]
def k0_off7 (k0_t1 : Fin k0_t1_loop.trips) : Fin 3 → Nat :=
  let c0_661 : Index := 0#32
  let c128_662 : Index := 128#32
  let c0_i32_626 : BitVec 32 := 0#32
  let c1_i32 : BitVec 32 := 1#32
  let arg21 : BitVec 32 := Scf.iv c0_i32_626 c1_i32 k0_t1
  let c128_i32 : BitVec 32 := 128#32
  let v1356 : BitVec 32 := Scalar.muli arg21 c128_i32
  let v1447 : Index := Scalar.indexCast v1356
  ![0, 128, v1447.toNat]
def k0_off8 (k0_t1 : Fin k0_t1_loop.trips) : Fin 3 → Nat :=
  let c3_663 : Index := 3#32
  let c0_i32_626 : BitVec 32 := 0#32
  let c1_i32 : BitVec 32 := 1#32
  let arg21 : BitVec 32 := Scf.iv c0_i32_626 c1_i32 k0_t1
  let v1452 : Index := Scalar.indexCast arg21
  let c0_664 : Index := 0#32
  ![3, v1452.toNat, 0]
def k0_off9 (k0_t1 : Fin k0_t1_loop.trips) : Fin 3 → Nat :=
  let c0_667 : Index := 0#32
  let c192_668 : Index := 192#32
  let c0_i32_626 : BitVec 32 := 0#32
  let c1_i32 : BitVec 32 := 1#32
  let arg21 : BitVec 32 := Scf.iv c0_i32_626 c1_i32 k0_t1
  let c128_i32 : BitVec 32 := 128#32
  let v1356 : BitVec 32 := Scalar.muli arg21 c128_i32
  let v1465 : Index := Scalar.indexCast v1356
  ![0, 192, v1465.toNat]
def k0_off10 (k0_t1 : Fin k0_t1_loop.trips) : Fin 3 → Nat :=
  let c0_671 : Index := 0#32
  let c0_i32_626 : BitVec 32 := 0#32
  let c1_i32 : BitVec 32 := 1#32
  let arg21 : BitVec 32 := Scf.iv c0_i32_626 c1_i32 k0_t1
  let c128_i32 : BitVec 32 := 128#32
  let v1356 : BitVec 32 := Scalar.muli arg21 c128_i32
  let v1480 : Index := Scalar.indexCast v1356
  let c0_672 : Index := 0#32
  ![0, v1480.toNat, 0]
def k0_off11 (k0_t1 : Fin k0_t1_loop.trips) : Fin 3 → Nat :=
  let c1_675 : Index := 1#32
  let c0_i32_626 : BitVec 32 := 0#32
  let c1_i32 : BitVec 32 := 1#32
  let arg21 : BitVec 32 := Scf.iv c0_i32_626 c1_i32 k0_t1
  let c128_i32 : BitVec 32 := 128#32
  let v1356 : BitVec 32 := Scalar.muli arg21 c128_i32
  let v1495 : Index := Scalar.indexCast v1356
  let c0_676 : Index := 0#32
  ![1, v1495.toNat, 0]
def k0_cond3 (i : grid0.Coords) : BitVec 1 :=
  let arg0 : BitVec 32 := BitVec.ofNat 32 (i 0).val
  let c32_i32_619 : BitVec 32 := 32#32
  let v1336 : BitVec 32 := Scalar.remsi arg0 c32_i32_619
  let c0_i32_620 : BitVec 32 := 0#32
  let v1337 : BitVec 1 := Scalar.cmpi .eq v1336 c0_i32_620
  let c256_i32_621 : BitVec 32 := 256#32
  let v1338 : BitVec 1 := Scalar.cmpi .slt arg0 c256_i32_621
  let v1339 : BitVec 1 := Scalar.andi v1337 v1338
  let v1340 : BitVec 32 := Scalar.extui v1339
  let c0_i32_622 : BitVec 32 := 0#32
  let v1341 : BitVec 1 := Scalar.cmpi .ne v1340 c0_i32_622
  v1341

@[reducible] def k0_t2_loop : Scf.Loop 32 :=
  let c0_i32_626 : BitVec 32 := 0#32
  let c32_i32_627 : BitVec 32 := 32#32
  let v1346 : BitVec 32 := Scalar.addi c0_i32_626 c32_i32_627
  let c1_i32 : BitVec 32 := 1#32
  ⟨c0_i32_626, v1346, c1_i32⟩
def k0_off12 (k0_t2 : Fin k0_t2_loop.trips) : Fin 3 → Nat :=
  let c0_648 : Index := 0#32
  let c0_i32_626 : BitVec 32 := 0#32
  let c1_i32 : BitVec 32 := 1#32
  let arg21 : BitVec 32 := Scf.iv c0_i32_626 c1_i32 k0_t2
  let c128_i32 : BitVec 32 := 128#32
  let v1396 : BitVec 32 := Scalar.muli arg21 c128_i32
  let v1397 : Index := Scalar.indexCast v1396
  let c0_649 : Index := 0#32
  ![0, v1397.toNat, 0]
@[reducible] def k0_t3_loop : Scf.Loop 32 :=
  let c0_i32_644 : BitVec 32 := 0#32
  let c32_i32_645 : BitVec 32 := 32#32
  let v1395 : BitVec 32 := Scalar.addi c0_i32_644 c32_i32_645
  let c1_i32_646 : BitVec 32 := 1#32
  ⟨c0_i32_644, v1395, c1_i32_646⟩
def k0_off13 (k0_t3 : Fin k0_t3_loop.trips) : Fin 3 → Nat :=
  let c0_648 : Index := 0#32
  let c0_i32_644 : BitVec 32 := 0#32
  let c1_i32_646 : BitVec 32 := 1#32
  let arg21 : BitVec 32 := Scf.iv c0_i32_644 c1_i32_646 k0_t3
  let c128_i32 : BitVec 32 := 128#32
  let v1396 : BitVec 32 := Scalar.muli arg21 c128_i32
  let v1397 : Index := Scalar.indexCast v1396
  let c0_649 : Index := 0#32
  ![0, v1397.toNat, 0]
def k0_off14 (k0_t3 : Fin k0_t3_loop.trips) : Fin 3 → Nat :=
  let c0_652 : Index := 0#32
  let c0_653 : Index := 0#32
  let c0_i32_644 : BitVec 32 := 0#32
  let c1_i32_646 : BitVec 32 := 1#32
  let arg21 : BitVec 32 := Scf.iv c0_i32_644 c1_i32_646 k0_t3
  let c128_i32 : BitVec 32 := 128#32
  let v1396 : BitVec 32 := Scalar.muli arg21 c128_i32
  let v1408 : Index := Scalar.indexCast v1396
  ![0, 0, v1408.toNat]
def k0_off15 (k0_t3 : Fin k0_t3_loop.trips) : Fin 2 → Nat :=
  let c0_654 : Index := 0#32
  let c0_i32_644 : BitVec 32 := 0#32
  let c1_i32_646 : BitVec 32 := 1#32
  let arg21 : BitVec 32 := Scf.iv c0_i32_644 c1_i32_646 k0_t3
  let c128_i32 : BitVec 32 := 128#32
  let v1396 : BitVec 32 := Scalar.muli arg21 c128_i32
  let v1412 : Index := Scalar.indexCast v1396
  ![0, v1412.toNat]
def cc0_transform_0 (i : grid0.Coords) : Fin 3 → Nat :=
  let arg0 : BitVec 32 := BitVec.ofNat 32 (i 0).val
  let c255_i32 : BitVec 32 := 255#32
  let v0 : BitVec 32 := Scalar.minsi arg0 c255_i32
  let c32_i32 : BitVec 32 := 32#32
  let v1 : BitVec 32 := Scalar.divsi v0 c32_i32
  let c32_i32_0 : BitVec 32 := 32#32
  let v2 : BitVec 32 := Scalar.remsi v0 c32_i32_0
  let c0_i32 : BitVec 32 := 0#32
  let c0_i32_1 : BitVec 32 := 0#32
  ![v1.toNat, v2.toNat, c0_i32.toNat]

def cc0_transform_1 (i : grid0.Coords) : Fin 3 → Nat :=
  let arg0 : BitVec 32 := BitVec.ofNat 32 (i 0).val
  let c255_i32 : BitVec 32 := 255#32
  let v0 : BitVec 32 := Scalar.minsi arg0 c255_i32
  let c32_i32 : BitVec 32 := 32#32
  let v1 : BitVec 32 := Scalar.divsi v0 c32_i32
  let c32_i32_0 : BitVec 32 := 32#32
  let v2 : BitVec 32 := Scalar.remsi v0 c32_i32_0
  let c0_i32 : BitVec 32 := 0#32
  let c0_i32_1 : BitVec 32 := 0#32
  let c0_i32_2 : BitVec 32 := 0#32
  ![v1.toNat, c0_i32.toNat, c0_i32_1.toNat]

def cc0_transform_2 (i : grid0.Coords) : Fin 3 → Nat :=
  let arg0 : BitVec 32 := BitVec.ofNat 32 (i 0).val
  let c255_i32 : BitVec 32 := 255#32
  let v0 : BitVec 32 := Scalar.minsi arg0 c255_i32
  let c32_i32 : BitVec 32 := 32#32
  let v1 : BitVec 32 := Scalar.divsi v0 c32_i32
  let c32_i32_0 : BitVec 32 := 32#32
  let v2 : BitVec 32 := Scalar.remsi v0 c32_i32_0
  let c0_i32 : BitVec 32 := 0#32
  let c0_i32_1 : BitVec 32 := 0#32
  let c0_i32_2 : BitVec 32 := 0#32
  ![v1.toNat, c0_i32.toNat, c0_i32_1.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c32_i32_0 : BitVec 32 := 32#32
  let v3 : BitVec 32 := Scalar.remsi v1 c32_i32_0
  let c0_i32_1 : BitVec 32 := 0#32
  let c0_i32_2 : BitVec 32 := 0#32
  ![v2.toNat, v3.toNat, c0_i32_1.toNat]

def cc0_transform_4 (i : grid0.Coords) : Fin 3 → Nat :=
  let arg0 : BitVec 32 := BitVec.ofNat 32 (i 0).val
  let c255_i32 : BitVec 32 := 255#32
  let v0 : BitVec 32 := Scalar.minsi arg0 c255_i32
  let c32_i32 : BitVec 32 := 32#32
  let v1 : BitVec 32 := Scalar.divsi v0 c32_i32
  let c32_i32_0 : BitVec 32 := 32#32
  let v2 : BitVec 32 := Scalar.remsi v0 c32_i32_0
  let c0_i32 : BitVec 32 := 0#32
  let c0_i32_1 : BitVec 32 := 0#32
  ![v1.toNat, c0_i32.toNat, v2.toNat]

def cc0_transform_5 (i : grid0.Coords) : Fin 3 → Nat :=
  let arg0 : BitVec 32 := BitVec.ofNat 32 (i 0).val
  let c255_i32 : BitVec 32 := 255#32
  let v0 : BitVec 32 := Scalar.minsi arg0 c255_i32
  let c32_i32 : BitVec 32 := 32#32
  let v1 : BitVec 32 := Scalar.divsi v0 c32_i32
  let c32_i32_0 : BitVec 32 := 32#32
  let v2 : BitVec 32 := Scalar.remsi v0 c32_i32_0
  let c0_i32 : BitVec 32 := 0#32
  let c0_i32_1 : BitVec 32 := 0#32
  let c0_i32_2 : BitVec 32 := 0#32
  ![v1.toNat, c0_i32.toNat, c0_i32_1.toNat]

def cc0_transform_6 (i : grid0.Coords) : Fin 3 → Nat :=
  let arg0 : BitVec 32 := BitVec.ofNat 32 (i 0).val
  let c255_i32 : BitVec 32 := 255#32
  let v0 : BitVec 32 := Scalar.minsi arg0 c255_i32
  let c32_i32 : BitVec 32 := 32#32
  let v1 : BitVec 32 := Scalar.divsi v0 c32_i32
  let c32_i32_0 : BitVec 32 := 32#32
  let v2 : BitVec 32 := Scalar.remsi v0 c32_i32_0
  let c0_i32 : BitVec 32 := 0#32
  let c0_i32_1 : BitVec 32 := 0#32
  let c0_i32_2 : BitVec 32 := 0#32
  ![v1.toNat, c0_i32.toNat, c0_i32_1.toNat]

def cc0_transform_7 (i : grid0.Coords) : Fin 3 → Nat :=
  let arg0 : BitVec 32 := BitVec.ofNat 32 (i 0).val
  let c255_i32 : BitVec 32 := 255#32
  let v0 : BitVec 32 := Scalar.minsi arg0 c255_i32
  let c32_i32 : BitVec 32 := 32#32
  let v1 : BitVec 32 := Scalar.divsi v0 c32_i32
  let c32_i32_0 : BitVec 32 := 32#32
  let v2 : BitVec 32 := Scalar.remsi v0 c32_i32_0
  let c0_i32 : BitVec 32 := 0#32
  let c0_i32_1 : BitVec 32 := 0#32
  let c0_i32_2 : BitVec 32 := 0#32
  ![v1.toNat, c0_i32.toNat, c0_i32_1.toNat]

def cc0_transform_8 (i : grid0.Coords) : Fin 3 → Nat :=
  let arg0 : BitVec 32 := BitVec.ofNat 32 (i 0).val
  let c255_i32 : BitVec 32 := 255#32
  let v0 : BitVec 32 := Scalar.minsi arg0 c255_i32
  let c32_i32 : BitVec 32 := 32#32
  let v1 : BitVec 32 := Scalar.divsi v0 c32_i32
  let c32_i32_0 : BitVec 32 := 32#32
  let v2 : BitVec 32 := Scalar.remsi v0 c32_i32_0
  let c0_i32 : BitVec 32 := 0#32
  let c0_i32_1 : BitVec 32 := 0#32
  let c0_i32_2 : BitVec 32 := 0#32
  ![v1.toNat, c0_i32.toNat, c0_i32_1.toNat]

def cc0_transform_9 (i : grid0.Coords) : Fin 3 → Nat :=
  let arg0 : BitVec 32 := BitVec.ofNat 32 (i 0).val
  let c255_i32 : BitVec 32 := 255#32
  let v0 : BitVec 32 := Scalar.minsi arg0 c255_i32
  let c32_i32 : BitVec 32 := 32#32
  let v1 : BitVec 32 := Scalar.divsi v0 c32_i32
  let c32_i32_0 : BitVec 32 := 32#32
  let v2 : BitVec 32 := Scalar.remsi v0 c32_i32_0
  let c0_i32 : BitVec 32 := 0#32
  let c0_i32_1 : BitVec 32 := 0#32
  let c0_i32_2 : BitVec 32 := 0#32
  ![v1.toNat, c0_i32.toNat, c0_i32_1.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x4096 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "scale_log2e" => some (((8 * (Real.log 2))⁻¹ : ℝ) : EReal)
  | _ => none
-- ==== ReferenceIdeal.lean ====
abbrev S8x4096x1024 : Shape := ⟨3, ![8, 4096, 1024]⟩
abbrev S8x4096x256 : Shape := ⟨3, ![8, 4096, 256]⟩
abbrev S8x32x128x16x64 : Shape := ⟨5, ![8, 32, 128, 16, 64]⟩
abbrev S8x16x64x32x128 : Shape := ⟨5, ![8, 16, 64, 32, 128]⟩
abbrev S8x32x128x4x64 : Shape := ⟨5, ![8, 32, 128, 4, 64]⟩
abbrev S8x4x64x32x128 : Shape := ⟨5, ![8, 4, 64, 32, 128]⟩
abbrev S8x4096x4x64 : Shape := ⟨4, ![8, 4096, 4, 64]⟩
abbrev S8x4x64x4096 : Shape := ⟨4, ![8, 4, 64, 4096]⟩
abbrev S8x1024x4096 : Shape := ⟨3, ![8, 1024, 4096]⟩
abbrev S8x16x32 : Shape := ⟨3, ![8, 16, 32]⟩
abbrev S8x256x4096 : Shape := ⟨3, ![8, 256, 4096]⟩
abbrev S8x4x32 : Shape := ⟨3, ![8, 4, 32]⟩
abbrev S8x1x256 : Shape := ⟨3, ![8, 1, 256]⟩
abbrev S8x16x64x32 : Shape := ⟨4, ![8, 16, 64, 32]⟩
abbrev S8x16x1x32x1 : Shape := ⟨5, ![8, 16, 1, 32, 1]⟩
abbrev S8x4x64x32 : Shape := ⟨4, ![8, 4, 64, 32]⟩
abbrev S8x4x1x32x1 : Shape := ⟨5, ![8, 4, 1, 32, 1]⟩
abbrev S8x4x64 : Shape := ⟨3, ![8, 4, 64]⟩
abbrev S8x4x64x1 : Shape := ⟨4, ![8, 4, 64, 1]⟩
abbrev S8x4x4x64x4096 : Shape := ⟨5, ![8, 4, 4, 64, 4096]⟩
abbrev S8x4x4x4096x4096 : Shape := ⟨5, ![8, 4, 4, 4096, 4096]⟩
abbrev S8x16x32x1 : Shape := ⟨4, ![8, 16, 32, 1]⟩
abbrev S8x16x32x128 : Shape := ⟨4, ![8, 16, 32, 128]⟩
abbrev S8x4x4x4096 : Shape := ⟨4, ![8, 4, 4, 4096]⟩
abbrev S8x4x32x1 : Shape := ⟨4, ![8, 4, 32, 1]⟩
abbrev S8x4x32x128 : Shape := ⟨4, ![8, 4, 32, 128]⟩
abbrev S8x4x4096 : Shape := ⟨3, ![8, 4, 4096]⟩
abbrev S8x4x4x4096x1 : Shape := ⟨5, ![8, 4, 4, 4096, 1]⟩
abbrev S8x4x1x1x4096 : Shape := ⟨5, ![8, 4, 1, 1, 4096]⟩
abbrev S8x4x4x4096x64 : Shape := ⟨5, ![8, 4, 4, 4096, 64]⟩
abbrev S8x4x1x1x64 : Shape := ⟨5, ![8, 4, 1, 1, 64]⟩
abbrev S8x4096x4x4x64 : Shape := ⟨5, ![8, 4096, 4, 4, 64]⟩

abbrev nBuf : Space → Nat
  | .hbm => 19
  | .vmem => 10
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x256, .bf16⟩
  | .hbm, ⟨2, _⟩ => ⟨S8x4096x256, .bf16⟩
  | .hbm, ⟨3, _⟩ => ⟨S8x4096x1024, .f32⟩
  | .hbm, ⟨4, _⟩ => ⟨S8x32x128x16x64, .f32⟩
  | .hbm, ⟨5, _⟩ => ⟨S8x16x64x32x128, .f32⟩
  | .hbm, ⟨6, _⟩ => ⟨S8x4096x256, .f32⟩
  | .hbm, ⟨7, _⟩ => ⟨S8x32x128x4x64, .f32⟩
  | .hbm, ⟨8, _⟩ => ⟨S8x4x64x32x128, .f32⟩
  | .hbm, ⟨9, _⟩ => ⟨S8x4096x256, .f32⟩
  | .hbm, ⟨10, _⟩ => ⟨S8x4096x4x64, .f32⟩
  | .hbm, ⟨11, _⟩ => ⟨S8x4x64x4096, .f32⟩
  | .hbm, ⟨12, _⟩ => ⟨S8x4096x1024, .bf16⟩
  | .hbm, ⟨13, _⟩ => ⟨S8x1024x4096, .fp8e4m3⟩
  | .hbm, ⟨14, _⟩ => ⟨S8x16x32, .f32⟩
  | .hbm, ⟨15, _⟩ => ⟨S8x256x4096, .fp8e4m3⟩
  | .hbm, ⟨16, _⟩ => ⟨S8x4x32, .f32⟩
  | .hbm, ⟨17, _⟩ => ⟨S8x256x4096, .fp8e4m3⟩
  | .hbm, ⟨18, _⟩ => ⟨S8x1x256, .f32⟩
  | .local _ .vmem, ⟨0, _⟩ => ⟨S8x16x64x32x128, .f32⟩
  | .local _ .vmem, ⟨1, _⟩ => ⟨S8x4x64x32x128, .f32⟩
  | .local _ .vmem, ⟨2, _⟩ => ⟨S8x4x64x4096, .f32⟩
  | .local _ .vmem, ⟨3, _⟩ => ⟨S8x4096x1024, .bf16⟩
  | .local _ .vmem, ⟨4, _⟩ => ⟨S8x1024x4096, .fp8e4m3⟩
  | .local _ .vmem, ⟨5, _⟩ => ⟨S8x16x32, .f32⟩
  | .local _ .vmem, ⟨6, _⟩ => ⟨S8x256x4096, .fp8e4m3⟩
  | .local _ .vmem, ⟨7, _⟩ => ⟨S8x4x32, .f32⟩
  | .local _ .vmem, ⟨8, _⟩ => ⟨S8x256x4096, .fp8e4m3⟩
  | .local _ .vmem, ⟨9, _⟩ => ⟨S8x1x256, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev main_v9_4 : Ref sig .tc := ⟨.hbm, 16, rfl⟩
abbrev main_v9_5 : Ref sig .tc := ⟨.hbm, 17, rfl⟩
abbrev main_v9_6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x16x64x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4x64x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4x64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x256x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x4x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x256x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Attention.lean ====
/- The attention kernel's body as four instances of one program: the pass over the key chunks for one
   key head, with the head's index as a parameter. The generated skeleton prints it four times. -/
module

public import proofs.«01_k».proof.Proof.Gen.KernelIdeal.Skeleton

@[expose] public section

set_option maxRecDepth 16384

noncomputable section

namespace Cert.KernelIdeal.Att

open Idealize.ShloMosaic Idealize.SL.Sem Cert.KernelIdeal Cert.KernelIdeal.Gen

variable {F : FTy → Type} [FloatOps F] [Named F]

/-- The kernel's programs. -/
abbrev PR (F : FTy → Type) := Prog (TpuEff nD τ sig (Elt F) Λ₀ .tc)

/-! ## The values one chunk computes -/

/-- The shifted maximum, on eight sublanes. -/
def m8P (mv : Vec F S1x1x512 .f32) : FVec F S8x512 .f32 :=
  broadcastTo S8x512 (shapeCast S1x512 (subf (shapeCast S1x512 mv shapeCasts_S1x1x512_S1x512)
    (broadcast S1x512 (Scalar.ofBits .f32 0x41000000#32))) shapeCasts_S1x512_S1x512) broadcasts_S1x512_S8x512

/-- The probabilities of one block of 128 keys. -/
def blkP (m8 : FVec F S8x512 .f32) (sv : Vec F S128x512 .f32) (cv : Vec F S1x1x512 .f32) : FVec F S16x8x512 .f32 :=
  exp2 (subf (mulf (shapeCast S16x8x512 sv shapeCasts_S128x512_S16x8x512)
      (broadcastTo S16x8x512 (shapeCast S1x1x512 (shapeCast S1x512 cv shapeCasts_S1x1x512_S1x512) shapeCasts_S1x512_S1x1x512)
        broadcasts_S1x1x512_S16x8x512))
    (broadcastTo S16x8x512 (shapeCast S1x8x512 m8 shapeCasts_S8x512_S1x8x512) broadcasts_S1x8x512_S16x8x512))

/-- The running sum of probabilities, by sublane. -/
def rsP (rs : FVec F S8x512 .f32) (p : FVec F S16x8x512 .f32) : FVec F S8x512 .f32 :=
  addf rs (multiReduction .add [0] S8x512 p 0x00000000#32 reduces_S16x8x512_S8x512 (.inl rfl) rfl)

/-- The probabilities' codes. -/
def codeP (p : FVec F S16x8x512 .f32) : FVec F S128x512 .fp8e4m3 :=
  truncf .fp8e4m3 (minimumf (broadcast S128x512 (Scalar.ofBits .f32 0x43E00000#32))
    (maximumf (broadcast S128x512 (Scalar.ofBits .f32 0xC3E00000#32))
      (shapeCast S128x512 p shapeCasts_S16x8x512_S128x512))) bitsLt_fp8e4m3_f32

/-- The product of a chunk of values with the chunk's codes. -/
def ojP (vt : Vec F S64x512 .fp8e4m3) (c0 c1 c2 c3 : FVec F S128x512 .fp8e4m3) : FVec F S64x512 .f32 :=
  matmul dot_S64x512_S512x512_S64x512_1_0_0_1_n_n none vt
    (concatenate S512x512 0 [⟨S128x512, c0⟩, ⟨S128x512, c1⟩, ⟨S128x512, c2⟩, ⟨S128x512, c3⟩]
      concatenates_S128x512_S128x512_S128x512_S128x512_S512x512_d0)
    (constant S64x512 .f32 0x00000000#32)

/-- The next head's scores of a chunk. -/
def snP (kn : Vec F S1x512x128 .fp8e4m3) (qz : Vec F S1x128x512 .fp8e4m3) : FVec F S512x512 .f32 :=
  matmul dot_S512x128_S128x512_S512x512_1_0_0_1_n_n none (shapeCast S512x128 kn shapeCasts_S1x512x128_S512x128)
    (shapeCast S128x512 qz shapeCasts_S1x128x512_S128x512) (constant S512x512 .f32 0x00000000#32)

/-- The running maximum after one block of a chunk's scores. -/
def mxP (off : ℕ) (h : S512x512.Slices ![off, 0] S128x512) (mx : FVec F S8x512 .f32) (sn : FVec F S512x512 .f32)
    (cv : Vec F S1x1x512 .f32) : FVec F S8x512 .f32 :=
  maximumf mx (mulf (multiReduction .maximumf [0] S8x512
      (shapeCast S16x8x512 (extractStridedSlice S128x512 ![off, 0] sn h) shapeCasts_S128x512_S16x8x512)
      0xFF800000#32 reduces_S16x8x512_S8x512 (.inl rfl) rfl)
    (broadcastTo S8x512 (shapeCast S1x512 cv shapeCasts_S1x1x512_S1x512) broadcasts_S1x512_S8x512))

/-- The head's maximum, over the sublanes. -/
def mFinP (mx : FVec F S8x512 .f32) : FVec F S1x1x512 .f32 :=
  shapeCast S1x1x512 (shapeCast S1x512 (multiReduction .maximumf [0] S512 mx 0xFF800000#32 reduces_S8x512_S512 (.inl rfl) rfl)
    shapeCasts_S512_S1x512) shapeCasts_S1x512_S1x1x512

/-- The head's output before its transpose. -/
def oFinP (rs : FVec F S8x512 .f32) (o : FVec F S64x512 .f32) (vcol : Vec F S64x128 .f32) : FVec F S64x512 .f32 :=
  divf (mulf o (concatenate S64x512 1 [⟨S64x128, vcol⟩, ⟨S64x128, vcol⟩, ⟨S64x128, vcol⟩, ⟨S64x128, vcol⟩]
      concatenates_S64x128_S64x128_S64x128_S64x128_S64x512_d1))
    (broadcastTo S64x512 (shapeCast S1x512 (multiReduction .add [0] S512 rs 0x00000000#32 reduces_S8x512_S512 (.inl rfl) rfl)
      shapeCasts_S512_S1x512) broadcasts_S1x512_S64x512)

/-- Two heads' outputs side by side, transposed and rounded. -/
def pairP (a b : ℕ) (ha : S64x512.Slices ![0, a] S64x128) (hb : S64x512.Slices ![0, b] S64x128) (o : FVec F S64x512 .f32) :
    FVec F S128x128 .bf16 :=
  truncf .bf16 (transpose S128x128 [1, 0] (concatenate S128x128 0
    [⟨S64x128, extractStridedSlice S64x128 ![0, a] o ha⟩, ⟨S64x128, extractStridedSlice S64x128 ![0, b] o hb⟩]
    concatenates_S64x128_S64x128_S128x128_d0) transposes_S128x128_p1_0_S128x128) bitsLt_bf16_f32

/-- One block's combined scale: the key block's times the query head's. -/
def cP (ks : Vec F S1x32x128 .f32) (qs : Vec F S1x128 .f32) : FVec F S1x32x128 .f32 :=
  shapeCast S1x32x128 (mulf (shapeCast S32x128 ks shapeCasts_S1x32x128_S32x128)
    (broadcastTo S32x128 qs broadcasts_S1x128_S32x128)) shapeCasts_S32x128_S1x32x128

/-! ## The program -/

/-- A load of a rectangle of unit strides. -/
abbrev ld {s : Shape} {e : EltTy} (a : Memref sig .tc .vmem s e) (off size : Fin s.rank → ℕ)
    (inb : ∀ x, off x + size x ≤ s.size x) (h : 0 < (⟨s.rank, size⟩ : Shape).numel) :
    PR F ((Rect.unit (s := s) off size inb).toLoadRect.shape.Idx → Elt F e) :=
  Prog.lift (.load a (Rect.unit (s := s) off size inb).toLoadRect (View.loadsAt_vmem h))

/-- A store of a rectangle of unit strides. -/
abbrev st {s : Shape} {e : EltTy} (a : Memref sig .tc .vmem s e) (off size : Fin s.rank → ℕ)
    (inb : ∀ x, off x + size x ≤ s.size x) (w : (Rect.unit (s := s) off size inb).shape.Idx → Elt F e)
    (hx : (a.access (Rect.unit (s := s) off size inb)).Stores Finset.univ) : PR F PUnit :=
  Prog.lift (.store a (Rect.unit (s := s) off size inb) w Finset.univ hx (.inl rfl))

section Prog

variable (arg11 : Memref sig .tc .vmem S4096x512 .f32) (arg12 : Memref sig .tc .vmem S2x4096x128 .fp8e4m3)
  (arg13 : Memref sig .tc .vmem S4x32x128 .f32) (arg14 : Memref sig .tc .vmem S256x4096 .fp8e4m3)
  (arg15 : Memref sig .tc .vmem S256x128 .f32) (arg16 : Memref sig .tc .vmem S4x128x512 .fp8e4m3)
  (arg17 : Memref sig .tc .vmem S16x128 .f32) (arg18 : Memref sig .tc .vmem S2x32x512 .f32)
  (arg19 : Memref sig .tc .vmem S2x1x512 .f32)

theorem inbS (r : ℕ) (h : r < 32) : ∀ x, (![128 * r, 0] : Fin 2 → ℕ) x + S128x512.size x ≤ S4096x512.size x := by
  intro x; fin_cases x <;> simp [S128x512, S4096x512]; omega
theorem inbC (p r : ℕ) (hp : p < 2) (h : r < 32) : ∀ x, (![p, r, 0] : Fin 3 → ℕ) x + S1x1x512.size x ≤ S2x32x512.size x := by
  intro x; fin_cases x <;> simp [S1x1x512, S2x32x512] <;> omega
theorem inbVt (g j : ℕ) (hg : g < 4) (h : j < 8) : ∀ x, (![64 * g, 512 * j] : Fin 2 → ℕ) x + S64x512.size x ≤ S256x4096.size x := by
  intro x; fin_cases x <;> simp [S64x512, S256x4096] <;> omega
theorem inbKn (g j : ℕ) (hg : g < 2) (h : j < 8) : ∀ x, (![g, 512 * j, 0] : Fin 3 → ℕ) x + S1x512x128.size x ≤ S2x4096x128.size x := by
  intro x; fin_cases x <;> simp [S1x512x128, S2x4096x128] <;> omega
theorem inbQz (g : ℕ) (hg : g < 4) : ∀ x, (![g, 0, 0] : Fin 3 → ℕ) x + S1x128x512.size x ≤ S4x128x512.size x := by
  intro x; fin_cases x <;> simp [S1x128x512, S4x128x512] <;> omega
theorem inbSn (j : ℕ) (h : j < 8) : ∀ x, (![512 * j, 0] : Fin 2 → ℕ) x + S512x512.size x ≤ S4096x512.size x := by
  intro x; fin_cases x <;> simp [S512x512, S4096x512]; omega
theorem inbKs (g : ℕ) (hg : g < 4) : ∀ x, (![g, 0, 0] : Fin 3 → ℕ) x + S1x32x128.size x ≤ S4x32x128.size x := by
  intro x; fin_cases x <;> simp [S1x32x128, S4x32x128] <;> omega
theorem inbQs (h : ℕ) (hh : h < 16) : ∀ x, (![h, 0] : Fin 2 → ℕ) x + S1x128.size x ≤ S16x128.size x := by
  intro x; fin_cases x <;> simp [S1x128, S16x128] <;> omega
theorem inbCb (p l : ℕ) (hp : p < 2) (hl : l < 4) : ∀ x, (![p, 0, 128 * l] : Fin 3 → ℕ) x + S1x32x128.size x ≤ S2x32x512.size x := by
  intro x; fin_cases x <;> simp [S1x32x128, S2x32x512] <;> omega
theorem inbM (p : ℕ) (hp : p < 2) : ∀ x, (![p, 0, 0] : Fin 3 → ℕ) x + S1x1x512.size x ≤ S2x1x512.size x := by
  intro x; fin_cases x <;> simp [S1x1x512, S2x1x512] <;> omega
theorem inbVc (g : ℕ) (hg : g < 4) : ∀ x, (![64 * g, 0] : Fin 2 → ℕ) x + S64x128.size x ≤ S256x128.size x := by
  intro x; fin_cases x <;> simp [S64x128, S256x128] <;> omega

theorem prev_lt (g : ℕ) : (g + 1) % 2 < 2 := Nat.mod_lt _ (by decide)
theorem cur_lt (g : ℕ) : g % 2 < 2 := Nat.mod_lt _ (by decide)
theorem gp_lt (g : ℕ) : (g + 3) % 4 < 4 := Nat.mod_lt _ (by decide)
theorem half_lt {g : ℕ} (hg : g < 4) : g / 2 < 2 := by omega

/-- One chunk of 512 keys for key head `g`: the previous head's probabilities of the chunk and their product
    with the values, and head `g`'s scores of the chunk with the running maximum. -/
def chunk (g : ℕ) (hg : g < 4) (m8 : FVec F S8x512 .f32) (j : ℕ) (hj : j < 8) (rs mx : FVec F S8x512 .f32) :
    PR F (FVec F S8x512 .f32 × FVec F S8x512 .f32 × FVec F S64x512 .f32) := do
  let s0 ← ld arg11 ![128 * (4 * j), 0] S128x512.size (inbS _ (by omega)) h_S128x512
  let c0 ← ld arg18 ![(g + 1) % 2, 4 * j, 0] S1x1x512.size (inbC _ _ (prev_lt g) (by omega)) h_S1x1x512
  let s1 ← ld arg11 ![128 * (4 * j + 1), 0] S128x512.size (inbS _ (by omega)) h_S128x512
  let c1 ← ld arg18 ![(g + 1) % 2, 4 * j + 1, 0] S1x1x512.size (inbC _ _ (prev_lt g) (by omega)) h_S1x1x512
  let s2 ← ld arg11 ![128 * (4 * j + 2), 0] S128x512.size (inbS _ (by omega)) h_S128x512
  let c2 ← ld arg18 ![(g + 1) % 2, 4 * j + 2, 0] S1x1x512.size (inbC _ _ (prev_lt g) (by omega)) h_S1x1x512
  let s3 ← ld arg11 ![128 * (4 * j + 3), 0] S128x512.size (inbS _ (by omega)) h_S128x512
  let c3 ← ld arg18 ![(g + 1) % 2, 4 * j + 3, 0] S1x1x512.size (inbC _ _ (prev_lt g) (by omega)) h_S1x1x512
  let vt ← ld arg14 ![64 * ((g + 3) % 4), 512 * j] S64x512.size (inbVt _ _ (gp_lt g) hj) h_S64x512
  let kn ← ld arg12 ![g / 2, 512 * j, 0] S1x512x128.size (inbKn _ _ (half_lt hg) hj) h_S1x512x128
  let qz ← ld arg16 ![g, 0, 0] S1x128x512.size (inbQz _ hg) h_S1x128x512
  let _ ← ld arg11 ![512 * j, 0] S512x512.size (inbSn _ hj) h_S512x512
  st arg11 ![512 * j, 0] S512x512.size (inbSn _ hj) (shapeCast S512x512 (snP kn qz) shapeCasts_S512x512_S512x512)
    (View.stores_vmem_bits_univ h_S512x512 rfl)
  let d0 ← ld arg18 ![g % 2, 4 * j, 0] S1x1x512.size (inbC _ _ (cur_lt g) (by omega)) h_S1x1x512
  let d1 ← ld arg18 ![g % 2, 4 * j + 1, 0] S1x1x512.size (inbC _ _ (cur_lt g) (by omega)) h_S1x1x512
  let d2 ← ld arg18 ![g % 2, 4 * j + 2, 0] S1x1x512.size (inbC _ _ (cur_lt g) (by omega)) h_S1x1x512
  let d3 ← ld arg18 ![g % 2, 4 * j + 3, 0] S1x1x512.size (inbC _ _ (cur_lt g) (by omega)) h_S1x1x512
  pure (rsP (rsP (rsP (rsP rs (blkP m8 s0 c0)) (blkP m8 s1 c1)) (blkP m8 s2 c2)) (blkP m8 s3 c3),
    mxP 384 slices_S512x512_o384_0_S128x512 (mxP 256 slices_S512x512_o256_0_S128x512
      (mxP 128 slices_S512x512_o128_0_S128x512 (mxP 0 slices_S512x512_o0_0_S128x512 mx (snP kn qz) d0) (snP kn qz) d1)
      (snP kn qz) d2) (snP kn qz) d3,
    ojP vt (codeP (blkP m8 s0 c0)) (codeP (blkP m8 s1 c1)) (codeP (blkP m8 s2 c2)) (codeP (blkP m8 s3 c3)))

/-- The first `n + 1` chunks. -/
def chunks (g : ℕ) (hg : g < 4) (m8 : FVec F S8x512 .f32) : (n : ℕ) → n < 8 →
    PR F (FVec F S8x512 .f32 × FVec F S8x512 .f32 × FVec F S64x512 .f32)
  | 0, hn => chunk arg11 arg12 arg14 arg16 arg18 g hg m8 0 hn
      (broadcast S8x512 (Scalar.ofBits .f32 0x00000000#32)) (broadcast S8x512 (Scalar.ofBits .f32 0xFF800000#32))
  | n + 1, hn => do
    let r ← chunks g hg m8 n (by omega)
    let r' ← chunk arg11 arg12 arg14 arg16 arg18 g hg m8 (n + 1) hn r.1 r.2.1
    pure (r'.1, r'.2.1, addf r.2.2 r'.2.2)

/-- One query head's row of combined scales. -/
def cRow (g : ℕ) (hg : g < 4) (l : ℕ) (hl : l < 4) : PR F PUnit := do
  let ks ← ld arg13 ![g, 0, 0] S1x32x128.size (inbKs _ hg) h_S1x32x128
  let qs ← ld arg17 ![4 * g + l, 0] S1x128.size (inbQs _ (by omega)) h_S1x128
  let _ ← ld arg18 ![g % 2, 0, 128 * l] S1x32x128.size (inbCb _ _ (cur_lt g) hl) h_S1x32x128
  st arg18 ![g % 2, 0, 128 * l] S1x32x128.size (inbCb _ _ (cur_lt g) hl) (cP ks qs) (View.stores_vmem_bits_univ h_S1x32x128 rfl)

/-- Everything the pass for key head `g` does but the stores of its two output tiles: the previous head's output. -/
def headCore (g : ℕ) (hg : g < 4) : PR F (FVec F S64x512 .f32) := do
  cRow arg13 arg17 arg18 g hg 0 (by decide)
  cRow arg13 arg17 arg18 g hg 1 (by decide)
  cRow arg13 arg17 arg18 g hg 2 (by decide)
  cRow arg13 arg17 arg18 g hg 3 (by decide)
  let mv ← ld arg19 ![(g + 1) % 2, 0, 0] S1x1x512.size (inbM _ (prev_lt g)) h_S1x1x512
  let r ← chunks arg11 arg12 arg14 arg16 arg18 g hg (m8P mv) 7 (by decide)
  let _ ← ld arg19 ![g % 2, 0, 0] S1x1x512.size (inbM _ (cur_lt g)) h_S1x1x512
  st arg19 ![g % 2, 0, 0] S1x1x512.size (inbM _ (cur_lt g)) (mFinP r.2.1) (View.stores_vmem_bits_univ h_S1x1x512 rfl)
  let vcol ← ld arg15 ![64 * ((g + 3) % 4), 0] S64x128.size (inbVc _ (gp_lt g)) h_S64x128
  pure (oFinP r.1 r.2.2 vcol)

variable (arg20 : Memref sig .tc .vmem S128x768 .bf16) (harg20 : arg20.IsWhole)

theorem inbOb (g p : ℕ) (hg : g < 3) (hp : p < 2) : ∀ x, (![0, 256 * g + 128 * p] : Fin 2 → ℕ) x + S128x128.size x ≤ S128x768.size x := by
  intro x; fin_cases x <;> simp [S128x128, S128x768] <;> omega

include harg20 in
theorem stOb (g p : ℕ) (hg : g < 3) (hp : p < 2) :
    (arg20.access (Rect.unit (s := S128x768) ![0, 256 * g + 128 * p] S128x128.size (inbOb g p hg hp))).Stores Finset.univ := by
  refine View.stores_vmem h_S128x128 (harg20.storeExact_slice rfl _ ?_) (fun _ => rfl)
  clear harg20
  revert g p
  suffices H : ∀ g : Fin 3, ∀ p : Fin 2, (Rect.unit (s := S128x768) ![0, 256 * g.val + 128 * p.val] S128x128.size
      (inbOb g.val p.val g.isLt p.isLt)).PackedRows (EltTy.packing .bf16) from fun g p hg hp => H ⟨g, hg⟩ ⟨p, hp⟩
  decide

/-- The pass for key head `g + 1`: it leaves head `g`'s output tiles in the output scratch. -/
def headRest (g : ℕ) (hg : g < 3) : PR F PUnit := do
  let o ← headCore arg11 arg12 arg13 arg14 arg15 arg16 arg17 arg18 arg19 (g + 1) (by omega)
  let _ ← ld arg20 ![0, 256 * g + 128 * 0] S128x128.size (inbOb g 0 hg (by decide)) h_S128x128
  st arg20 ![0, 256 * g + 128 * 0] S128x128.size (inbOb g 0 hg (by decide)) (shapeCast S128x128
    (pairP 0 128 slices_S64x512_o0_0_S64x128 slices_S64x512_o0_128_S64x128 o) shapeCasts_S128x128_S128x128)
    (stOb arg20 harg20 g 0 hg (by decide))
  let _ ← ld arg20 ![0, 256 * g + 128 * 1] S128x128.size (inbOb g 1 hg (by decide)) h_S128x128
  st arg20 ![0, 256 * g + 128 * 1] S128x128.size (inbOb g 1 hg (by decide)) (shapeCast S128x128
    (pairP 256 384 slices_S64x512_o0_256_S64x128 slices_S64x512_o0_384_S64x128 o) shapeCasts_S128x128_S128x128)
    (stOb arg20 harg20 g 1 hg (by decide))

end Prog

end Cert.KernelIdeal.Att
-- ==== Proof.State.lean ====
/- Running the kernel's body on a record of contents: `Runs p s a s'` says that from the twenty memrefs owned at the
   contents `s` the program `p` returns `a` and leaves them at `s'`. Sequencing, a load, a store, a conditional and a
   counted loop are then rules about records. -/
module

public import proofs.«01_k».proof.Proof.Attention
public import proofs.«01_k».proof.Proof.Gen.KernelIdeal.Launch

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- The memrefs the body is called at, each a whole buffer. -/
structure Refs where
  a1 : Memref sig .tc .vmem S1x128x1024 .bf16
  a2 : Memref sig .tc .vmem S1x4096x256 .bf16
  a3 : Memref sig .tc .vmem S1x4096x256 .bf16
  a4 : Memref sig .tc .vmem S1x128x1024 .bf16
  a5 : Memref sig .tc .vmem S1x1024x128 .fp8e4m3
  a6 : Memref sig .tc .vmem S1x16x32 .f32
  a7 : Memref sig .tc .vmem S1x256x4096 .fp8e4m3
  a8 : Memref sig .tc .vmem S1x4x32 .f32
  a9 : Memref sig .tc .vmem S1x256x4096 .fp8e4m3
  a10 : Memref sig .tc .vmem S1x1x256 .f32
  a11 : Memref sig .tc .vmem S4096x512 .f32
  a12 : Memref sig .tc .vmem S2x4096x128 .fp8e4m3
  a13 : Memref sig .tc .vmem S4x32x128 .f32
  a14 : Memref sig .tc .vmem S256x4096 .fp8e4m3
  a15 : Memref sig .tc .vmem S256x128 .f32
  a16 : Memref sig .tc .vmem S4x128x512 .fp8e4m3
  a17 : Memref sig .tc .vmem S16x128 .f32
  a18 : Memref sig .tc .vmem S2x32x512 .f32
  a19 : Memref sig .tc .vmem S2x1x512 .f32
  a20 : Memref sig .tc .vmem S128x768 .bf16
  h1 : a1.IsWhole
  h2 : a2.IsWhole
  h3 : a3.IsWhole
  h4 : a4.IsWhole
  h5 : a5.IsWhole
  h6 : a6.IsWhole
  h7 : a7.IsWhole
  h8 : a8.IsWhole
  h9 : a9.IsWhole
  h10 : a10.IsWhole
  h11 : a11.IsWhole
  h12 : a12.IsWhole
  h13 : a13.IsWhole
  h14 : a14.IsWhole
  h15 : a15.IsWhole
  h16 : a16.IsWhole
  h17 : a17.IsWhole
  h18 : a18.IsWhole
  h19 : a19.IsWhole
  h20 : a20.IsWhole

/-- The contents of the twenty memrefs. -/
structure St (F : FTy → Type) where
  x : Vec F S1x128x1024 .bf16
  k : Vec F S1x4096x256 .bf16
  v : Vec F S1x4096x256 .bf16
  out : Vec F S1x128x1024 .bf16
  qc : Vec F S1x1024x128 .fp8e4m3
  qs : Vec F S1x16x32 .f32
  kc : Vec F S1x256x4096 .fp8e4m3
  ks : Vec F S1x4x32 .f32
  vc : Vec F S1x256x4096 .fp8e4m3
  vs : Vec F S1x1x256 .f32
  s : Vec F S4096x512 .f32
  kn : Vec F S2x4096x128 .fp8e4m3
  ksr : Vec F S4x32x128 .f32
  vt : Vec F S256x4096 .fp8e4m3
  vcol : Vec F S256x128 .f32
  qz : Vec F S4x128x512 .fp8e4m3
  qsr : Vec F S16x128 .f32
  c : Vec F S2x32x512 .f32
  m : Vec F S2x1x512 .f32
  obuf : Vec F S128x768 .bf16

section

variable (R : Refs) (c : Dev nD)

/-- A whole memref at its contents. -/
abbrev at' {sh : Shape} {e : EltTy} (a : Memref sig .tc .vmem sh e) (X : sh.Idx → Elt F e) : sProp 𝕄 :=
  owns (c : Thread nD τ) a fullShare X

/-- Separate ownership of every member of a list. -/
def sepL : List (sProp 𝕄) → sProp 𝕄
  | [] => iprop(emp)
  | P :: L => iprop(P ∗ sepL L)

theorem sepL_erase (L : List (sProp 𝕄)) (i : ℕ) (h : i < L.length) : sepL L = iprop(L[i] ∗ sepL (L.eraseIdx i)) := by
  induction L generalizing i with
  | nil => simp at h
  | cons P L ih =>
    cases i with
    | zero => rfl
    | succ i =>
      have hi : i < L.length := by simpa using h
      show iprop(P ∗ sepL L) = iprop(L[i] ∗ P ∗ sepL (L.eraseIdx i))
      rw [ih i hi]; exact BI.Entails.antisymm (sep_left_comm (PROP := sProp 𝕄)).1 (sep_left_comm (PROP := sProp 𝕄)).2

/-- The twenty memrefs at the contents `s`, as a list. -/
abbrev parts (s : St F) : List (sProp 𝕄) :=
  [at' c R.a1 s.x, at' c R.a2 s.k, at' c R.a3 s.v, at' c R.a4 s.out, at' c R.a5 s.qc, at' c R.a6 s.qs,
    at' c R.a7 s.kc, at' c R.a8 s.ks, at' c R.a9 s.vc, at' c R.a10 s.vs, at' c R.a11 s.s, at' c R.a12 s.kn,
    at' c R.a13 s.ksr, at' c R.a14 s.vt, at' c R.a15 s.vcol, at' c R.a16 s.qz, at' c R.a17 s.qsr, at' c R.a18 s.c,
    at' c R.a19 s.m, at' c R.a20 s.obuf]

/-- The twenty memrefs at the contents `s`. -/
def own (s : St F) : sProp 𝕄 := sepL (parts R c s)

/-- From the contents `s` the program returns `a` and leaves the contents `s'`. -/
def Runs {α : Type} (p : PR F α) (s : St F) (a : α) (s' : St F) : Prop :=
  ∀ (E : Set ℕ) (Q : α → sProp 𝕄),
    iprop(own R c s ∗ (own R c s' -∗ Q a)) ⊢ wp frame (wpE (defs₀ (F := F)) Variants.none (c : Thread nD τ) none) E p Q

theorem Runs.pure {α : Type} (a : α) (s : St F) : Runs R c (Pure.pure a) s a s := by
  intro E Q
  rw [wp_pure]
  iintro ⟨H, K⟩
  imodintro
  iapply K
  iexact H

theorem Runs.bind {α β : Type} {p : PR F α} {k : α → PR F β} {s s' s'' : St F} {a : α} {b : β}
    (h : Runs R c p s a s') (h' : Runs R c (k a) s' b s'') : Runs R c (p >>= k) s b s'' := by
  intro E Q
  rw [wp_bind]
  refine BIBase.Entails.trans ?_ (h E _)
  iintro ⟨H, K⟩
  isplitl [H]; · iexact H
  iintro H
  iapply (h' E Q)
  isplitl [H]; · iexact H
  iexact K

/-- One memref's place in the record. -/
structure Slot (sh : Shape) (e : EltTy) where
  ref : Memref sig .tc .vmem sh e
  get : St F → (sh.Idx → Elt F e)
  set : St F → (sh.Idx → Elt F e) → St F
  rest : St F → sProp 𝕄
  split : ∀ s X, own R c (set s X) = iprop(at' c ref X ∗ rest s)
  set_get : ∀ s, set s (get s) = s

theorem own_load {sh : Shape} {e : EltTy} (a : Memref sig .tc .vmem sh e) (off size : Fin sh.rank → ℕ)
    (inb : ∀ x, off x + size x ≤ sh.size x) (h : 0 < (⟨sh.rank, size⟩ : Shape).numel) (X : sh.Idx → Elt F e)
    (E : Set ℕ) (Q : _ → sProp 𝕄) :
    iprop(at' c a X ∗ (at' c a X -∗ Q (fun i => X ((Rect.unit (s := sh) off size inb).emb i))))
      ⊢ wp frame (wpE (defs₀ (F := F)) Variants.none (c : Thread nD τ) none) E (ld a off size inb h) Q := by
  unfold at' owns
  iintro ⟨⟨%f, %hf, H⟩, K⟩
  unfold ld Prog.lift
  iapply (wp_load Variants.none (c : Thread nD τ) none E (m := a) (S := a.view.set) (q := fullShare) (f := f)
    (View.setOn_subset_set _ _)) $$ H
  iintro H
  rw [wp_ret]
  imodintro
  subst hf
  have e : View.readAt (Elt F) a.view (Rect.unit (s := sh) off size inb).toLoadRect f
      = fun i => View.read (Elt F) a.view f ((Rect.unit (s := sh) off size inb).emb i) := rfl
  rw [e]
  iapply K
  iexists f
  isplitr; · ipureintro; rfl
  iexact H

set_option maxHeartbeats 1000000 in
theorem own_store {sh : Shape} {e : EltTy} (a : Memref sig .tc .vmem sh e) (off size : Fin sh.rank → ℕ)
    (inb : ∀ x, off x + size x ≤ sh.size x) (w : (Rect.unit (s := sh) off size inb).shape.Idx → Elt F e)
    (hx : (a.access (Rect.unit (s := sh) off size inb)).Stores Finset.univ) (X : sh.Idx → Elt F e)
    (E : Set ℕ) (Q : PUnit → sProp 𝕄) :
    iprop(at' c a X ∗ (at' c a ((Rect.unit (s := sh) off size inb).overlay X w) -∗ Q ⟨⟩))
      ⊢ wp frame (wpE (defs₀ (F := F)) Variants.none (c : Thread nD τ) none) E (st a off size inb w hx) Q := by
  unfold at' owns
  iintro ⟨⟨%f, %hf, H⟩, K⟩
  unfold st Prog.lift
  iapply (wp_store Variants.none (c : Thread nD τ) none E (m := a) (r := Rect.unit (s := sh) off size inb) (Mk := Finset.univ)
    (View.set_slice_subset _ _)) $$ H
  iintro H
  rw [wp_ret]
  imodintro
  subst hf
  iapply K
  iexists _
  isplitr; swap; · iexact H
  ipureintro
  funext y
  by_cases hy : y ∈ (Rect.unit (s := sh) off size inb).set
  · rw [← Rect.map_emb_univ, Finset.mem_map] at hy
    obtain ⟨i, -, rfl⟩ := hy
    rw [Rect.overlay_emb]
    exact View.read_slice_write_emb _ _ _ (Finset.mem_univ i)
  · rw [Rect.overlay_of_not_mem _ _ _ hy]
    exact View.read_slice_write_of_not_mem _ _ _ _ (by rw [Rect.map_emb_univ]; exact hy)

variable {R c}

theorem Runs.load {sh : Shape} {e : EltTy} (L : Slot (F := F) R c sh e) (off size : Fin sh.rank → ℕ)
    (inb : ∀ x, off x + size x ≤ sh.size x) (h : 0 < (⟨sh.rank, size⟩ : Shape).numel) (s : St F) :
    Runs R c (ld L.ref off size inb h) s (fun i => L.get s ((Rect.unit (s := sh) off size inb).emb i)) s := by
  intro E Q
  have hs := L.split s (L.get s)
  rw [L.set_get] at hs
  refine BIBase.Entails.trans ?_ (own_load c L.ref off size inb h (L.get s) E Q)
  rw [hs]
  iintro ⟨⟨H, G⟩, K⟩
  isplitl [H]; · iexact H
  iintro H
  iapply K
  isplitl [H]; · iexact H
  iexact G

theorem Runs.store {sh : Shape} {e : EltTy} (L : Slot (F := F) R c sh e) (off size : Fin sh.rank → ℕ)
    (inb : ∀ x, off x + size x ≤ sh.size x) (w : (Rect.unit (s := sh) off size inb).shape.Idx → Elt F e)
    (hx : (L.ref.access (Rect.unit (s := sh) off size inb)).Stores Finset.univ) (s : St F) :
    Runs R c (st L.ref off size inb w hx) s ⟨⟩ (L.set s ((Rect.unit (s := sh) off size inb).overlay (L.get s) w)) := by
  intro E Q
  have hs := L.split s (L.get s)
  rw [L.set_get] at hs
  refine BIBase.Entails.trans ?_ (own_store c L.ref off size inb w hx (L.get s) E Q)
  rw [hs, L.split]
  iintro ⟨⟨H, G⟩, K⟩
  isplitl [H]; · iexact H
  iintro H
  iapply K
  isplitl [H]; · iexact H
  iexact G

theorem Runs.congr {α : Type} {p : PR F α} {s : St F} {a a' : α} {s' s'' : St F} (h : Runs R c p s a s') (ha : a = a')
    (hs : s' = s'') : Runs R c p s a' s'' := by subst ha; subst hs; exact h

/-- A counted loop: contents `S n` and carried value `A n` after `n` trips. -/
theorem Runs.loop {σ : Type} (l : Scf.Loop 32) (ok : Scf.OK l.lb l.ub l.st) (N : ℕ) (hN : l.trips = N) (body : Fin l.trips → σ → PR F σ)
    (A : ℕ → σ) (S : ℕ → St F) (h : ∀ t : Fin l.trips, Runs R c (body t (A t.val)) (S t.val) (A (t.val + 1)) (S (t.val + 1))) :
    Runs R c (Scf.Loop.for l ok (A 0) body) (S 0) (A N) (S N) := by
  subst hN
  have H : ∀ (d k : ℕ), k + d = l.trips →
      Runs R c (Scf.forFrom body ((List.finRange l.trips).drop k) (A k)) (S k) (A l.trips) (S l.trips) := by
    intro d
    induction d with
    | zero =>
      intro k hk
      obtain rfl : k = l.trips := by omega
      rw [List.drop_of_length_le (by simp)]
      exact Runs.pure R c _ _
    | succ d ih =>
      intro k hk
      have hlt : k < l.trips := by omega
      rw [List.drop_eq_getElem_cons (by simpa using hlt), List.getElem_finRange, Fin.cast_mk, Scf.forFrom_cons]
      exact Runs.bind R c (h ⟨k, hlt⟩) (ih (k + 1) (by omega))
  have := H l.trips 0 (by omega)
  unfold Scf.Loop.for
  rw [Scf.for_eq]
  exact this

variable (R c)

/-- The slot of `x`. -/
@[reducible] def L1 : Slot (F := F) R c S1x128x1024 .bf16 where
  ref := R.a1
  get := St.x
  set s X := { s with x := X }
  rest s := sepL ((parts R c s).eraseIdx 0)
  split s X := sepL_erase (parts R c { s with x := X }) 0 (by simp)
  set_get _ := rfl

/-- The slot of `k`. -/
@[reducible] def L2 : Slot (F := F) R c S1x4096x256 .bf16 where
  ref := R.a2
  get := St.k
  set s X := { s with k := X }
  rest s := sepL ((parts R c s).eraseIdx 1)
  split s X := sepL_erase (parts R c { s with k := X }) 1 (by simp)
  set_get _ := rfl

/-- The slot of `v`. -/
@[reducible] def L3 : Slot (F := F) R c S1x4096x256 .bf16 where
  ref := R.a3
  get := St.v
  set s X := { s with v := X }
  rest s := sepL ((parts R c s).eraseIdx 2)
  split s X := sepL_erase (parts R c { s with v := X }) 2 (by simp)
  set_get _ := rfl

/-- The slot of `out`. -/
@[reducible] def L4 : Slot (F := F) R c S1x128x1024 .bf16 where
  ref := R.a4
  get := St.out
  set s X := { s with out := X }
  rest s := sepL ((parts R c s).eraseIdx 3)
  split s X := sepL_erase (parts R c { s with out := X }) 3 (by simp)
  set_get _ := rfl

/-- The slot of `qc`. -/
@[reducible] def L5 : Slot (F := F) R c S1x1024x128 .fp8e4m3 where
  ref := R.a5
  get := St.qc
  set s X := { s with qc := X }
  rest s := sepL ((parts R c s).eraseIdx 4)
  split s X := sepL_erase (parts R c { s with qc := X }) 4 (by simp)
  set_get _ := rfl

/-- The slot of `qs`. -/
@[reducible] def L6 : Slot (F := F) R c S1x16x32 .f32 where
  ref := R.a6
  get := St.qs
  set s X := { s with qs := X }
  rest s := sepL ((parts R c s).eraseIdx 5)
  split s X := sepL_erase (parts R c { s with qs := X }) 5 (by simp)
  set_get _ := rfl

/-- The slot of `kc`. -/
@[reducible] def L7 : Slot (F := F) R c S1x256x4096 .fp8e4m3 where
  ref := R.a7
  get := St.kc
  set s X := { s with kc := X }
  rest s := sepL ((parts R c s).eraseIdx 6)
  split s X := sepL_erase (parts R c { s with kc := X }) 6 (by simp)
  set_get _ := rfl

/-- The slot of `ks`. -/
@[reducible] def L8 : Slot (F := F) R c S1x4x32 .f32 where
  ref := R.a8
  get := St.ks
  set s X := { s with ks := X }
  rest s := sepL ((parts R c s).eraseIdx 7)
  split s X := sepL_erase (parts R c { s with ks := X }) 7 (by simp)
  set_get _ := rfl

/-- The slot of `vc`. -/
@[reducible] def L9 : Slot (F := F) R c S1x256x4096 .fp8e4m3 where
  ref := R.a9
  get := St.vc
  set s X := { s with vc := X }
  rest s := sepL ((parts R c s).eraseIdx 8)
  split s X := sepL_erase (parts R c { s with vc := X }) 8 (by simp)
  set_get _ := rfl

/-- The slot of `vs`. -/
@[reducible] def L10 : Slot (F := F) R c S1x1x256 .f32 where
  ref := R.a10
  get := St.vs
  set s X := { s with vs := X }
  rest s := sepL ((parts R c s).eraseIdx 9)
  split s X := sepL_erase (parts R c { s with vs := X }) 9 (by simp)
  set_get _ := rfl

/-- The slot of `s`. -/
@[reducible] def L11 : Slot (F := F) R c S4096x512 .f32 where
  ref := R.a11
  get := St.s
  set s X := { s with s := X }
  rest s := sepL ((parts R c s).eraseIdx 10)
  split s X := sepL_erase (parts R c { s with s := X }) 10 (by simp)
  set_get _ := rfl

/-- The slot of `kn`. -/
@[reducible] def L12 : Slot (F := F) R c S2x4096x128 .fp8e4m3 where
  ref := R.a12
  get := St.kn
  set s X := { s with kn := X }
  rest s := sepL ((parts R c s).eraseIdx 11)
  split s X := sepL_erase (parts R c { s with kn := X }) 11 (by simp)
  set_get _ := rfl

/-- The slot of `ksr`. -/
@[reducible] def L13 : Slot (F := F) R c S4x32x128 .f32 where
  ref := R.a13
  get := St.ksr
  set s X := { s with ksr := X }
  rest s := sepL ((parts R c s).eraseIdx 12)
  split s X := sepL_erase (parts R c { s with ksr := X }) 12 (by simp)
  set_get _ := rfl

/-- The slot of `vt`. -/
@[reducible] def L14 : Slot (F := F) R c S256x4096 .fp8e4m3 where
  ref := R.a14
  get := St.vt
  set s X := { s with vt := X }
  rest s := sepL ((parts R c s).eraseIdx 13)
  split s X := sepL_erase (parts R c { s with vt := X }) 13 (by simp)
  set_get _ := rfl

/-- The slot of `vcol`. -/
@[reducible] def L15 : Slot (F := F) R c S256x128 .f32 where
  ref := R.a15
  get := St.vcol
  set s X := { s with vcol := X }
  rest s := sepL ((parts R c s).eraseIdx 14)
  split s X := sepL_erase (parts R c { s with vcol := X }) 14 (by simp)
  set_get _ := rfl

/-- The slot of `qz`. -/
@[reducible] def L16 : Slot (F := F) R c S4x128x512 .fp8e4m3 where
  ref := R.a16
  get := St.qz
  set s X := { s with qz := X }
  rest s := sepL ((parts R c s).eraseIdx 15)
  split s X := sepL_erase (parts R c { s with qz := X }) 15 (by simp)
  set_get _ := rfl

/-- The slot of `qsr`. -/
@[reducible] def L17 : Slot (F := F) R c S16x128 .f32 where
  ref := R.a17
  get := St.qsr
  set s X := { s with qsr := X }
  rest s := sepL ((parts R c s).eraseIdx 16)
  split s X := sepL_erase (parts R c { s with qsr := X }) 16 (by simp)
  set_get _ := rfl

/-- The slot of `c`. -/
@[reducible] def L18 : Slot (F := F) R c S2x32x512 .f32 where
  ref := R.a18
  get := St.c
  set s X := { s with c := X }
  rest s := sepL ((parts R c s).eraseIdx 17)
  split s X := sepL_erase (parts R c { s with c := X }) 17 (by simp)
  set_get _ := rfl

/-- The slot of `m`. -/
@[reducible] def L19 : Slot (F := F) R c S2x1x512 .f32 where
  ref := R.a19
  get := St.m
  set s X := { s with m := X }
  rest s := sepL ((parts R c s).eraseIdx 18)
  split s X := sepL_erase (parts R c { s with m := X }) 18 (by simp)
  set_get _ := rfl

/-- The slot of `obuf`. -/
@[reducible] def L20 : Slot (F := F) R c S128x768 .bf16 where
  ref := R.a20
  get := St.obuf
  set s X := { s with obuf := X }
  rest s := sepL ((parts R c s).eraseIdx 19)
  split s X := sepL_erase (parts R c { s with obuf := X }) 19 (by simp)
  set_get _ := rfl

end

end Cert.KernelIdeal.Att
-- ==== Proof.Body.lean ====
/- The whole body of the kernel as a structured program over the twenty memrefs: start-up, key preparation, query
   preparation, the pass for the first key head, value preparation, and the passes for the other three. -/
module

public import proofs.«01_k».proof.Proof.State
public import Idealize.ShloMosaic.Lib.Tactic

@[expose] public section

set_option maxRecDepth 65536

noncomputable section

namespace Cert.KernelIdeal.Att

open Idealize.ShloMosaic Idealize.ShloMosaic.TcCoe Idealize.ShloMosaic.Tactic Idealize.SL.Sem
open Cert.KernelIdeal Cert.KernelIdeal.Gen

variable {F : FTy → Type} [FloatOps F] [Named F]

/-- An e4m3 store of packed rows into a whole memref. -/
theorem st8 {s : Shape} (a : Memref sig .tc .vmem s .fp8e4m3) (ha : a.IsWhole) (off size : Fin s.rank → ℕ)
    (inb : ∀ x, off x + size x ≤ s.size x) (hn : 0 < (⟨s.rank, size⟩ : Shape).numel)
    (hp : (Rect.unit (s := s) off size inb).PackedRows (EltTy.packing .fp8e4m3)) :
    (a.access (Rect.unit (s := s) off size inb)).Stores Finset.univ :=
  View.stores_vmem hn (ha.storeExact_slice rfl _ hp) (fun _ => rfl)

/-- A bf16 store of packed rows into a whole memref. -/
theorem st16 {s : Shape} (a : Memref sig .tc .vmem s .bf16) (ha : a.IsWhole) (off size : Fin s.rank → ℕ)
    (inb : ∀ x, off x + size x ≤ s.size x) (hn : 0 < (⟨s.rank, size⟩ : Shape).numel)
    (hp : (Rect.unit (s := s) off size inb).PackedRows (EltTy.packing .bf16)) :
    (a.access (Rect.unit (s := s) off size inb)).Stores Finset.univ :=
  View.stores_vmem hn (ha.storeExact_slice rfl _ hp) (fun _ => rfl)

/-- Scaled, clipped and rounded. -/
def codeQ (x : FVec F S64x128 .f32) (inv : FVec F S1x128 .f32) : FVec F S64x128 .fp8e4m3 :=
  truncf .fp8e4m3 (minimumf (broadcast S64x128 (Scalar.ofBits .f32 0x43E00000#32))
    (maximumf (broadcast S64x128 (Scalar.ofBits .f32 0xC3E00000#32))
      (mulf x (broadcastTo S64x128 inv broadcasts_S1x128_S64x128)))) bitsLt_fp8e4m3_f32

/-! ## The queries -/

theorem slQx : ∀ h : Fin 16, S1024x128.Slices ![64 * h.val, 0] S64x128 := by decide
theorem slQi : ∀ h : Fin 16, S16x128.Slices ![h.val, 0] S1x128 := by decide
theorem inbQc : ∀ h : Fin 16, ∀ a, (![0, 64 * h.val, 0] : Fin 3 → ℕ) a + S1x64x128.size a ≤ S1x1024x128.size a := by decide
theorem inbQz' : ∀ h : Fin 16, ∀ a, (![h.val / 4, 64 * ((h.val / 4) % 2), 128 * (h.val % 4)] : Fin 3 → ℕ) a + S1x64x128.size a
    ≤ S4x128x512.size a := by decide
theorem pkQc : ∀ h : Fin 16, (Rect.unit (s := S1x1024x128) ![0, 64 * h.val, 0] S1x64x128.size (inbQc h)).PackedRows
    (EltTy.packing .fp8e4m3) := by decide
theorem pkQz : ∀ h : Fin 16, (Rect.unit (s := S4x128x512) ![h.val / 4, 64 * ((h.val / 4) % 2), 128 * (h.val % 4)] S1x64x128.size
    (inbQz' h)).PackedRows (EltTy.packing .fp8e4m3) := by decide

/-- One query head's codes. -/
def qCode (h : Fin 16) (xt : FVec F S1024x128 .f32) (inv : FVec F S16x128 .f32) : FVec F S1x64x128 .fp8e4m3 :=
  shapeCast S1x64x128 (codeQ (extractStridedSlice S64x128 ![64 * h.val, 0] xt (slQx h))
    (extractStridedSlice S1x128 ![h.val, 0] inv (slQi h))) shapeCasts_S64x128_S1x64x128

variable (R : Refs)

/-- One query head's codes, to the result block and to the padded scratch. -/
def qHead (h : Fin 16) (xt : FVec F S1024x128 .f32) (inv : FVec F S16x128 .f32) : PR F PUnit := do
  let _ ← ld R.a5 ![0, 64 * h.val, 0] S1x64x128.size (inbQc h) h_S1x64x128
  st R.a5 ![0, 64 * h.val, 0] S1x64x128.size (inbQc h) (qCode h xt inv) (st8 R.a5 R.h5 _ _ _ h_S1x64x128 (pkQc h))
  let _ ← ld R.a16 ![h.val / 4, 64 * ((h.val / 4) % 2), 128 * (h.val % 4)] S1x64x128.size (inbQz' h) h_S1x64x128
  st R.a16 ![h.val / 4, 64 * ((h.val / 4) % 2), 128 * (h.val % 4)] S1x64x128.size (inbQz' h) (qCode h xt inv)
    (st8 R.a16 R.h16 _ _ _ h_S1x64x128 (pkQz h))

/-- The first `n` query heads. -/
def qHeads (xt : FVec F S1024x128 .f32) (inv : FVec F S16x128 .f32) : (n : ℕ) → n ≤ 16 → PR F PUnit
  | 0, _ => pure ⟨⟩
  | n + 1, h => do
    qHeads xt inv n (by omega)
    qHead R ⟨n, by omega⟩ xt inv

/-- All the query heads. -/
theorem heads_le : 16 ≤ 16 := Nat.le_refl 16

/-- The queries' scales and codes. -/
def qSec (arg0 : BitVec 32) (v12 : FVec F S1024x128 .f32) (v21 v39 : FVec F S16x128 .f32) : PR F PUnit := do
  let v54 ← ld R.a6 ![0, 0, 0] S1x16x32.size inb_S1x16x32_S1x16x32_0_0_0 h_S1x16x32
  let _ ← ld R.a6 ![0, 0, 0] S1x16x32.size inb_S1x16x32_S1x16x32_0_0_0 h_S1x16x32
  st R.a6 ![0, 0, 0] S1x16x32.size inb_S1x16x32_S1x16x32_0_0_0 (k0_pay474 arg0 v21 v39 v54) (View.stores_vmem_bits_univ h_S1x16x32 rfl)
  let _ ← ld R.a17 ![0, 0] S16x128.size inb_S16x128_S16x128_0_0 h_S16x128
  st R.a17 ![0, 0] S16x128.size inb_S16x128_S16x128_0_0 (k0_pay475 v21 v39) (View.stores_vmem_bits_univ h_S16x128 rfl)
  qHeads R v12 (k0_pay473 v21 v39) 16 heads_le

/-! ## Start-up and the keys -/

/-- The scratch set at the first grid point. -/
def initP : PR F PUnit := do
  let _ ← ld R.a11 ![0, 0] S4096x512.size inb_S4096x512_S4096x512_0_0 h_S4096x512
  st R.a11 ![0, 0] S4096x512.size inb_S4096x512_S4096x512_0_0 (k0_pay456 (F := F)) (View.stores_vmem_bits_univ h_S4096x512 rfl)
  let _ ← ld R.a16 ![0, 0, 0] S4x128x512.size inb_S4x128x512_S4x128x512_0_0_0 h_S4x128x512
  st R.a16 ![0, 0, 0] S4x128x512.size inb_S4x128x512_S4x128x512_0_0_0 (k0_pay457 (F := F))
    (st8 R.a16 R.h16 _ _ _ h_S4x128x512 packedfp8e4m3_S4x128x512_S4x128x512_0_0_0)
  let _ ← ld R.a18 ![0, 0, 0] S2x32x512.size inb_S2x32x512_S2x32x512_0_0_0 h_S2x32x512
  st R.a18 ![0, 0, 0] S2x32x512.size inb_S2x32x512_S2x32x512_0_0_0 (k0_pay458 (F := F)) (View.stores_vmem_bits_univ h_S2x32x512 rfl)
  let _ ← ld R.a19 ![0, 0, 0] S2x1x512.size inb_S2x1x512_S2x1x512_0_0_0 h_S2x1x512
  st R.a19 ![0, 0, 0] S2x1x512.size inb_S2x1x512_S2x1x512_0_0_0 (k0_pay459 (F := F)) (View.stores_vmem_bits_univ h_S2x1x512 rfl)
  let _ ← ld R.a14 ![0, 0] S256x4096.size inb_S256x4096_S256x4096_0_0 h_S256x4096
  st R.a14 ![0, 0] S256x4096.size inb_S256x4096_S256x4096_0_0 (k0_pay460 (F := F))
    (st8 R.a14 R.h14 _ _ _ h_S256x4096 packedfp8e4m3_S256x4096_S256x4096_0_0)
  let _ ← ld R.a15 ![0, 0] S256x128.size inb_S256x128_S256x128_0_0 h_S256x128
  st R.a15 ![0, 0] S256x128.size inb_S256x128_S256x128_0_0 (k0_pay461 (F := F)) (View.stores_vmem_bits_univ h_S256x128 rfl)
  let _ ← ld R.a20 ![0, 0] S128x768.size inb_S128x768_S128x768_0_0 h_S128x768
  st R.a20 ![0, 0] S128x768.size inb_S128x768_S128x768_0_0 (k0_pay462 (F := F))
    (st16 R.a20 R.h20 _ _ _ h_S128x768 packedbf16_S128x768_S128x768_0_0)

theorem slKx : ∀ g : Fin 4, S256x128.Slices ![64 * g.val, 0] S64x128 := by decide
theorem slKi : ∀ g : Fin 4, S4x128.Slices ![g.val, 0] S1x128 := by decide

/-- One key head's codes of a block of keys. -/
def kCode (g : Fin 4) (xt : FVec F S256x128 .f32) (inv : FVec F S4x128 .f32) : FVec F S1x64x128 .fp8e4m3 :=
  shapeCast S1x64x128 (codeQ (extractStridedSlice S64x128 ![64 * g.val, 0] xt (slKx g))
    (extractStridedSlice S1x128 ![g.val, 0] inv (slKi g))) shapeCasts_S64x128_S1x64x128

/-- One key head's row of block scales. -/
def kScale (g : Fin 4) (sc : FVec F S4x128 .f32) : FVec F S1x1x128 .f32 :=
  shapeCast S1x1x128 (extractStridedSlice S1x128 ![g.val, 0] sc (slKi g)) shapeCasts_S1x128_S1x1x128

/-- One key head of a block of keys: its scale and its codes. -/
def kHead (g : Fin 4) (o13 : Fin 3 → ℕ) (i13 : ∀ a, o13 a + S1x1x128.size a ≤ S4x32x128.size a)
    (o7 : Fin 3 → ℕ) (i7 : ∀ a, o7 a + S1x64x128.size a ≤ S1x256x4096.size a)
    (p7 : (Rect.unit (s := S1x256x4096) o7 S1x64x128.size i7).PackedRows (EltTy.packing .fp8e4m3))
    (xt : FVec F S256x128 .f32) (sc inv : FVec F S4x128 .f32) : PR F PUnit := do
  let _ ← ld R.a13 o13 S1x1x128.size i13 h_S1x1x128
  st R.a13 o13 S1x1x128.size i13 (kScale g sc) (View.stores_vmem_bits_univ h_S1x1x128 rfl)
  let _ ← ld R.a7 o7 S1x64x128.size i7 h_S1x64x128
  st R.a7 o7 S1x64x128.size i7 (kCode g xt inv) (st8 R.a7 R.h7 _ _ _ h_S1x64x128 p7)

theorem slKp : ∀ j : Fin 2, S128x256.Slices ![0, 128 * j.val] S128x128 := by decide
theorem slKe : ∀ j : Fin 2, S4x128.Slices ![2 * j.val, 0] S1x128 := by decide
theorem slKo : ∀ j : Fin 2, S4x128.Slices ![2 * j.val + 1, 0] S1x128 := by decide

/-- Two key heads' codes of a block of keys, row by row. -/
def knCode (j : Fin 2) (half : IVec S1x128 1) (x : FVec F S128x256 .f32) (inv : FVec F S4x128 .f32) : FVec F S1x128x128 .fp8e4m3 :=
  shapeCast S1x128x128 (truncf .fp8e4m3 (minimumf (broadcast S128x128 (Scalar.ofBits .f32 0x43E00000#32))
    (maximumf (broadcast S128x128 (Scalar.ofBits .f32 0xC3E00000#32))
      (mulf (extractStridedSlice S128x128 ![0, 128 * j.val] x (slKp j))
        (broadcastTo S128x128 (select half (extractStridedSlice S1x128 ![2 * j.val, 0] inv (slKe j))
          (extractStridedSlice S1x128 ![2 * j.val + 1, 0] inv (slKo j))) broadcasts_S1x128_S128x128)))) bitsLt_fp8e4m3_f32)
    shapeCasts_S128x128_S1x128x128

/-- The store of two key heads' codes. -/
def knPair (j : Fin 2) (o : Fin 3 → ℕ) (ih : ∀ a, o a + S1x128x128.size a ≤ S2x4096x128.size a)
    (p : (Rect.unit (s := S2x4096x128) o S1x128x128.size ih).PackedRows (EltTy.packing .fp8e4m3))
    (half : IVec S1x128 1) (x : FVec F S128x256 .f32) (inv : FVec F S4x128 .f32) : PR F PUnit := do
  let _ ← ld R.a12 o S1x128x128.size ih h_S1x128x128
  st R.a12 o S1x128x128.size ih (knCode j half x inv) (st8 R.a12 R.h12 _ _ _ h_S1x128x128 p)

/-- One block of keys. -/
def kBody (i : grid0.Coords) (h2 : k0_cond2 i = 1#1) (t : Fin k0_t1_loop.trips) (acc : FVec F S4x128 .f32) :
    PR F (FVec F S4x128 .f32) := do
  let v ← ld R.a2 (k0_off1 t) S1x128x256.size (k0_off1_inb i t h2) h_S1x128x256
  kHead R 0 (k0_off2 t) (k0_off2_inb i t h2) (k0_off3 t) (k0_off3_inb i t h2) (k0_off3_packedfp8e4m3 i t h2) (k0_pay5 v) (k0_pay7 v) (k0_pay8 v)
  kHead R 1 (k0_off4 t) (k0_off4_inb i t h2) (k0_off5 t) (k0_off5_inb i t h2) (k0_off5_packedfp8e4m3 i t h2) (k0_pay5 v) (k0_pay7 v) (k0_pay8 v)
  kHead R 2 (k0_off6 t) (k0_off6_inb i t h2) (k0_off7 t) (k0_off7_inb i t h2) (k0_off7_packedfp8e4m3 i t h2) (k0_pay5 v) (k0_pay7 v) (k0_pay8 v)
  kHead R 3 (k0_off8 t) (k0_off8_inb i t h2) (k0_off9 t) (k0_off9_inb i t h2) (k0_off9_packedfp8e4m3 i t h2) (k0_pay5 v) (k0_pay7 v) (k0_pay8 v)
  knPair R 0 (k0_off10 t) (k0_off10_inb i t h2) (k0_off10_packedfp8e4m3 i t h2) k0_pay463 (k0_pay4 v) (k0_pay8 v)
  knPair R 1 (k0_off11 t) (k0_off11_inb i t h2) (k0_off11_packedfp8e4m3 i t h2) k0_pay463 (k0_pay4 v) (k0_pay8 v)
  pure (k0_pay466 acc (Scf.iv 0#32 1#32 t) (k0_pay7 v))

/-- Everything before the queries' scales. -/
def head84 (i : grid0.Coords) :
    PR F (Σ' (arg0 : BitVec 32) (v12 : FVec F S1024x128 .f32) (v21 : FVec F S16x128 .f32), FVec F S16x128 .f32) := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    initP R
    pure ⟨⟩
  else do
    pure ⟨⟩
  if k0_h2 : k0_cond2 i = 1#1 then do
    let v1351 : FVec F S4x128 .f32 ← Scf.Loop.for k0_t1_loop (k0_t1_ok i k0_h2) (k0_pay464 (F := F)) (kBody R i k0_h2)
    let _ ← ld R.a8 ![0, 0, 0] S1x4x32.size inb_S1x4x32_S1x4x32_0_0_0 h_S1x4x32
    st R.a8 ![0, 0, 0] S1x4x32.size inb_S1x4x32_S1x4x32_0_0_0 (k0_pay467 v1351) (View.stores_vmem_bits_univ h_S1x4x32 rfl)
    pure ⟨⟩
  else do
    pure ⟨⟩
  let v9 : Vec F S1x128x1024 .bf16 ← ld R.a1 ![0, 0, 0] S1x128x1024.size inb_S1x128x1024_S1x128x1024_0_0_0 h_S1x128x1024
  pure ⟨arg0, k0_pay468 v9, k0_pay469 v9, k0_pay470 v9⟩

/-! ## The values -/

/-- One block of the values' maximum. -/
def vMaxBody (i : grid0.Coords) (h3 : k0_cond3 i = 1#1) (t : Fin k0_t2_loop.trips) (acc : FVec F S8x256 .f32) :
    PR F (FVec F S8x256 .f32) := do
  let v ← ld R.a3 (k0_off12 t) S1x128x256.size (k0_off12_inb i t h3) h_S1x128x256
  pure (k0_pay21 acc v)

/-- One block of the values' codes. -/
def vBody (i : grid0.Coords) (h3 : k0_cond3 i = 1#1) (inv : FVec F S8x256 .f32) (t : Fin k0_t3_loop.trips) (_ : Unit) : PR F Unit := do
  let v ← ld R.a3 (k0_off13 t) S1x128x256.size (k0_off13_inb i t h3) h_S1x128x256
  let _ ← ld R.a9 (k0_off14 t) S1x256x128.size (k0_off14_inb i t h3) h_S1x256x128
  st R.a9 (k0_off14 t) S1x256x128.size (k0_off14_inb i t h3) (k0_pay665 inv v)
    (st8 R.a9 R.h9 _ _ _ h_S1x256x128 (k0_off14_packedfp8e4m3 i t h3))
  let _ ← ld R.a14 (k0_off15 t) S256x128.size (k0_off15_inb i t h3) h_S256x128
  st R.a14 (k0_off15 t) S256x128.size (k0_off15_inb i t h3) (k0_pay666 inv v)
    (st8 R.a14 R.h14 _ _ _ h_S256x128 (k0_off15_packedfp8e4m3 i t h3))
  pure ⟨⟩

/-- The values' scales. -/
def vScale (i : grid0.Coords) (h3 : k0_cond3 i = 1#1) : PR F (Σ' (v1379 : FVec F S8x256 .f32), FVec F S1x256 .f32) := do
  let a ← Scf.Loop.for k0_t2_loop (k0_t2_ok i h3) (k0_pay20 (F := F)) (vMaxBody R i h3)
  let _ ← ld R.a10 ![0, 0, 0] S1x1x256.size inb_S1x1x256_S1x1x256_0_0_0 h_S1x1x256
  st R.a10 ![0, 0, 0] S1x1x256.size inb_S1x1x256_S1x1x256_0_0_0 (k0_pay25 a) (View.stores_vmem_bits_univ h_S1x1x256 rfl)
  pure ⟨k0_pay24 a, k0_pay26 a⟩

/-- The last head's output tiles of the previous query tile, and the values of a new sequence. -/
def tail118 (i : grid0.Coords) (arg0 : BitVec 32) (o : FVec F S64x512 .f32) : PR F (BitVec 1) := do
  let _ ← ld R.a4 ![0, 0, 768] S1x128x128.size inb_S1x128x1024_S1x128x128_0_0_768 h_S1x128x128
  st R.a4 ![0, 0, 768] S1x128x128.size inb_S1x128x1024_S1x128x128_0_0_768 (shapeCast S1x128x128
    (pairP 0 128 slices_S64x512_o0_0_S64x128 slices_S64x512_o0_128_S64x128 o) shapeCasts_S128x128_S1x128x128)
    (st16 R.a4 R.h4 _ _ _ h_S1x128x128 packedbf16_S1x128x1024_S1x128x128_0_0_768)
  let _ ← ld R.a4 ![0, 0, 896] S1x128x128.size inb_S1x128x1024_S1x128x128_0_0_896 h_S1x128x128
  st R.a4 ![0, 0, 896] S1x128x128.size inb_S1x128x1024_S1x128x128_0_0_896 (shapeCast S1x128x128
    (pairP 256 384 slices_S64x512_o0_256_S64x128 slices_S64x512_o0_384_S64x128 o) shapeCasts_S128x128_S1x128x128)
    (st16 R.a4 R.h4 _ _ _ h_S1x128x128 packedbf16_S1x128x1024_S1x128x128_0_0_896)
  if k0_h3 : k0_cond3 i = 1#1 then do
    let ⟨v1379, v1385⟩ : Σ' (v1379 : FVec F S8x256 .f32), FVec F S1x256 .f32 ← vScale R i k0_h3
    let _ ← ld R.a15 ![0, 0] S256x128.size inb_S256x128_S256x128_0_0 h_S256x128
    st R.a15 ![0, 0] S256x128.size inb_S256x128_S256x128_0_0 (k0_pay663 v1385) (View.stores_vmem_bits_univ h_S256x128 rfl)
    Scf.Loop.for k0_t3_loop (k0_t3_ok i k0_h3) ⟨⟩ (vBody R i k0_h3 v1379)
    pure ⟨⟩
  else do
    pure ⟨⟩
  let v1342 : BitVec 1 := Scalar.cmpi .slt arg0 256#32
  let v1343 : BitVec 32 := Scalar.extui v1342
  let v1344 : BitVec 1 := Scalar.cmpi .ne v1343 0#32
  pure v1344

/-- The finished tiles of the previous query tile, to the output block. -/
def outCopy : PR F PUnit := do
  let v ← ld R.a20 ![0, 0] S128x768.size inb_S128x768_S128x768_0_0 h_S128x768
  let _ ← ld R.a4 ![0, 0, 0] S1x128x768.size inb_S1x128x1024_S1x128x768_0_0_0 h_S1x128x768
  st R.a4 ![0, 0, 0] S1x128x768.size inb_S1x128x1024_S1x128x768_0_0_0 (k0_pay528 v)
    (st16 R.a4 R.h4 _ _ _ h_S1x128x768 packedbf16_S1x128x1024_S1x128x768_0_0_0)

/-- The pass for a key head. -/
abbrev core (g : ℕ) (hg : g < 4) : PR F (FVec F S64x512 .f32) :=
  headCore R.a11 R.a12 R.a13 R.a14 R.a15 R.a16 R.a17 R.a18 R.a19 g hg

/-- The pass for a later key head. -/
abbrev rest (g : ℕ) (hg : g < 3) : PR F PUnit :=
  headRest R.a11 R.a12 R.a13 R.a14 R.a15 R.a16 R.a17 R.a18 R.a19 R.a20 R.h20 g hg

/-- The body. -/
def body (i : grid0.Coords) : PR F PUnit := do
  let ⟨arg0, v12, v21, v39⟩ : Σ' (arg0 : BitVec 32) (v12 : FVec F S1024x128 .f32) (v21 : FVec F S16x128 .f32), FVec F S16x128 .f32 ← head84 R i
  qSec R arg0 v12 v21 v39
  outCopy R
  let o ← core R 0 (by decide)
  let v1344 : BitVec 1 ← tail118 R i arg0 o
  if k0_h4 : v1344 = 1#1 then do
    rest R 0 (by decide)
    rest R 1 (by decide)
    rest R 2 (by decide)
    pure ⟨⟩
  else do
    pure ⟨⟩
  pure ⟨⟩

theorem kBody_eq (i : grid0.Coords) (h2 : k0_cond2 i = 1#1) :
    k0_t1_body (F := F) i R.a1 R.h1 R.a2 R.h2 R.a3 R.h3 R.a4 R.h4 R.a5 R.h5 R.a6 R.h6 R.a7 R.h7 R.a8 R.h8 R.a9 R.h9 R.a10 R.h10
      R.a11 R.h11 R.a12 R.h12 R.a13 R.h13 R.a14 R.h14 R.a15 R.h15 R.a16 R.h16 R.a17 R.h17 R.a18 R.h18 R.a19 R.h19 R.a20 R.h20 h2
      = kBody R i h2 := by sl_kernel_rfl

/-- The printed body is the structured one. -/
theorem body_eq (i : grid0.Coords) :
    cc0_fp8_gqa (F := F) i R.a1 R.h1 R.a2 R.h2 R.a3 R.h3 R.a4 R.h4 R.a5 R.h5 R.a6 R.h6 R.a7 R.h7 R.a8 R.h8 R.a9 R.h9 R.a10 R.h10
      R.a11 R.h11 R.a12 R.h12 R.a13 R.h13 R.a14 R.h14 R.a15 R.h15 R.a16 R.h16 R.a17 R.h17 R.a18 R.h18 R.a19 R.h19 R.a20 R.h20
      = body R i := by
  rw [cc0_fp8_gqa_eq_skeleton]
  sl_kernel_rfl

end Cert.KernelIdeal.Att
-- ==== Proof.NatIx.lean ====
/- Arrays of extended reals read at natural-number indices (zero outside), and what the loads and stores of a rectangle
   of unit strides do to them. -/
module

public import Idealize.ShloMosaic.Lib.Pointwise
public import Idealize.ShloMosaic.Lib.Memref

@[expose] public section

noncomputable section

namespace Cert.KernelIdeal.Att

open Idealize.ShloMosaic

/-- A matrix at natural-number indices. -/
def g2 {n0 n1 : ℕ} (X : (⟨2, ![n0, n1]⟩ : Shape).Idx → EReal) (i j : ℕ) : EReal :=
  if h : i < n0 ∧ j < n1 then X (ix2 ⟨i, h.1⟩ ⟨j, h.2⟩) else 0

/-- A three-dimensional array at natural-number indices. -/
def g3 {n0 n1 n2 : ℕ} (X : (⟨3, ![n0, n1, n2]⟩ : Shape).Idx → EReal) (i j k : ℕ) : EReal :=
  if h : i < n0 ∧ j < n1 ∧ k < n2 then X (ix3 ⟨i, h.1⟩ ⟨j, h.2.1⟩ ⟨k, h.2.2⟩) else 0

theorem g2_ix {n0 n1 : ℕ} (X : (⟨2, ![n0, n1]⟩ : Shape).Idx → EReal) (i : Fin n0) (j : Fin n1) :
    X (ix2 i j) = g2 X i.val j.val := by
  unfold g2; rw [dif_pos ⟨i.isLt, j.isLt⟩]

theorem g3_ix {n0 n1 n2 : ℕ} (X : (⟨3, ![n0, n1, n2]⟩ : Shape).Idx → EReal) (i : Fin n0) (j : Fin n1) (k : Fin n2) :
    X (ix3 i j k) = g3 X i.val j.val k.val := by
  unfold g3; rw [dif_pos ⟨i.isLt, j.isLt, k.isLt⟩]

theorem g2_lt {n0 n1 : ℕ} (X : (⟨2, ![n0, n1]⟩ : Shape).Idx → EReal) {i j : ℕ} (hi : i < n0) (hj : j < n1) :
    g2 X i j = X (ix2 ⟨i, hi⟩ ⟨j, hj⟩) := dif_pos ⟨hi, hj⟩

theorem g3_lt {n0 n1 n2 : ℕ} (X : (⟨3, ![n0, n1, n2]⟩ : Shape).Idx → EReal) {i j k : ℕ} (hi : i < n0) (hj : j < n1) (hk : k < n2) :
    g3 X i j k = X (ix3 ⟨i, hi⟩ ⟨j, hj⟩ ⟨k, hk⟩) := dif_pos ⟨hi, hj, hk⟩

/-- Two matrices with the same elements. -/
theorem ext2 {n0 n1 : ℕ} {X Y : (⟨2, ![n0, n1]⟩ : Shape).Idx → EReal} (h : ∀ i j, i < n0 → j < n1 → g2 X i j = g2 Y i j) : X = Y := by
  funext x
  have e := h (x 0).val (x 1).val (x 0).isLt (x 1).isLt
  rw [g2_lt X (x 0).isLt (x 1).isLt, g2_lt Y (x 0).isLt (x 1).isLt] at e
  have ex := eq_ix2 (n0 := n0) (n1 := n1) x
  exact (congrArg X ex).trans (e.trans (congrArg Y ex).symm)

theorem ext3 {n0 n1 n2 : ℕ} {X Y : (⟨3, ![n0, n1, n2]⟩ : Shape).Idx → EReal}
    (h : ∀ i j k, i < n0 → j < n1 → k < n2 → g3 X i j k = g3 Y i j k) : X = Y := by
  funext x
  have e := h (x 0).val (x 1).val (x 2).val (x 0).isLt (x 1).isLt (x 2).isLt
  rw [g3_lt X (x 0).isLt (x 1).isLt (x 2).isLt, g3_lt Y (x 0).isLt (x 1).isLt (x 2).isLt] at e
  have ex := eq_ix3 (n0 := n0) (n1 := n1) (n2 := n2) x
  exact (congrArg X ex).trans (e.trans (congrArg Y ex).symm)

section Rect2

variable {n0 n1 m0 m1 o0 o1 : ℕ}
  (inb : ∀ x, (![o0, o1] : Fin 2 → ℕ) x + (![m0, m1] : Fin 2 → ℕ) x ≤ (⟨2, ![n0, n1]⟩ : Shape).size x)

include inb in
theorem rect2_le : o0 + m0 ≤ n0 ∧ o1 + m1 ≤ n1 := ⟨inb 0, inb 1⟩

theorem rect2_emb (i : Fin m0) (j : Fin m1) :
    (Rect.unit (s := ⟨2, ![n0, n1]⟩) ![o0, o1] ![m0, m1] inb).emb (ix2 (n0 := m0) (n1 := m1) i j)
      = ix2 (n0 := n0) (n1 := n1) ⟨o0 + i.val, by have := rect2_le inb; omega⟩ ⟨o1 + j.val, by have := rect2_le inb; omega⟩ := by
  funext a
  match a with
  | ⟨0, _⟩ => exact Fin.ext (by rw [Rect.emb_apply]; show o0 + 1 * i.val = o0 + i.val; omega)
  | ⟨1, _⟩ => exact Fin.ext (by rw [Rect.emb_apply]; show o1 + 1 * j.val = o1 + j.val; omega)

/-- A load of a rectangle, at natural-number indices. -/
theorem load2 (X : (⟨2, ![n0, n1]⟩ : Shape).Idx → EReal) {i j : ℕ} (hi : i < m0) (hj : j < m1) :
    g2 (n0 := m0) (n1 := m1) (fun x => X ((Rect.unit (s := ⟨2, ![n0, n1]⟩) ![o0, o1] ![m0, m1] inb).emb x)) i j
      = g2 X (o0 + i) (o1 + j) := by
  have hl := rect2_le inb
  rw [g2_lt _ hi hj, rect2_emb, g2_lt X (by omega) (by omega)]

/-- A store into a rectangle, at natural-number indices. -/
theorem over2 (X : (⟨2, ![n0, n1]⟩ : Shape).Idx → EReal) (w : (⟨2, ![m0, m1]⟩ : Shape).Idx → EReal) (i j : ℕ) :
    g2 (n0 := n0) (n1 := n1) ((Rect.unit (s := ⟨2, ![n0, n1]⟩) ![o0, o1] ![m0, m1] inb).overlay X w) i j
      = if o0 ≤ i ∧ i < o0 + m0 ∧ o1 ≤ j ∧ j < o1 + m1 then g2 w (i - o0) (j - o1) else g2 X i j := by
  have hl := rect2_le inb
  split
  · rename_i h
    have he : (ix2 (n0 := n0) (n1 := n1) ⟨i, by omega⟩ ⟨j, by omega⟩)
        = (Rect.unit (s := ⟨2, ![n0, n1]⟩) ![o0, o1] ![m0, m1] inb).emb
          (ix2 (n0 := m0) (n1 := m1) ⟨i - o0, by omega⟩ ⟨j - o1, by omega⟩) := by
      rw [rect2_emb]
      simp only [show o0 + (i - o0) = i by omega, show o1 + (j - o1) = j by omega]
    rw [g2_lt _ (by omega) (by omega), he, Rect.overlay_emb, g2_lt w (by omega) (by omega)]
  · rename_i h
    unfold g2
    split
    · rename_i h'
      rw [Rect.overlay_of_not_mem]
      rw [← Rect.map_emb_univ, Finset.mem_map]
      rintro ⟨x, -, hx⟩
      rw [eq_ix2 x] at hx
      erw [rect2_emb inb (x 0) (x 1)] at hx
      have h0 := congrArg Fin.val (congrFun hx 0)
      have h1 := congrArg Fin.val (congrFun hx 1)
      have h0 : o0 + (x 0).val = i := h0
      have h1 : o1 + (x 1).val = j := h1
      have b0 : (x 0).val < m0 := (x 0).isLt
      have b1 : (x 1).val < m1 := (x 1).isLt
      omega
    · rfl

end Rect2

section Rect3

variable {n0 n1 n2 m0 m1 m2 o0 o1 o2 : ℕ}
  (inb : ∀ x, (![o0, o1, o2] : Fin 3 → ℕ) x + (![m0, m1, m2] : Fin 3 → ℕ) x ≤ (⟨3, ![n0, n1, n2]⟩ : Shape).size x)

include inb in
theorem rect3_le : o0 + m0 ≤ n0 ∧ o1 + m1 ≤ n1 ∧ o2 + m2 ≤ n2 := ⟨inb 0, inb 1, inb 2⟩

theorem rect3_emb (i : Fin m0) (j : Fin m1) (k : Fin m2) :
    (Rect.unit (s := ⟨3, ![n0, n1, n2]⟩) ![o0, o1, o2] ![m0, m1, m2] inb).emb (ix3 (n0 := m0) (n1 := m1) (n2 := m2) i j k)
      = ix3 (n0 := n0) (n1 := n1) (n2 := n2) ⟨o0 + i.val, by have := rect3_le inb; omega⟩
          ⟨o1 + j.val, by have := rect3_le inb; omega⟩ ⟨o2 + k.val, by have := rect3_le inb; omega⟩ := by
  funext a
  match a with
  | ⟨0, _⟩ => exact Fin.ext (by rw [Rect.emb_apply]; show o0 + 1 * i.val = o0 + i.val; omega)
  | ⟨1, _⟩ => exact Fin.ext (by rw [Rect.emb_apply]; show o1 + 1 * j.val = o1 + j.val; omega)
  | ⟨2, _⟩ => exact Fin.ext (by rw [Rect.emb_apply]; show o2 + 1 * k.val = o2 + k.val; omega)

theorem load3 (X : (⟨3, ![n0, n1, n2]⟩ : Shape).Idx → EReal) {i j k : ℕ} (hi : i < m0) (hj : j < m1) (hk : k < m2) :
    g3 (n0 := m0) (n1 := m1) (n2 := m2) (fun x => X ((Rect.unit (s := ⟨3, ![n0, n1, n2]⟩) ![o0, o1, o2] ![m0, m1, m2] inb).emb x)) i j k
      = g3 X (o0 + i) (o1 + j) (o2 + k) := by
  have hl := rect3_le inb
  rw [g3_lt _ hi hj hk, rect3_emb, g3_lt X (by omega) (by omega) (by omega)]

theorem over3 (X : (⟨3, ![n0, n1, n2]⟩ : Shape).Idx → EReal) (w : (⟨3, ![m0, m1, m2]⟩ : Shape).Idx → EReal) (i j k : ℕ) :
    g3 (n0 := n0) (n1 := n1) (n2 := n2) ((Rect.unit (s := ⟨3, ![n0, n1, n2]⟩) ![o0, o1, o2] ![m0, m1, m2] inb).overlay X w) i j k
      = if o0 ≤ i ∧ i < o0 + m0 ∧ o1 ≤ j ∧ j < o1 + m1 ∧ o2 ≤ k ∧ k < o2 + m2 then g3 w (i - o0) (j - o1) (k - o2) else g3 X i j k := by
  have hl := rect3_le inb
  split
  · rename_i h
    have he : (ix3 (n0 := n0) (n1 := n1) (n2 := n2) ⟨i, by omega⟩ ⟨j, by omega⟩ ⟨k, by omega⟩)
        = (Rect.unit (s := ⟨3, ![n0, n1, n2]⟩) ![o0, o1, o2] ![m0, m1, m2] inb).emb
          (ix3 (n0 := m0) (n1 := m1) (n2 := m2) ⟨i - o0, by omega⟩ ⟨j - o1, by omega⟩ ⟨k - o2, by omega⟩) := by
      rw [rect3_emb]
      simp only [show o0 + (i - o0) = i by omega, show o1 + (j - o1) = j by omega, show o2 + (k - o2) = k by omega]
    rw [g3_lt _ (by omega) (by omega) (by omega), he, Rect.overlay_emb, g3_lt w (by omega) (by omega) (by omega)]
  · rename_i h
    unfold g3
    split
    · rename_i h'
      rw [Rect.overlay_of_not_mem]
      rw [← Rect.map_emb_univ, Finset.mem_map]
      rintro ⟨x, -, hx⟩
      rw [eq_ix3 x] at hx
      erw [rect3_emb inb (x 0) (x 1) (x 2)] at hx
      have h0 : o0 + (x 0).val = i := congrArg Fin.val (congrFun hx 0)
      have h1 : o1 + (x 1).val = j := congrArg Fin.val (congrFun hx 1)
      have h2 : o2 + (x 2).val = k := congrArg Fin.val (congrFun hx 2)
      have b0 : (x 0).val < m0 := (x 0).isLt
      have b1 : (x 1).val < m1 := (x 1).isLt
      have b2 : (x 2).val < m2 := (x 2).isLt
      omega
    · rfl

end Rect3

/-! ## Sums and maxima over runs of indices -/

theorem sum_fin {n : ℕ} (f : ℕ → EReal) : ∑ x : Fin n, f x.val = ∑ k ∈ Finset.range n, f k := (Finset.sum_range f).symm

/-- A sum over `m * n` indices by rows of `n`. -/
theorem sum_range_mul (f : ℕ → EReal) (m n : ℕ) :
    ∑ k ∈ Finset.range (m * n), f k = ∑ i ∈ Finset.range m, ∑ j ∈ Finset.range n, f (n * i + j) := by
  induction m with
  | zero => simp
  | succ m ih =>
    rw [Nat.succ_mul, Finset.sum_range_add, ih, Finset.sum_range_succ]
    simp only [Nat.mul_comm m n]

/-- A maximum over `m * n` indices by rows of `n`. -/
theorem sup_range_mul (f : ℕ → EReal) (m n : ℕ) :
    (Finset.range (m * n)).sup f = (Finset.range m).sup fun i => (Finset.range n).sup fun j => f (n * i + j) := by
  apply le_antisymm
  · refine Finset.sup_le fun k hk => ?_
    rw [Finset.mem_range] at hk
    have hn : 0 < n := Nat.pos_of_ne_zero (by rintro rfl; simp at hk)
    have h1 : k / n < m := Nat.div_lt_of_lt_mul (by rwa [Nat.mul_comm] at hk)
    refine le_trans ?_ (Finset.le_sup (f := fun i => (Finset.range n).sup fun j => f (n * i + j)) (Finset.mem_range.2 h1))
    refine le_trans (le_of_eq ?_) (Finset.le_sup (f := fun j => f (n * (k / n) + j)) (Finset.mem_range.2 (Nat.mod_lt k hn)))
    show f k = f (n * (k / n) + k % n)
    rw [Nat.div_add_mod]
  · refine Finset.sup_le fun i hi => Finset.sup_le fun j hj => Finset.le_sup (Finset.mem_range.2 ?_)
    rw [Finset.mem_range] at hi hj
    calc n * i + j < n * i + n := by omega
      _ = n * (i + 1) := by ring
      _ ≤ n * m := Nat.mul_le_mul_left _ hi
      _ = m * n := Nat.mul_comm _ _

theorem fold_max_fin {n : ℕ} (f : ℕ → EReal) :
    Finset.fold max (⊥ : EReal) (fun x : Fin n => f x.val) Finset.univ = (Finset.range n).sup f := by
  show (Finset.univ : Finset (Fin n)).sup (fun x : Fin n => f x.val) = _
  apply le_antisymm
  · exact Finset.sup_le fun x _ => Finset.le_sup (Finset.mem_range.2 x.isLt)
  · refine Finset.sup_le fun k hk => ?_
    exact Finset.le_sup (f := fun x : Fin n => f x.val) (Finset.mem_univ ⟨k, Finset.mem_range.1 hk⟩)

/-- A positive factor passes through a maximum. -/
theorem sup_mul_pos (s : Finset ℕ) (f : ℕ → EReal) {c : EReal} (hc : 0 < c) : (s.sup f) * c = s.sup fun k => f k * c :=
  Finset.comp_sup_eq_sup_comp_of_is_total (fun x => x * c) (fun a b h => mul_le_mul_of_nonneg_right h hc.le)
    (EReal.bot_mul_of_pos hc)

end Cert.KernelIdeal.Att
-- ==== Proof.PassVal.lean ====
/- The values of one chunk, read at natural-number indices over the extended reals. -/
module

public import proofs.«01_k».proof.Proof.Attention
public import proofs.«01_k».proof.Proof.NatIx

@[expose] public section

set_option maxRecDepth 16384

noncomputable section

namespace Cert.KernelIdeal.Att

open Idealize.ShloMosaic Cert.KernelIdeal Cert.KernelIdeal.Gen

/-- The bound of the codes. -/
abbrev c448 : EReal := Ideal.ofBits FTy.f32 0x43E00000#32
/-- Its negative. -/
abbrev n448 : EReal := Ideal.ofBits FTy.f32 0xC3E00000#32
/-- The shift of the probabilities' exponent. -/
abbrev c8 : EReal := Ideal.ofBits FTy.f32 0x41000000#32

/-- Clipped to the codes' range. -/
def clip (x : EReal) : EReal := min c448 (max n448 x)

/-- The probability of key `n` in column `b`. -/
def prob (S C : ℕ → ℕ → EReal) (M : ℕ → EReal) (n b : ℕ) : EReal := Ideal.exp2 (S n b * C (n / 128) b - (M b - c8))

theorem ofBits_ninf : Ideal.ofBits FTy.f32 0xFF800000#32 = ⊥ := by simp [Ideal.ofBits, Ideal.ieee]

/-- The eight-sublane maximum. -/
theorem m8P_val (mv : Vec Ideal S1x1x512 .f32) {a b : ℕ} (ha : a < 8) (hb : b < 512) :
    g2 (n0 := 8) (n1 := 512) (m8P mv) a b = g3 (n0 := 1) (n1 := 1) (n2 := 512) mv 0 0 b - c8 := by
  rw [g2_lt _ ha hb, g3_lt _ (by decide) (by decide) hb]
  pointwise [m8P]

theorem blkP_at (m8 : FVec Ideal S8x512 .f32) (sv : Vec Ideal S128x512 .f32) (cv : Vec Ideal S1x1x512 .f32)
    (u : Fin 16) (a : Fin 8) (b : Fin 512) :
    blkP m8 sv cv (ix3 u a b) = Ideal.exp2 (sv (ix2 ⟨u.val * 8 + a.val, by omega⟩ b) * cv (ix3 0 0 b) - m8 (ix2 a b)) := by
  pointwise [blkP]
  rfl

theorem rsP_val (rs : FVec Ideal S8x512 .f32) (m8 : FVec Ideal S8x512 .f32) (sv : Vec Ideal S128x512 .f32) (cv : Vec Ideal S1x1x512 .f32)
    (S C : ℕ → ℕ → EReal) (M : ℕ → EReal) (u : ℕ)
    (hs : ∀ x b, x < 128 → b < 512 → g2 (n0 := 128) (n1 := 512) sv x b = S (128 * u + x) b)
    (hc : ∀ b, b < 512 → g3 (n0 := 1) (n1 := 1) (n2 := 512) cv 0 0 b = C u b)
    (hm : ∀ a b, a < 8 → b < 512 → g2 (n0 := 8) (n1 := 512) m8 a b = M b - c8) {a b : ℕ} (ha : a < 8) (hb : b < 512) :
    g2 (n0 := 8) (n1 := 512) (rsP rs (blkP m8 sv cv)) a b
      = g2 (n0 := 8) (n1 := 512) rs a b + ∑ x ∈ Finset.range 16, prob S C M (128 * u + 8 * x + a) b := by
  rw [g2_lt _ ha hb, g2_lt _ ha hb, ← sum_fin]
  have e : rsP rs (blkP m8 sv cv) (ix2 ⟨a, ha⟩ ⟨b, hb⟩)
      = rs (ix2 ⟨a, ha⟩ ⟨b, hb⟩) + ∑ x : Fin 16, blkP m8 sv cv (ix3 x ⟨a, ha⟩ ⟨b, hb⟩) := by pointwise [rsP]
  rw [e]
  congr 1
  refine Finset.sum_congr rfl fun x _ => ?_
  have hx := x.isLt
  rw [blkP_at, g2_ix (n0 := 128) (n1 := 512) sv, g2_ix (n0 := 8) (n1 := 512) m8, g3_ix (n0 := 1) (n1 := 1) (n2 := 512) cv]
  show Ideal.exp2 (g2 (n0 := 128) (n1 := 512) sv (x.val * 8 + a) b * g3 (n0 := 1) (n1 := 1) (n2 := 512) cv 0 0 b
    - g2 (n0 := 8) (n1 := 512) m8 a b) = _
  rw [hs _ _ (by omega) hb, hc _ hb, hm _ _ ha hb]
  unfold prob
  rw [show 128 * u + 8 * x.val + a = 128 * u + (x.val * 8 + a) by omega, show (128 * u + (x.val * 8 + a)) / 128 = u by omega]

theorem codeP_val (m8 : FVec Ideal S8x512 .f32) (sv : Vec Ideal S128x512 .f32) (cv : Vec Ideal S1x1x512 .f32)
    (S C : ℕ → ℕ → EReal) (M : ℕ → EReal) (u : ℕ)
    (hs : ∀ x b, x < 128 → b < 512 → g2 (n0 := 128) (n1 := 512) sv x b = S (128 * u + x) b)
    (hc : ∀ b, b < 512 → g3 (n0 := 1) (n1 := 1) (n2 := 512) cv 0 0 b = C u b)
    (hm : ∀ a b, a < 8 → b < 512 → g2 (n0 := 8) (n1 := 512) m8 a b = M b - c8) (y : Fin 128) (b : Fin 512) :
    codeP (blkP m8 sv cv) (ix2 y b) = clip (prob S C M (128 * u + y.val) b.val) := by
  have e : codeP (blkP m8 sv cv) (ix2 y b)
      = clip (blkP m8 sv cv (ix3 ⟨y.val / 8, by omega⟩ ⟨y.val % 8, by omega⟩ b)) := by pointwise [codeP]; rfl
  have hy := y.isLt
  rw [e, blkP_at, g2_ix (n0 := 128) (n1 := 512) sv, g2_ix (n0 := 8) (n1 := 512) m8, g3_ix (n0 := 1) (n1 := 1) (n2 := 512) cv]
  show clip (Ideal.exp2 (g2 (n0 := 128) (n1 := 512) sv (y.val / 8 * 8 + y.val % 8) b.val
    * g3 (n0 := 1) (n1 := 1) (n2 := 512) cv 0 0 b.val - g2 (n0 := 8) (n1 := 512) m8 (y.val % 8) b.val)) = _
  rw [hs _ _ (by omega) b.isLt, hc _ b.isLt, hm _ _ (by omega) b.isLt]
  unfold prob
  rw [show y.val / 8 * 8 + y.val % 8 = y.val by omega, show (128 * u + y.val) / 128 = u by omega]

theorem ojP_val (vt : Vec Ideal S64x512 .fp8e4m3) (c0 c1 c2 c3 : FVec Ideal S128x512 .fp8e4m3) (V K : ℕ → ℕ → EReal) (j : ℕ)
    (hv : ∀ d x, d < 64 → x < 512 → g2 (n0 := 64) (n1 := 512) vt d x = V d (512 * j + x))
    (h0 : ∀ (y : Fin 128) (b : Fin 512), c0 (ix2 y b) = K (128 * (4 * j) + y.val) b.val)
    (h1 : ∀ (y : Fin 128) (b : Fin 512), c1 (ix2 y b) = K (128 * (4 * j + 1) + y.val) b.val)
    (h2 : ∀ (y : Fin 128) (b : Fin 512), c2 (ix2 y b) = K (128 * (4 * j + 2) + y.val) b.val)
    (h3 : ∀ (y : Fin 128) (b : Fin 512), c3 (ix2 y b) = K (128 * (4 * j + 3) + y.val) b.val) {d b : ℕ} (hd : d < 64) (hb : b < 512) :
    g2 (n0 := 64) (n1 := 512) (ojP vt c0 c1 c2 c3) d b = ∑ x ∈ Finset.range 512, V d (512 * j + x) * K (512 * j + x) b := by
  rw [g2_lt _ hd hb, ← sum_fin]
  pointwise [ojP]
  refine Finset.sum_congr rfl fun x _ => ?_
  have hx := x.isLt
  rw [g2_ix (n0 := 64) (n1 := 512) vt, hv _ _ hd hx]
  congr 1
  split
  · rw [h0]; exact congrArg (fun z => K z b) (by show 128 * (4 * j) + x.val = 512 * j + x.val; omega)
  · rename_i q0
    split
    · rw [h1]; exact congrArg (fun z => K z b) (by show 128 * (4 * j + 1) + (x.val - 128) = 512 * j + x.val; omega)
    · rename_i q1
      split
      · rw [h2]; exact congrArg (fun z => K z b) (by show 128 * (4 * j + 2) + (x.val - 128 - 128) = 512 * j + x.val; omega)
      · rename_i q2
        rw [h3]; exact congrArg (fun z => K z b) (by show 128 * (4 * j + 3) + (x.val - 128 - 128 - 128) = 512 * j + x.val; omega)

theorem snP_val (kn : Vec Ideal S1x512x128 .fp8e4m3) (qz : Vec Ideal S1x128x512 .fp8e4m3) {n b : ℕ} (hn : n < 512) (hb : b < 512) :
    g2 (n0 := 512) (n1 := 512) (snP kn qz) n b
      = ∑ l ∈ Finset.range 128, g3 (n0 := 1) (n1 := 512) (n2 := 128) kn 0 n l * g3 (n0 := 1) (n1 := 128) (n2 := 512) qz 0 l b := by
  rw [g2_lt _ hn hb, ← sum_fin]
  pointwise [snP]
  refine Finset.sum_congr rfl fun x _ => ?_
  rw [g3_ix (n0 := 1) (n1 := 512) (n2 := 128) kn, g3_ix (n0 := 1) (n1 := 128) (n2 := 512) qz]
  rfl

theorem mxP_val (off : ℕ) (h : S512x512.Slices ![off, 0] S128x512) (ho : off + 128 ≤ 512) (mx : FVec Ideal S8x512 .f32) (sn : FVec Ideal S512x512 .f32)
    (cv : Vec Ideal S1x1x512 .f32) {a b : ℕ} (ha : a < 8) (hb : b < 512) :
    g2 (n0 := 8) (n1 := 512) (mxP off h mx sn cv) a b = max (g2 (n0 := 8) (n1 := 512) mx a b)
      ((Finset.range 16).sup (fun x => g2 (n0 := 512) (n1 := 512) sn (off + 8 * x + a) b) * g3 (n0 := 1) (n1 := 1) (n2 := 512) cv 0 0 b) := by
  rw [g2_lt _ ha hb, g2_lt _ ha hb, g3_lt _ (by decide) (by decide) hb, ← fold_max_fin]
  pointwise [mxP]
  rw [show (Ideal.ofBits FTy.f32 4286578688#32 : EReal) = ⊥ from ofBits_ninf]
  congr 2
  refine Finset.fold_congr fun x _ => ?_
  rw [g2_ix (n0 := 512) (n1 := 512) sn]
  exact congrArg (fun z => g2 (n0 := 512) (n1 := 512) sn z b) (by show off + (x.val * 8 + a) = off + 8 * x.val + a; omega)

theorem mFinP_val (mx : FVec Ideal S8x512 .f32) {b : ℕ} (hb : b < 512) :
    g3 (n0 := 1) (n1 := 1) (n2 := 512) (mFinP mx) 0 0 b = (Finset.range 8).sup fun x => g2 (n0 := 8) (n1 := 512) mx x b := by
  rw [g3_lt _ (by decide) (by decide) hb, ← fold_max_fin]
  pointwise [mFinP]
  rw [show (Ideal.ofBits FTy.f32 4286578688#32 : EReal) = ⊥ from ofBits_ninf]
  refine Finset.fold_congr fun x _ => ?_
  rw [g2_ix (n0 := 8) (n1 := 512) mx]

theorem oFinP_val (rs : FVec Ideal S8x512 .f32) (o : FVec Ideal S64x512 .f32) (vcol : Vec Ideal S64x128 .f32) {a b : ℕ} (ha : a < 64) (hb : b < 512) :
    g2 (n0 := 64) (n1 := 512) (oFinP rs o vcol) a b = Ideal.div (g2 (n0 := 64) (n1 := 512) o a b * g2 (n0 := 64) (n1 := 128) vcol a (b % 128))
      (∑ x ∈ Finset.range 8, g2 (n0 := 8) (n1 := 512) rs x b) := by
  rw [g2_lt _ ha hb, g2_lt _ ha hb, ← sum_fin]
  pointwise [oFinP]
  congr 1
  · congr 1
    split
    · rename_i h0; rw [g2_ix (n0 := 64) (n1 := 128) vcol]; exact congrArg (g2 (n0 := 64) (n1 := 128) vcol a) (by show b = b % 128; omega)
    · rename_i h0
      split
      · rename_i h1; rw [g2_ix (n0 := 64) (n1 := 128) vcol]; exact congrArg (g2 (n0 := 64) (n1 := 128) vcol a) (by show b - 128 = b % 128; omega)
      · rename_i h1
        split
        · rename_i h2; rw [g2_ix (n0 := 64) (n1 := 128) vcol]; exact congrArg (g2 (n0 := 64) (n1 := 128) vcol a) (by show b - 128 - 128 = b % 128; omega)
        · rename_i h2; rw [g2_ix (n0 := 64) (n1 := 128) vcol]; exact congrArg (g2 (n0 := 64) (n1 := 128) vcol a) (by show b - 128 - 128 - 128 = b % 128; omega)
  · refine Finset.sum_congr rfl fun x _ => ?_
    rw [g2_ix (n0 := 8) (n1 := 512) rs]

theorem pairP_val0 (o : FVec Ideal S64x512 .f32) (ha : S64x512.Slices ![0, 0] S64x128) (hb : S64x512.Slices ![0, 128] S64x128)
    {r c : ℕ} (hr : r < 128) (hc : c < 128) :
    g2 (n0 := 128) (n1 := 128) (pairP 0 128 ha hb o) r c = g2 (n0 := 64) (n1 := 512) o (c % 64) (128 * (c / 64) + r) := by
  rw [g2_lt _ hr hc]
  pointwise [pairP]
  split
  · rename_i h; rw [g2_ix (n0 := 64) (n1 := 512) o]; show g2 (n0 := 64) (n1 := 512) o c r = _; congr 1 <;> omega
  · rename_i h; rw [g2_ix (n0 := 64) (n1 := 512) o]; show g2 (n0 := 64) (n1 := 512) o (c - 64) (128 + r) = _; congr 1 <;> omega

theorem pairP_val1 (o : FVec Ideal S64x512 .f32) (ha : S64x512.Slices ![0, 256] S64x128) (hb : S64x512.Slices ![0, 384] S64x128)
    {r c : ℕ} (hr : r < 128) (hc : c < 128) :
    g2 (n0 := 128) (n1 := 128) (pairP 256 384 ha hb o) r c = g2 (n0 := 64) (n1 := 512) o (c % 64) (256 + 128 * (c / 64) + r) := by
  rw [g2_lt _ hr hc]
  pointwise [pairP]
  split
  · rename_i h; rw [g2_ix (n0 := 64) (n1 := 512) o]; show g2 (n0 := 64) (n1 := 512) o c (256 + r) = _; congr 1 <;> omega
  · rename_i h; rw [g2_ix (n0 := 64) (n1 := 512) o]; show g2 (n0 := 64) (n1 := 512) o (c - 64) (384 + r) = _; congr 1 <;> omega

theorem cP_val (ks : Vec Ideal S1x32x128 .f32) (qs : Vec Ideal S1x128 .f32) {a b : ℕ} (ha : a < 32) (hb : b < 128) :
    g3 (n0 := 1) (n1 := 32) (n2 := 128) (cP ks qs) 0 a b
      = g3 (n0 := 1) (n1 := 32) (n2 := 128) ks 0 a b * g2 (n0 := 1) (n1 := 128) qs 0 b := by
  rw [g3_lt _ (by decide) ha hb, g3_lt _ (by decide) ha hb, g2_lt _ (by decide) hb]
  pointwise [cP]

end Cert.KernelIdeal.Att
-- ==== Proof.Pass.lean ====
/- What the pass for one key head leaves: the next head's scores, scales and maximum in the scratch, and the
   previous head's output. -/
module

public import proofs.«01_k».proof.Proof.PassVal
public import proofs.«01_k».proof.Proof.State

@[expose] public section

set_option maxRecDepth 16384

noncomputable section

namespace Cert.KernelIdeal.Att

open Idealize.ShloMosaic Idealize.SL.Sem Cert.KernelIdeal Cert.KernelIdeal.Gen

/-! ## The rectangles a chunk reads -/

section Blocks

variable {F : FTy → Type}

/-- A block of 128 keys' scores. -/
def sB (X : Vec F S4096x512 .f32) (r : ℕ) (h : r < 32) : Vec F S128x512 .f32 :=
  fun i => X ((Rect.unit (s := S4096x512) ![128 * r, 0] S128x512.size (inbS r h)).emb i)
/-- A block's row of combined scales. -/
def cB (X : Vec F S2x32x512 .f32) (p r : ℕ) (hp : p < 2) (h : r < 32) : Vec F S1x1x512 .f32 :=
  fun i => X ((Rect.unit (s := S2x32x512) ![p, r, 0] S1x1x512.size (inbC p r hp h)).emb i)
/-- A chunk of a head's values. -/
def vB (X : Vec F S256x4096 .fp8e4m3) (g j : ℕ) (hg : g < 4) (h : j < 8) : Vec F S64x512 .fp8e4m3 :=
  fun i => X ((Rect.unit (s := S256x4096) ![64 * g, 512 * j] S64x512.size (inbVt g j hg h)).emb i)
/-- A chunk of a pair of heads' keys. -/
def kB (X : Vec F S2x4096x128 .fp8e4m3) (g j : ℕ) (hg : g < 2) (h : j < 8) : Vec F S1x512x128 .fp8e4m3 :=
  fun i => X ((Rect.unit (s := S2x4096x128) ![g, 512 * j, 0] S1x512x128.size (inbKn g j hg h)).emb i)
/-- A head's padded queries. -/
def qB (X : Vec F S4x128x512 .fp8e4m3) (g : ℕ) (hg : g < 4) : Vec F S1x128x512 .fp8e4m3 :=
  fun i => X ((Rect.unit (s := S4x128x512) ![g, 0, 0] S1x128x512.size (inbQz g hg)).emb i)
/-- A row of the maxima. -/
def mB (X : Vec F S2x1x512 .f32) (p : ℕ) (hp : p < 2) : Vec F S1x1x512 .f32 :=
  fun i => X ((Rect.unit (s := S2x1x512) ![p, 0, 0] S1x1x512.size (inbM p hp)).emb i)
/-- A head's column of value scales. -/
def vcB (X : Vec F S256x128 .f32) (g : ℕ) (hg : g < 4) : Vec F S64x128 .f32 :=
  fun i => X ((Rect.unit (s := S256x128) ![64 * g, 0] S64x128.size (inbVc g hg)).emb i)
/-- A key head's block scales. -/
def ksB (X : Vec F S4x32x128 .f32) (g : ℕ) (hg : g < 4) : Vec F S1x32x128 .f32 :=
  fun i => X ((Rect.unit (s := S4x32x128) ![g, 0, 0] S1x32x128.size (inbKs g hg)).emb i)
/-- A query head's scale. -/
def qsB (X : Vec F S16x128 .f32) (h : ℕ) (hh : h < 16) : Vec F S1x128 .f32 :=
  fun i => X ((Rect.unit (s := S16x128) ![h, 0] S1x128.size (inbQs h hh)).emb i)

/-- The scores with one chunk replaced. -/
def sPut (X : Vec F S4096x512 .f32) (j : ℕ) (h : j < 8) (w : Vec F S512x512 .f32) : Vec F S4096x512 .f32 :=
  (Rect.unit (s := S4096x512) ![512 * j, 0] S512x512.size (inbSn j h)).overlay X w
/-- The combined scales with one query head's replaced. -/
def cPut (X : Vec F S2x32x512 .f32) (p l : ℕ) (hp : p < 2) (hl : l < 4) (w : Vec F S1x32x128 .f32) : Vec F S2x32x512 .f32 :=
  (Rect.unit (s := S2x32x512) ![p, 0, 128 * l] S1x32x128.size (inbCb p l hp hl)).overlay X w
/-- The maxima with one row replaced. -/
def mPut (X : Vec F S2x1x512 .f32) (p : ℕ) (hp : p < 2) (w : Vec F S1x1x512 .f32) : Vec F S2x1x512 .f32 :=
  (Rect.unit (s := S2x1x512) ![p, 0, 0] S1x1x512.size (inbM p hp)).overlay X w

end Blocks

section Runs

variable {F : FTy → Type} [FloatOps F] [Named F] (R : Refs) (c : Dev nD)

theorem chunk_run (g : ℕ) (hg : g < 4) (m8 : FVec F S8x512 .f32) (j : ℕ) (hj : j < 8) (rs mx : FVec F S8x512 .f32) (s : St F) :
    Runs R c (chunk R.a11 R.a12 R.a14 R.a16 R.a18 g hg m8 j hj rs mx) s
      (rsP (rsP (rsP (rsP rs (blkP m8 (sB s.s (4 * j) (by omega)) (cB s.c ((g + 1) % 2) (4 * j) (prev_lt g) (by omega))))
          (blkP m8 (sB s.s (4 * j + 1) (by omega)) (cB s.c ((g + 1) % 2) (4 * j + 1) (prev_lt g) (by omega))))
          (blkP m8 (sB s.s (4 * j + 2) (by omega)) (cB s.c ((g + 1) % 2) (4 * j + 2) (prev_lt g) (by omega))))
          (blkP m8 (sB s.s (4 * j + 3) (by omega)) (cB s.c ((g + 1) % 2) (4 * j + 3) (prev_lt g) (by omega))),
       mxP 384 slices_S512x512_o384_0_S128x512 (mxP 256 slices_S512x512_o256_0_S128x512
          (mxP 128 slices_S512x512_o128_0_S128x512 (mxP 0 slices_S512x512_o0_0_S128x512 mx
            (snP (kB s.kn (g / 2) j (half_lt hg) hj) (qB s.qz g hg)) (cB s.c (g % 2) (4 * j) (cur_lt g) (by omega)))
            (snP (kB s.kn (g / 2) j (half_lt hg) hj) (qB s.qz g hg)) (cB s.c (g % 2) (4 * j + 1) (cur_lt g) (by omega)))
            (snP (kB s.kn (g / 2) j (half_lt hg) hj) (qB s.qz g hg)) (cB s.c (g % 2) (4 * j + 2) (cur_lt g) (by omega)))
            (snP (kB s.kn (g / 2) j (half_lt hg) hj) (qB s.qz g hg)) (cB s.c (g % 2) (4 * j + 3) (cur_lt g) (by omega)),
       ojP (vB s.vt ((g + 3) % 4) j (gp_lt g) hj)
          (codeP (blkP m8 (sB s.s (4 * j) (by omega)) (cB s.c ((g + 1) % 2) (4 * j) (prev_lt g) (by omega))))
          (codeP (blkP m8 (sB s.s (4 * j + 1) (by omega)) (cB s.c ((g + 1) % 2) (4 * j + 1) (prev_lt g) (by omega))))
          (codeP (blkP m8 (sB s.s (4 * j + 2) (by omega)) (cB s.c ((g + 1) % 2) (4 * j + 2) (prev_lt g) (by omega))))
          (codeP (blkP m8 (sB s.s (4 * j + 3) (by omega)) (cB s.c ((g + 1) % 2) (4 * j + 3) (prev_lt g) (by omega)))))
      { s with s := sPut s.s j hj (shapeCast S512x512 (snP (kB s.kn (g / 2) j (half_lt hg) hj) (qB s.qz g hg)) shapeCasts_S512x512_S512x512) } := by
  unfold chunk
  refine Runs.bind R c (Runs.load (L11 R c) _ _ _ _ s) ?_
  refine Runs.bind R c (Runs.load (L18 R c) _ _ _ _ s) ?_
  refine Runs.bind R c (Runs.load (L11 R c) _ _ _ _ s) ?_
  refine Runs.bind R c (Runs.load (L18 R c) _ _ _ _ s) ?_
  refine Runs.bind R c (Runs.load (L11 R c) _ _ _ _ s) ?_
  refine Runs.bind R c (Runs.load (L18 R c) _ _ _ _ s) ?_
  refine Runs.bind R c (Runs.load (L11 R c) _ _ _ _ s) ?_
  refine Runs.bind R c (Runs.load (L18 R c) _ _ _ _ s) ?_
  refine Runs.bind R c (Runs.load (L14 R c) _ _ _ _ s) ?_
  refine Runs.bind R c (Runs.load (L12 R c) _ _ _ _ s) ?_
  refine Runs.bind R c (Runs.load (L16 R c) _ _ _ _ s) ?_
  refine Runs.bind R c (Runs.load (L11 R c) _ _ _ _ s) ?_
  refine Runs.bind R c (Runs.store (L11 R c) _ _ _ _ _ s) ?_
  refine Runs.bind R c (Runs.load (L18 R c) _ _ _ _ _) ?_
  refine Runs.bind R c (Runs.load (L18 R c) _ _ _ _ _) ?_
  refine Runs.bind R c (Runs.load (L18 R c) _ _ _ _ _) ?_
  refine Runs.bind R c (Runs.load (L18 R c) _ _ _ _ _) ?_
  exact Runs.pure R c _ _

theorem cRow_run (g : ℕ) (hg : g < 4) (l : ℕ) (hl : l < 4) (s : St F) :
    Runs R c (cRow R.a13 R.a17 R.a18 g hg l hl) s ⟨⟩
      { s with c := cPut s.c (g % 2) l (cur_lt g) hl (cP (ksB s.ksr g hg) (qsB s.qsr (4 * g + l) (by omega))) } := by
  unfold cRow
  refine Runs.bind R c (Runs.load (L13 R c) _ _ _ _ s) ?_
  refine Runs.bind R c (Runs.load (L17 R c) _ _ _ _ s) ?_
  refine Runs.bind R c (Runs.load (L18 R c) _ _ _ _ s) ?_
  exact Runs.store (L18 R c) _ _ _ _ _ s

end Runs

/-! ## Readings over the extended reals -/

section Read

/-- The next head's scores. -/
def score (kn : Vec Ideal S2x4096x128 .fp8e4m3) (qz : Vec Ideal S4x128x512 .fp8e4m3) (g n b : ℕ) : EReal :=
  ∑ l ∈ Finset.range 128, g3 (n0 := 2) (n1 := 4096) (n2 := 128) kn (g / 2) n l * g3 (n0 := 4) (n1 := 128) (n2 := 512) qz g l b

theorem sB_val (X : Vec Ideal S4096x512 .f32) (r : ℕ) (h : r < 32) (x b : ℕ) (hx : x < 128) (hb : b < 512) :
    g2 (n0 := 128) (n1 := 512) (sB X r h) x b = g2 (n0 := 4096) (n1 := 512) X (128 * r + x) b :=
  (load2 (inbS r h) X hx hb).trans (by rw [Nat.zero_add])

theorem cB_val (X : Vec Ideal S2x32x512 .f32) (p r : ℕ) (hp : p < 2) (h : r < 32) (b : ℕ) (hb : b < 512) :
    g3 (n0 := 1) (n1 := 1) (n2 := 512) (cB X p r hp h) 0 0 b = g3 (n0 := 2) (n1 := 32) (n2 := 512) X p r b :=
  (load3 (inbC p r hp h) X (by decide) (by decide) hb).trans (by rw [Nat.zero_add]; rfl)

theorem vB_val (X : Vec Ideal S256x4096 .fp8e4m3) (g j : ℕ) (hg : g < 4) (h : j < 8) (d x : ℕ) (hd : d < 64) (hx : x < 512) :
    g2 (n0 := 64) (n1 := 512) (vB X g j hg h) d x = g2 (n0 := 256) (n1 := 4096) X (64 * g + d) (512 * j + x) :=
  load2 (inbVt g j hg h) X hd hx

theorem kB_val (X : Vec Ideal S2x4096x128 .fp8e4m3) (g j : ℕ) (hg : g < 2) (h : j < 8) (n l : ℕ) (hn : n < 512) (hl : l < 128) :
    g3 (n0 := 1) (n1 := 512) (n2 := 128) (kB X g j hg h) 0 n l = g3 (n0 := 2) (n1 := 4096) (n2 := 128) X g (512 * j + n) l :=
  (load3 (inbKn g j hg h) X (by decide) hn hl).trans (by rw [Nat.zero_add]; rfl)

theorem qB_val (X : Vec Ideal S4x128x512 .fp8e4m3) (g : ℕ) (hg : g < 4) (l b : ℕ) (hl : l < 128) (hb : b < 512) :
    g3 (n0 := 1) (n1 := 128) (n2 := 512) (qB X g hg) 0 l b = g3 (n0 := 4) (n1 := 128) (n2 := 512) X g l b :=
  (load3 (inbQz g hg) X (by decide) hl hb).trans (by rw [Nat.zero_add, Nat.zero_add]; rfl)

theorem mB_val (X : Vec Ideal S2x1x512 .f32) (p : ℕ) (hp : p < 2) (b : ℕ) (hb : b < 512) :
    g3 (n0 := 1) (n1 := 1) (n2 := 512) (mB X p hp) 0 0 b = g3 (n0 := 2) (n1 := 1) (n2 := 512) X p 0 b :=
  (load3 (inbM p hp) X (by decide) (by decide) hb).trans (by rw [Nat.zero_add, Nat.zero_add]; rfl)

theorem vcB_val (X : Vec Ideal S256x128 .f32) (g : ℕ) (hg : g < 4) (d b : ℕ) (hd : d < 64) (hb : b < 128) :
    g2 (n0 := 64) (n1 := 128) (vcB X g hg) d b = g2 (n0 := 256) (n1 := 128) X (64 * g + d) b :=
  (load2 (inbVc g hg) X hd hb).trans (by rw [Nat.zero_add])

theorem ksB_val (X : Vec Ideal S4x32x128 .f32) (g : ℕ) (hg : g < 4) (r b : ℕ) (hr : r < 32) (hb : b < 128) :
    g3 (n0 := 1) (n1 := 32) (n2 := 128) (ksB X g hg) 0 r b = g3 (n0 := 4) (n1 := 32) (n2 := 128) X g r b :=
  (load3 (inbKs g hg) X (by decide) hr hb).trans (by rw [Nat.zero_add, Nat.zero_add]; rfl)

theorem qsB_val (X : Vec Ideal S16x128 .f32) (h : ℕ) (hh : h < 16) (b : ℕ) (hb : b < 128) :
    g2 (n0 := 1) (n1 := 128) (qsB X h hh) 0 b = g2 (n0 := 16) (n1 := 128) X h b :=
  (load2 (inbQs h hh) X (by decide) hb).trans (by rw [Nat.zero_add]; rfl)

theorem sn_val (kn : Vec Ideal S2x4096x128 .fp8e4m3) (qz : Vec Ideal S4x128x512 .fp8e4m3) (g : ℕ) (hg : g < 4) (j : ℕ) (hj : j < 8)
    (n b : ℕ) (hn : n < 512) (hb : b < 512) :
    g2 (n0 := 512) (n1 := 512) (snP (kB kn (g / 2) j (half_lt hg) hj) (qB qz g hg)) n b = score kn qz g (512 * j + n) b := by
  rw [snP_val _ _ hn hb]
  refine Finset.sum_congr rfl fun l hl => ?_
  rw [Finset.mem_range] at hl
  rw [kB_val _ _ _ _ _ _ _ hn hl, qB_val _ _ _ _ _ hl hb]

theorem sPut_val (X : Vec Ideal S4096x512 .f32) (j : ℕ) (h : j < 8) (w : Vec Ideal S512x512 .f32) (n b : ℕ) (hb : b < 512) :
    g2 (n0 := 4096) (n1 := 512) (sPut X j h w) n b
      = if 512 * j ≤ n ∧ n < 512 * j + 512 then g2 (n0 := 512) (n1 := 512) w (n - 512 * j) b else g2 (n0 := 4096) (n1 := 512) X n b := by
  refine (over2 (inbSn j h) X w n b).trans ?_
  split
  · rename_i q; rw [if_pos ⟨q.1, q.2.1⟩]; rfl
  · rename_i q; rw [if_neg (fun q' => q ⟨q'.1, q'.2, Nat.zero_le _, by omega⟩)]

theorem cPut_val (X : Vec Ideal S2x32x512 .f32) (p l : ℕ) (hp : p < 2) (hl : l < 4) (w : Vec Ideal S1x32x128 .f32) (q r b : ℕ) (hr : r < 32) :
    g3 (n0 := 2) (n1 := 32) (n2 := 512) (cPut X p l hp hl w) q r b
      = if q = p ∧ b / 128 = l then g3 (n0 := 1) (n1 := 32) (n2 := 128) w 0 r (b % 128) else g3 (n0 := 2) (n1 := 32) (n2 := 512) X q r b := by
  refine (over3 (inbCb p l hp hl) X w q r b).trans ?_
  split
  · rename_i z
    rw [if_pos (by omega)]
    congr 1 <;> omega
  · rename_i z; rw [if_neg (fun z' => z (by omega))]

theorem mPut_val (X : Vec Ideal S2x1x512 .f32) (p : ℕ) (hp : p < 2) (w : Vec Ideal S1x1x512 .f32) (q b : ℕ) (hb : b < 512) :
    g3 (n0 := 2) (n1 := 1) (n2 := 512) (mPut X p hp w) q 0 b
      = if q = p then g3 (n0 := 1) (n1 := 1) (n2 := 512) w 0 0 b else g3 (n0 := 2) (n1 := 1) (n2 := 512) X q 0 b := by
  refine (over3 (inbM p hp) X w q 0 b).trans ?_
  split
  · rename_i z
    rw [if_pos (by omega)]
    congr 1; omega
  · rename_i z; rw [if_neg (fun z' => z (by omega))]

end Read

end Cert.KernelIdeal.Att
-- ==== Proof.Total.lean ====
/- The body runs to its end from any contents and leaves the three input blocks as they were, whatever floats are. -/
module

public import proofs.«01_k».proof.Proof.Body
public import proofs.«01_k».proof.Proof.Pass

@[expose] public section

set_option maxRecDepth 16384

noncomputable section

namespace Cert.KernelIdeal.Att

open Idealize.ShloMosaic Idealize.SL.Sem Cert.KernelIdeal Cert.KernelIdeal.Gen

/-- The three input blocks are unchanged. -/
structure Keeps {F : FTy → Type} (s s' : St F) : Prop where
  x : s'.x = s.x
  k : s'.k = s.k
  v : s'.v = s.v

variable (F : FTy → Type) [FloatOps F] [Named F] (R : Refs) (c : Dev nD)

/-- A memref with a place in the record. -/
class Loads {sh : Shape} {e : EltTy} (a : Memref sig .tc .vmem sh e) : Prop where
  slot : ∃ L : Slot (F := F) R c sh e, L.ref = a

/-- A memref with a place in the record, no input's. -/
class Stores {sh : Shape} {e : EltTy} (a : Memref sig .tc .vmem sh e) : Prop where
  slot : ∃ L : Slot (F := F) R c sh e, L.ref = a ∧ ∀ s X, Keeps s (L.set s X)

instance : Loads F R c R.a1 := ⟨L1 R c, rfl⟩
instance : Loads F R c R.a2 := ⟨L2 R c, rfl⟩
instance : Loads F R c R.a3 := ⟨L3 R c, rfl⟩
instance : Loads F R c R.a4 := ⟨L4 R c, rfl⟩
instance : Loads F R c R.a5 := ⟨L5 R c, rfl⟩
instance : Loads F R c R.a6 := ⟨L6 R c, rfl⟩
instance : Loads F R c R.a7 := ⟨L7 R c, rfl⟩
instance : Loads F R c R.a8 := ⟨L8 R c, rfl⟩
instance : Loads F R c R.a9 := ⟨L9 R c, rfl⟩
instance : Loads F R c R.a10 := ⟨L10 R c, rfl⟩
instance : Loads F R c R.a11 := ⟨L11 R c, rfl⟩
instance : Loads F R c R.a12 := ⟨L12 R c, rfl⟩
instance : Loads F R c R.a13 := ⟨L13 R c, rfl⟩
instance : Loads F R c R.a14 := ⟨L14 R c, rfl⟩
instance : Loads F R c R.a15 := ⟨L15 R c, rfl⟩
instance : Loads F R c R.a16 := ⟨L16 R c, rfl⟩
instance : Loads F R c R.a17 := ⟨L17 R c, rfl⟩
instance : Loads F R c R.a18 := ⟨L18 R c, rfl⟩
instance : Loads F R c R.a19 := ⟨L19 R c, rfl⟩
instance : Loads F R c R.a20 := ⟨L20 R c, rfl⟩
instance : Stores F R c R.a4 := ⟨L4 R c, rfl, fun _ _ => ⟨rfl, rfl, rfl⟩⟩
instance : Stores F R c R.a5 := ⟨L5 R c, rfl, fun _ _ => ⟨rfl, rfl, rfl⟩⟩
instance : Stores F R c R.a6 := ⟨L6 R c, rfl, fun _ _ => ⟨rfl, rfl, rfl⟩⟩
instance : Stores F R c R.a7 := ⟨L7 R c, rfl, fun _ _ => ⟨rfl, rfl, rfl⟩⟩
instance : Stores F R c R.a8 := ⟨L8 R c, rfl, fun _ _ => ⟨rfl, rfl, rfl⟩⟩
instance : Stores F R c R.a9 := ⟨L9 R c, rfl, fun _ _ => ⟨rfl, rfl, rfl⟩⟩
instance : Stores F R c R.a10 := ⟨L10 R c, rfl, fun _ _ => ⟨rfl, rfl, rfl⟩⟩
instance : Stores F R c R.a11 := ⟨L11 R c, rfl, fun _ _ => ⟨rfl, rfl, rfl⟩⟩
instance : Stores F R c R.a12 := ⟨L12 R c, rfl, fun _ _ => ⟨rfl, rfl, rfl⟩⟩
instance : Stores F R c R.a13 := ⟨L13 R c, rfl, fun _ _ => ⟨rfl, rfl, rfl⟩⟩
instance : Stores F R c R.a14 := ⟨L14 R c, rfl, fun _ _ => ⟨rfl, rfl, rfl⟩⟩
instance : Stores F R c R.a15 := ⟨L15 R c, rfl, fun _ _ => ⟨rfl, rfl, rfl⟩⟩
instance : Stores F R c R.a16 := ⟨L16 R c, rfl, fun _ _ => ⟨rfl, rfl, rfl⟩⟩
instance : Stores F R c R.a17 := ⟨L17 R c, rfl, fun _ _ => ⟨rfl, rfl, rfl⟩⟩
instance : Stores F R c R.a18 := ⟨L18 R c, rfl, fun _ _ => ⟨rfl, rfl, rfl⟩⟩
instance : Stores F R c R.a19 := ⟨L19 R c, rfl, fun _ _ => ⟨rfl, rfl, rfl⟩⟩
instance : Stores F R c R.a20 := ⟨L20 R c, rfl, fun _ _ => ⟨rfl, rfl, rfl⟩⟩

variable {F}

/-- From any contents the program ends, the inputs unchanged. -/
def Tot {α : Type} (p : PR F α) : Prop := ∀ s, ∃ a s', Runs R c p s a s' ∧ Keeps s s'

variable {R c}

theorem Tot.pure {α : Type} (a : α) : Tot R c (Pure.pure a : PR F α) := fun s => ⟨a, s, Runs.pure R c a s, rfl, rfl, rfl⟩

theorem Tot.bind {α β : Type} {p : PR F α} {k : α → PR F β} (h : Tot R c p) (h' : ∀ a, Tot R c (k a)) : Tot R c (p >>= k) := by
  intro s
  obtain ⟨a, s1, r1, e1⟩ := h s
  obtain ⟨b, s2, r2, e2⟩ := h' a s1
  exact ⟨b, s2, Runs.bind R c r1 r2, e2.x.trans e1.x, e2.k.trans e1.k, e2.v.trans e1.v⟩

theorem Tot.ld {sh : Shape} {e : EltTy} (a : Memref sig .tc .vmem sh e) [H : Loads F R c a] (off size : Fin sh.rank → ℕ)
    (inb : ∀ x, off x + size x ≤ sh.size x) (h : 0 < (⟨sh.rank, size⟩ : Shape).numel) : Tot R c (Att.ld (F := F) a off size inb h) := by
  obtain ⟨L, rfl⟩ := H.slot
  exact fun s => ⟨_, s, Runs.load L off size inb h s, rfl, rfl, rfl⟩

theorem Tot.st {sh : Shape} {e : EltTy} (a : Memref sig .tc .vmem sh e) [H : Stores F R c a] (off size : Fin sh.rank → ℕ)
    (inb : ∀ x, off x + size x ≤ sh.size x) (w : (Rect.unit (s := sh) off size inb).shape.Idx → Elt F e)
    (hx : (a.access (Rect.unit (s := sh) off size inb)).Stores Finset.univ) : Tot R c (Att.st a off size inb w hx) := by
  obtain ⟨L, rfl, hk⟩ := H.slot
  exact fun s => ⟨_, _, Runs.store L off size inb w hx s, hk _ _⟩

theorem Tot.loop {σ : Type} (l : Scf.Loop 32) (ok : Scf.OK l.lb l.ub l.st) (body : Fin l.trips → σ → PR F σ) (h : ∀ t a, Tot R c (body t a)) (a : σ) :
    Tot R c (Scf.Loop.for l ok a body) := by
  have H : ∀ (d k : ℕ), k + d = l.trips → ∀ a, Tot R c (Scf.forFrom body ((List.finRange l.trips).drop k) a) := by
    intro d
    induction d with
    | zero =>
      intro k hk a
      obtain rfl : k = l.trips := by omega
      rw [List.drop_of_length_le (by simp)]
      exact Tot.pure _
    | succ d ih =>
      intro k hk a
      have hlt : k < l.trips := by omega
      rw [List.drop_eq_getElem_cons (by simpa using hlt), List.getElem_finRange, Fin.cast_mk, Scf.forFrom_cons]
      exact Tot.bind (h ⟨k, hlt⟩ a) fun a => ih (k + 1) (by omega) a
  have := H l.trips 0 (by omega) a
  unfold Scf.Loop.for
  rw [Scf.for_eq]
  exact this

theorem Tot.dite {α : Type} {P : Prop} [Decidable P] {p : P → PR F α} {q : ¬P → PR F α} (h : ∀ x, Tot R c (p x)) (h' : ∀ x, Tot R c (q x)) :
    Tot R c (if x : P then p x else q x) := by
  by_cases x : P
  · rw [dif_pos x]; exact h x
  · rw [dif_neg x]; exact h' x

theorem Tot.ite {α : Type} {P : Prop} [Decidable P] {p q : PR F α} (h : Tot R c p) (h' : Tot R c q) : Tot R c (if P then p else q) := by
  by_cases x : P
  · rw [if_pos x]; exact h
  · rw [if_neg x]; exact h'

variable (R c)

theorem tot_qHead (h : Fin 16) (xt : FVec F S1024x128 .f32) (inv : FVec F S16x128 .f32) : Tot R c (qHead R h xt inv) := by
  unfold qHead
  exact Tot.bind (Tot.ld _ _ _ _ _) fun _ => Tot.bind (Tot.st _ _ _ _ _ _) fun _ => Tot.bind (Tot.ld _ _ _ _ _) fun _ => Tot.st _ _ _ _ _ _

theorem tot_qHeads (xt : FVec F S1024x128 .f32) (inv : FVec F S16x128 .f32) : ∀ (n : ℕ) (h : n ≤ 16), Tot R c (qHeads R xt inv n h)
  | 0, _ => Tot.pure _
  | n + 1, h => Tot.bind (tot_qHeads xt inv n (by omega)) fun _ => tot_qHead R c _ _ _

theorem tot_qSec (arg0 : BitVec 32) (v12 : FVec F S1024x128 .f32) (v21 v39 : FVec F S16x128 .f32) : Tot R c (qSec R arg0 v12 v21 v39) := by
  unfold qSec
  exact Tot.bind (Tot.ld _ _ _ _ _) fun _ => Tot.bind (Tot.ld _ _ _ _ _) fun _ => Tot.bind (Tot.st _ _ _ _ _ _) fun _ =>
    Tot.bind (Tot.ld _ _ _ _ _) fun _ => Tot.bind (Tot.st _ _ _ _ _ _) fun _ => tot_qHeads R c _ _ _ _

theorem tot_initP : Tot R c (initP (F := F) R) := by
  unfold initP
  exact Tot.bind (Tot.ld _ _ _ _ _) fun _ => Tot.bind (Tot.st _ _ _ _ _ _) fun _ => Tot.bind (Tot.ld _ _ _ _ _) fun _ => Tot.bind (Tot.st _ _ _ _ _ _) fun _ =>
    Tot.bind (Tot.ld _ _ _ _ _) fun _ => Tot.bind (Tot.st _ _ _ _ _ _) fun _ => Tot.bind (Tot.ld _ _ _ _ _) fun _ => Tot.bind (Tot.st _ _ _ _ _ _) fun _ =>
    Tot.bind (Tot.ld _ _ _ _ _) fun _ => Tot.bind (Tot.st _ _ _ _ _ _) fun _ => Tot.bind (Tot.ld _ _ _ _ _) fun _ => Tot.bind (Tot.st _ _ _ _ _ _) fun _ =>
    Tot.bind (Tot.ld _ _ _ _ _) fun _ => Tot.st _ _ _ _ _ _

theorem tot_kHead (g : Fin 4) (o13 : Fin 3 → ℕ) (i13 : ∀ a, o13 a + S1x1x128.size a ≤ S4x32x128.size a)
    (o7 : Fin 3 → ℕ) (i7 : ∀ a, o7 a + S1x64x128.size a ≤ S1x256x4096.size a)
    (p7 : (Rect.unit (s := S1x256x4096) o7 S1x64x128.size i7).PackedRows (EltTy.packing .fp8e4m3))
    (xt : FVec F S256x128 .f32) (sc inv : FVec F S4x128 .f32) : Tot R c (kHead R g o13 i13 o7 i7 p7 xt sc inv) := by
  unfold kHead
  exact Tot.bind (Tot.ld _ _ _ _ _) fun _ => Tot.bind (Tot.st _ _ _ _ _ _) fun _ => Tot.bind (Tot.ld _ _ _ _ _) fun _ => Tot.st _ _ _ _ _ _

theorem tot_knPair (j : Fin 2) (o : Fin 3 → ℕ) (ih : ∀ a, o a + S1x128x128.size a ≤ S2x4096x128.size a)
    (p : (Rect.unit (s := S2x4096x128) o S1x128x128.size ih).PackedRows (EltTy.packing .fp8e4m3))
    (half : IVec S1x128 1) (x : FVec F S128x256 .f32) (inv : FVec F S4x128 .f32) : Tot R c (knPair R j o ih p half x inv) := by
  unfold knPair
  exact Tot.bind (Tot.ld _ _ _ _ _) fun _ => Tot.st _ _ _ _ _ _

theorem tot_kBody (i : grid0.Coords) (h2 : k0_cond2 i = 1#1) (t : Fin k0_t1_loop.trips) (acc : FVec F S4x128 .f32) : Tot R c (kBody R i h2 t acc) := by
  unfold kBody
  exact Tot.bind (Tot.ld _ _ _ _ _) fun _ => Tot.bind (tot_kHead R c _ _ _ _ _ _ _ _ _) fun _ => Tot.bind (tot_kHead R c _ _ _ _ _ _ _ _ _) fun _ =>
    Tot.bind (tot_kHead R c _ _ _ _ _ _ _ _ _) fun _ => Tot.bind (tot_kHead R c _ _ _ _ _ _ _ _ _) fun _ => Tot.bind (tot_knPair R c _ _ _ _ _ _ _) fun _ =>
    Tot.bind (tot_knPair R c _ _ _ _ _ _ _) fun _ => Tot.pure _

theorem tot_head84 (i : grid0.Coords) : Tot R c (head84 (F := F) R i) := by
  have h9 : Tot R c (do
      let v9 : Vec F S1x128x1024 .bf16 ← Att.ld R.a1 ![0, 0, 0] S1x128x1024.size inb_S1x128x1024_S1x128x1024_0_0_0 h_S1x128x1024
      pure (⟨BitVec.ofNat 32 (i 0).val, k0_pay468 v9, k0_pay469 v9, k0_pay470 v9⟩ :
        Σ' (arg0 : BitVec 32) (v12 : FVec F S1024x128 .f32) (v21 : FVec F S16x128 .f32), FVec F S16x128 .f32)) :=
    Tot.bind (Tot.ld _ _ _ _ _) fun _ => Tot.pure _
  have h2 := Tot.dite (P := k0_cond2 i = 1#1)
    (fun h => Tot.bind (Tot.loop k0_t1_loop (k0_t1_ok i h) (kBody R i h) (tot_kBody R c i h) (k0_pay464 (F := F))) fun v =>
      Tot.bind (Tot.ld R.a8 ![0, 0, 0] S1x4x32.size inb_S1x4x32_S1x4x32_0_0_0 h_S1x4x32) fun _ =>
      Tot.bind (Tot.st R.a8 ![0, 0, 0] S1x4x32.size inb_S1x4x32_S1x4x32_0_0_0 (k0_pay467 v) (View.stores_vmem_bits_univ h_S1x4x32 rfl)) fun _ => h9) fun _ => h9
  have h1 := Tot.dite (P := Scalar.cmpi .ne (Scalar.extui (Scalar.cmpi .eq (BitVec.ofNat 32 (i 0).val) 0#32) : BitVec 32) 0#32 = 1#1)
    (fun _ => Tot.bind (tot_initP (F := F) R c) fun _ => h2) fun _ => h2
  unfold head84
  exact h1

theorem tot_vScale (i : grid0.Coords) (h3 : k0_cond3 i = 1#1) : Tot R c (vScale (F := F) R i h3) := by
  unfold vScale
  exact Tot.bind (Tot.loop _ _ _ (fun t a => by unfold vMaxBody; exact Tot.bind (Tot.ld _ _ _ _ _) fun _ => Tot.pure _) _) fun _ =>
    Tot.bind (Tot.ld _ _ _ _ _) fun _ => Tot.bind (Tot.st _ _ _ _ _ _) fun _ => Tot.pure _

theorem tot_vBody (i : grid0.Coords) (h3 : k0_cond3 i = 1#1) (inv : FVec F S8x256 .f32) (t : Fin k0_t3_loop.trips) (a : Unit) :
    Tot R c (vBody R i h3 inv t a) := by
  unfold vBody
  exact Tot.bind (Tot.ld _ _ _ _ _) fun _ => Tot.bind (Tot.ld _ _ _ _ _) fun _ => Tot.bind (Tot.st _ _ _ _ _ _) fun _ =>
    Tot.bind (Tot.ld _ _ _ _ _) fun _ => Tot.bind (Tot.st _ _ _ _ _ _) fun _ => Tot.pure _

theorem tot_tail118 (i : grid0.Coords) (arg0 : BitVec 32) (o : FVec F S64x512 .f32) : Tot R c (tail118 R i arg0 o) := by
  have hp : Tot R c (pure (Scalar.cmpi .ne (Scalar.extui (Scalar.cmpi .slt arg0 256#32) : BitVec 32) 0#32) : PR F (BitVec 1)) := Tot.pure _
  have h3 := Tot.dite (P := k0_cond3 i = 1#1)
    (fun h => Tot.bind (tot_vScale (F := F) R c i h) fun z =>
      Tot.bind (Tot.ld R.a15 ![0, 0] S256x128.size inb_S256x128_S256x128_0_0 h_S256x128) fun _ =>
      Tot.bind (Tot.st R.a15 ![0, 0] S256x128.size inb_S256x128_S256x128_0_0 (k0_pay663 z.2) (View.stores_vmem_bits_univ h_S256x128 rfl)) fun _ =>
      Tot.bind (Tot.loop k0_t3_loop (k0_t3_ok i h) (vBody R i h z.1) (tot_vBody R c i h z.1) ⟨⟩) fun _ => hp) fun _ => hp
  unfold tail118
  refine Tot.bind (Tot.ld _ _ _ _ _) fun _ => Tot.bind (Tot.st _ _ _ _ _ _) fun _ => Tot.bind (Tot.ld _ _ _ _ _) fun _ => Tot.bind (Tot.st _ _ _ _ _ _) fun _ => ?_
  exact h3

theorem tot_outCopy : Tot R c (outCopy (F := F) R) := by
  unfold outCopy
  exact Tot.bind (Tot.ld _ _ _ _ _) fun _ => Tot.bind (Tot.ld _ _ _ _ _) fun _ => Tot.st _ _ _ _ _ _

theorem tot_cRow (g : ℕ) (hg : g < 4) (l : ℕ) (hl : l < 4) : Tot R c (cRow (F := F) R.a13 R.a17 R.a18 g hg l hl) := by
  unfold cRow
  exact Tot.bind (Tot.ld _ _ _ _ _) fun _ => Tot.bind (Tot.ld _ _ _ _ _) fun _ => Tot.bind (Tot.ld _ _ _ _ _) fun _ => Tot.st _ _ _ _ _ _

theorem tot_chunk (g : ℕ) (hg : g < 4) (m8 : FVec F S8x512 .f32) (j : ℕ) (hj : j < 8) (rs mx : FVec F S8x512 .f32) :
    Tot R c (chunk R.a11 R.a12 R.a14 R.a16 R.a18 g hg m8 j hj rs mx) := by
  intro s
  exact ⟨_, _, chunk_run R c g hg m8 j hj rs mx s, rfl, rfl, rfl⟩

theorem tot_chunks (g : ℕ) (hg : g < 4) (m8 : FVec F S8x512 .f32) : ∀ (n : ℕ) (h : n < 8), Tot R c (chunks R.a11 R.a12 R.a14 R.a16 R.a18 g hg m8 n h)
  | 0, h => tot_chunk R c _ _ _ _ _ _ _
  | n + 1, h => Tot.bind (tot_chunks g hg m8 n (by omega)) fun r => Tot.bind (tot_chunk R c _ _ _ _ _ _ _) fun _ => Tot.pure _

theorem tot_core (g : ℕ) (hg : g < 4) : Tot R c (core (F := F) R g hg) := by
  unfold core headCore
  exact Tot.bind (tot_cRow R c _ _ _ _) fun _ => Tot.bind (tot_cRow R c _ _ _ _) fun _ => Tot.bind (tot_cRow R c _ _ _ _) fun _ => Tot.bind (tot_cRow R c _ _ _ _) fun _ =>
    Tot.bind (Tot.ld _ _ _ _ _) fun _ => Tot.bind (tot_chunks R c _ _ _ _ _) fun _ => Tot.bind (Tot.ld _ _ _ _ _) fun _ =>
    Tot.bind (Tot.st _ _ _ _ _ _) fun _ => Tot.bind (Tot.ld _ _ _ _ _) fun _ => Tot.pure _

theorem tot_rest (g : ℕ) (hg : g < 3) : Tot R c (rest (F := F) R g hg) := by
  unfold rest headRest
  exact Tot.bind (tot_core R c _ _) fun _ => Tot.bind (Tot.ld _ _ _ _ _) fun _ => Tot.bind (Tot.st _ _ _ _ _ _) fun _ =>
    Tot.bind (Tot.ld _ _ _ _ _) fun _ => Tot.st _ _ _ _ _ _

theorem tot_body (i : grid0.Coords) : Tot R c (body (F := F) R i) := by
  have h4 : ∀ v : BitVec 1, Tot R c (if h : v = 1#1 then (do
      rest (F := F) R 0 (by decide)
      rest R 1 (by decide)
      rest R 2 (by decide)
      pure ⟨⟩) else pure (⟨⟩ : PUnit)) := fun v =>
    Tot.dite (fun _ => Tot.bind (tot_rest R c 0 (by decide)) fun _ => Tot.bind (tot_rest R c 1 (by decide)) fun _ => Tot.bind (tot_rest R c 2 (by decide)) fun _ => Tot.pure _)
      fun _ => Tot.pure _
  unfold body
  exact Tot.bind (tot_head84 R c i) fun z => Tot.bind (tot_qSec R c z.1 z.2.1 z.2.2.1 z.2.2.2) fun _ => Tot.bind (tot_outCopy R c) fun _ =>
    Tot.bind (tot_core R c 0 (by decide)) fun o => Tot.bind (tot_tail118 R c i z.1 o) fun v => h4 v

end Cert.KernelIdeal.Att
-- ==== Proof.Launch.lean ====
/- The kernel launched: the pipeline's relational proof data whose invariant holds the ten scratch buffers at a record of
   contents satisfying `J`, and whose windows change by the relations `A`. If the body steps from `J t` to `J (t + 1)`
   by those relations then the run of @main ends with the pipeline's post for them. -/
module

public import proofs.«01_k».proof.Proof.Body
public import proofs.«01_k».proof.Proof.Total
public import proofs.«01_k».proof.Proof.Gen.KernelIdeal.Frame

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The memrefs the body is called at, at grid point `t`. -/
def refs (t : Fin cfg0.N) : Refs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := Memref.whole cc0_scratch0
  h11 := Memref.isWhole_whole _
  a12 := Memref.whole cc0_scratch1
  h12 := Memref.isWhole_whole _
  a13 := Memref.whole cc0_scratch2
  h13 := Memref.isWhole_whole _
  a14 := Memref.whole cc0_scratch3
  h14 := Memref.isWhole_whole _
  a15 := Memref.whole cc0_scratch4
  h15 := Memref.isWhole_whole _
  a16 := Memref.whole cc0_scratch5
  h16 := Memref.isWhole_whole _
  a17 := Memref.whole cc0_scratch6
  h17 := Memref.isWhole_whole _
  a18 := Memref.whole cc0_scratch7
  h18 := Memref.isWhole_whole _
  a19 := Memref.whole cc0_scratch8
  h19 := Memref.isWhole_whole _
  a20 := Memref.whole cc0_scratch9
  h20 := Memref.isWhole_whole _

/-- How the body changes each output block. -/
structure Rel (F : FTy → Type) where
  out : Fin cfg0.N → (Vec F S1x128x1024 .bf16) → (Vec F S1x128x1024 .bf16) → Prop
  qc : Fin cfg0.N → (Vec F S1x1024x128 .fp8e4m3) → (Vec F S1x1024x128 .fp8e4m3) → Prop
  qs : Fin cfg0.N → (Vec F S1x16x32 .f32) → (Vec F S1x16x32 .f32) → Prop
  kc : Fin cfg0.N → (Vec F S1x256x4096 .fp8e4m3) → (Vec F S1x256x4096 .fp8e4m3) → Prop
  ks : Fin cfg0.N → (Vec F S1x4x32 .f32) → (Vec F S1x4x32 .f32) → Prop
  vc : Fin cfg0.N → (Vec F S1x256x4096 .fp8e4m3) → (Vec F S1x256x4096 .fp8e4m3) → Prop
  vs : Fin cfg0.N → (Vec F S1x1x256 .f32) → (Vec F S1x1x256 .f32) → Prop

/-- What the body leaves in a window. -/
def Rel.after (A : Rel F) : (w : Fin cfg0.W) → Fin cfg0.N → (Y X : (cfg0.win w).block.Idx → Elt F (cfg0.win w).elt) → Prop
  | ⟨0, _⟩ => fun t Y X => X = Y
  | ⟨1, _⟩ => fun t Y X => X = Y
  | ⟨2, _⟩ => fun t Y X => X = Y
  | ⟨3, _⟩ => A.out
  | ⟨4, _⟩ => A.qc
  | ⟨5, _⟩ => A.qs
  | ⟨6, _⟩ => A.kc
  | ⟨7, _⟩ => A.ks
  | ⟨8, _⟩ => A.vc
  | ⟨9, _⟩ => A.vs

/-- The ten scratch buffers at the contents `s`. -/
def scr (c : Dev nD) (s : St F) : sProp 𝕄 :=
  iprop(at' c (Memref.whole cc0_scratch0) s.s ∗ at' c (Memref.whole cc0_scratch1) s.kn ∗ at' c (Memref.whole cc0_scratch2) s.ksr ∗ at' c (Memref.whole cc0_scratch3) s.vt ∗ at' c (Memref.whole cc0_scratch4) s.vcol ∗ at' c (Memref.whole cc0_scratch5) s.qz ∗ at' c (Memref.whole cc0_scratch6) s.qsr ∗ at' c (Memref.whole cc0_scratch7) s.c ∗ at' c (Memref.whole cc0_scratch8) s.m ∗ at' c (Memref.whole cc0_scratch9) s.obuf)

/-- The proof data. -/
def rdat (J : Dev nD → ℕ → St F → Prop) (A : Dev nD → Rel F) (c : Dev nD) : RDat τ (Elt F) Unit ℕ (UR sig nD τ) ℕ cfg0 c where
  A w := V m c (Pipeline.arrRef spec0 w)
  after := (A c).after
  Φ t := iprop(∃ s : St F, ⌜J c t.val s⌝ ∗ scr c s ∗ ∃ r, prngReg c r)
  q _ := fullShare
  owed _ := 0

theorem phi_eq (J : Dev nD → ℕ → St F → Prop) (A : Dev nD → Rel F) (c : Dev nD) (t : Fin (cfg0.N + 1)) :
    (rdat m J A c).Φ t = iprop(∃ s : St F, ⌜J c t.val s⌝ ∗ scr c s ∗ ∃ r, prngReg c r) := rfl

theorem A_eq (J : Dev nD → ℕ → St F → Prop) (A : Dev nD → Rel F) (c : Dev nD) (w : Fin cfg0.W) :
    (rdat m J A c).A w = V m c (Pipeline.arrRef spec0 w) := by dsimp only [rdat]

/-- What is asked of a step. -/
structure Step (J : Dev nD → ℕ → St F → Prop) (A : Dev nD → Rel F) : Prop where
  zero : ∀ c s, J c 0 s
  scratch : ∀ c n s (x : Vec F S1x128x1024 .bf16) (k v : Vec F S1x4096x256 .bf16) (out : Vec F S1x128x1024 .bf16) (qc : Vec F S1x1024x128 .fp8e4m3)
    (qs : Vec F S1x16x32 .f32) (kc : Vec F S1x256x4096 .fp8e4m3) (ks : Vec F S1x4x32 .f32) (vc : Vec F S1x256x4096 .fp8e4m3) (vs : Vec F S1x1x256 .f32),
    J c n s → J c n {s with x := x, k := k, v := v, out := out, qc := qc, qs := qs, kc := kc, ks := ks, vc := vc, vs := vs}
  step : ∀ (c : Dev nD) (t : Fin cfg0.N) (s : St F), s.x = iblk m c 0 t → s.k = iblk m c 1 t → s.v = iblk m c 2 t → J c t.val s →
    ∃ s', Runs (refs t) c (body (refs t) (grid0.coords t)) s ⟨⟩ s' ∧ J c (t.val + 1) s' ∧ Keeps s s' ∧
      (A c).out t s.out s'.out ∧ (A c).qc t s.qc s'.qc ∧ (A c).qs t s.qs s'.qs ∧ (A c).kc t s.kc s'.kc ∧ (A c).ks t s.ks s'.ks ∧
      (A c).vc t s.vc s'.vc ∧ (A c).vs t s.vs s'.vs

theorem finds0 (J : Dev nD → ℕ → St F → Prop) (A : Dev nD → Rel F) (c : Dev nD) (t : Fin cfg0.N) (Y) (h : (rdat m J A c).Finds 0 t Y) : Y = iblk m c 0 t := by
  obtain ⟨d, h⟩ := RDat.finds_in_eq_fetched (rdat m J A c) 0 rfl (fun _ _ _ => rfl) (fun t Y X h => h) t Y h
  exact h.trans (by unfold RDat.fetched RDat.blockOf iblk; rw [A_eq]; try rfl)

theorem finds1 (J : Dev nD → ℕ → St F → Prop) (A : Dev nD → Rel F) (c : Dev nD) (t : Fin cfg0.N) (Y) (h : (rdat m J A c).Finds 1 t Y) : Y = iblk m c 1 t := by
  obtain ⟨d, h⟩ := RDat.finds_in_eq_fetched (rdat m J A c) 1 rfl (fun _ _ _ => rfl) (fun t Y X h => h) t Y h
  exact h.trans (by unfold RDat.fetched RDat.blockOf iblk; rw [A_eq]; try rfl)

theorem finds2 (J : Dev nD → ℕ → St F → Prop) (A : Dev nD → Rel F) (c : Dev nD) (t : Fin cfg0.N) (Y) (h : (rdat m J A c).Finds 2 t Y) : Y = iblk m c 2 t := by
  obtain ⟨d, h⟩ := RDat.finds_in_eq_fetched (rdat m J A c) 2 rfl (fun _ _ _ => rfl) (fun t Y X h => h) t Y h
  exact h.trans (by unfold RDat.fetched RDat.blockOf iblk; rw [A_eq]; try rfl)

theorem bodyAt_eq (t : Fin cfg0.N) : bodyAt0 (F := F) t = body (refs t) (grid0.coords t) := body_eq (refs t) (grid0.coords t)

theorem defs₀_row (t : Fin cfg0.N) : defs₀ (F := F) .tc cfg0.body (cfg0.bodyArgs t (cfg0.slots t)) = bodyAt0 t := by
  unfold defs₀; rw [Defs.onTc_tc]

variable {m}

/-- The body's obligation. -/
theorem obligation {J : Dev nD → ℕ → St F → Prop} {A : Dev nD → Rel F} (H : Step m J A) (c : Dev nD) :
    (rdat m J A c).BodyObligation (defs₀ (F := F)) Variants.none () Set.univ := by
  intro t Y hY
  rw [bigSep_W0, bigSep_W0, defs₀_row, bodyAt_eq]
  unfold RDat.owesAt Pipeline.owesWithin
  rw [show (rdat m J A c).owed t.castSucc = 0 from rfl, show (rdat m J A c).owed t.succ = 0 from rfl]
  rw [phi_eq, phi_eq]
  iintro ⟨⟨%s0, %hJ, HS, Hg⟩, ⟨%W, %hW, HO⟩, H0, H1, H2, H3, H4, H5, H6, H7, H8, H9⟩
  unfold scr
  icases HS with ⟨S0, S1, S2, S3, S4, S5, S6, S7, S8, S9⟩
  have hs := H.step c t {s0 with x := Y 0, k := Y 1, v := Y 2, out := Y 3, qc := Y 4, qs := Y 5, kc := Y 6, ks := Y 7, vc := Y 8, vs := Y 9} (finds0 m J A c t _ (hY 0)) (finds1 m J A c t _ (hY 1)) (finds2 m J A c t _ (hY 2))
    (H.scratch c _ s0 _ _ _ _ _ _ _ _ _ _ hJ)
  obtain ⟨s', run, hJ', hk, r3, r4, r5, r6, r7, r8, r9⟩ := hs
  iapply (run Set.univ _)
  simp only [own, sepL]
  isplitl [H0 H1 H2 H3 H4 H5 H6 H7 H8 H9 S0 S1 S2 S3 S4 S5 S6 S7 S8 S9]
  · skip
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iempintro
  iintro ⟨H0, H1, H2, H3, H4, H5, H6, H7, H8, H9, S0, S1, S2, S3, S4, S5, S6, S7, S8, S9, -⟩
  isplitl [S0 S1 S2 S3 S4 S5 S6 S7 S8 S9 Hg]
  · iexists s'
    isplitr; · ipureintro; exact hJ'
    isplitl [S0 S1 S2 S3 S4 S5 S6 S7 S8 S9]
    · skip
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [HO]
  · iexists W; isplitr; · ipureintro; exact fun _ _ => Or.inl trivial
    iexact HO
  isplitl [H0]
  · iexists _; isplitr; swap; · iexact H0
    ipureintro; exact hk.x
  isplitl [H1]
  · iexists _; isplitr; swap; · iexact H1
    ipureintro; exact hk.k
  isplitl [H2]
  · iexists _; isplitr; swap; · iexact H2
    ipureintro; exact hk.v
  isplitl [H3]
  · iexists _; isplitr; swap; · iexact H3
    ipureintro; exact r3
  isplitl [H4]
  · iexists _; isplitr; swap; · iexact H4
    ipureintro; exact r4
  isplitl [H5]
  · iexists _; isplitr; swap; · iexact H5
    ipureintro; exact r5
  isplitl [H6]
  · iexists _; isplitr; swap; · iexact H6
    ipureintro; exact r6
  isplitl [H7]
  · iexists _; isplitr; swap; · iexact H7
    ipureintro; exact r7
  isplitl [H8]
  · iexists _; isplitr; swap; · iexact H8
    ipureintro; exact r8
  · iexists _; isplitr; swap; · iexact H9
    ipureintro; exact r9

/-- The first grid point. -/
abbrev t0 : Fin cfg0.N := ⟨0, by decide⟩

theorem phi_in {J : Dev nD → ℕ → St F → Prop} {A : Dev nD → Rel F} (H : Step m J A) (c : Dev nD) : Pipeline.ΦA spec0 c ⊢ (rdat m J A c).Φ 0 := by
  show _ ⊢ iprop(∃ s : St F, ⌜J c 0 s⌝ ∗ scr c s ∗ ∃ r, prngReg c r)
  unfold Pipeline.ΦA
  rw [scopedRest0_eq]
  iintro ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, Hg⟩
  iexists ({x := iblk m c 0 t0, k := iblk m c 1 t0, v := iblk m c 2 t0, out := fun _ => Scalar.ofBits .bf16 0#16, qc := fun _ => Scalar.ofBits .fp8e4m3 0#8, qs := fun _ => Scalar.ofBits .f32 0#32, kc := fun _ => Scalar.ofBits .fp8e4m3 0#8, ks := fun _ => Scalar.ofBits .f32 0#32, vc := fun _ => Scalar.ofBits .fp8e4m3 0#8, vs := fun _ => Scalar.ofBits .f32 0#32, s := f0, kn := f1, ksr := f2, vt := f3, vcol := f4, qz := f5, qsr := f6, c := f7, m := f8, obuf := f9} : St F)
  isplitr; · ipureintro; exact H.zero c _
  isplitr [Hg]
  · unfold scr
    simp only [at', owns_whole]
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iexact Hg

theorem phi_out {J : Dev nD → ℕ → St F → Prop} {A : Dev nD → Rel F} (c : Dev nD) : (rdat m J A c).Φ (Fin.last cfg0.N) ⊢ Pipeline.ΦA spec0 c := by
  show iprop(∃ s : St F, ⌜J c _ s⌝ ∗ scr c s ∗ ∃ r, prngReg c r) ⊢ _
  unfold Pipeline.ΦA
  rw [scopedRest0_eq]
  unfold scr
  simp only [at', owns_whole]
  iintro ⟨%s, %hJ, ⟨S0, S1, S2, S3, S4, S5, S6, S7, S8, S9⟩, Hg⟩
  isplitr [Hg]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    iexists _; iexact S9
  iexact Hg

-- the launch theorem's implicit arguments are found by unifying its conclusion with this statement, which unifies only
-- when unification may unfold plain definitions in a metavariable's type
set_option backward.isDefEq.respectTransparency.types false in
/-- The run of @main. -/
theorem run_main {J : Dev nD → ℕ → St F → Prop} {A : Dev nD → Rel F} (H : Step m J A) :
    θ_run defs (onTc (τ := τ) (main (F := F))) (s₀ m ρ)
      (fun r => RDat.FramePost (cfgs 0) (rdat m J A) (V m) r ∧ r.2.sem = fun _ => 0) :=
  RDat.θ_run_frame_track (Q' := _) cfgs (0 : Fin 1) launch0 defs₀ Variants.none (rdat m J A) m ρ main
    (hbody := fun c => obligation H c) (hshare := fun c => (rdat m J A c).share_full fun _ => rfl)
    (howed := fun _ _ => rfl) (V := V m) (hmain := hmain m Variants.none) (hA := A_eq m J A)
    (hin := fun c => phi_in H c) (hout := fun c => phi_out c)

end Cert.KernelIdeal.Att
-- ==== Proof.Quiet.lean ====
/- The run of @main ends, faults nowhere, and leaves the arguments as they were and every semaphore at zero, whatever
   floats are. -/
module

public import proofs.«01_k».proof.Proof.Launch

@[expose] public section

set_option maxRecDepth 16384

noncomputable section

namespace Cert.KernelIdeal.Att

open Cert.KernelIdeal Cert.KernelIdeal.Gen
open Idealize.ShloMosaic Idealize.ShloMosaic.TcCoe Idealize.SL.Sem
open Idealize.ShloMosaic.Pipeline (RDat)

variable {F : FTy → Type} [FloatOps F] [Named F]
variable (m : (ℓ : Loc nD τ sig) → Buf (Elt F) ℓ) (ρ : Dev nD → PrngReg)

/-- No constraint on the outputs. -/
def anyRel (F : FTy → Type) : Rel F :=
  ⟨fun _ _ _ => True, fun _ _ _ => True, fun _ _ _ => True, fun _ _ _ => True, fun _ _ _ => True, fun _ _ _ => True, fun _ _ _ => True⟩

theorem anyStep : Step m (fun _ _ _ => True) (fun _ => anyRel F) where
  zero _ _ := trivial
  scratch _ _ _ _ _ _ _ _ _ _ _ _ _ _ := trivial
  step c t s _ _ _ _ := by
    obtain ⟨⟨⟩, s', r, k⟩ := tot_body (refs t) c (grid0.coords t) s
    exact ⟨s', r, trivial, k, trivial, trivial, trivial, trivial, trivial, trivial, trivial⟩

/-- After a run the arguments are what they were. -/
theorem args_of {J : Dev nD → ℕ → St F → Prop} {A : Dev nD → Rel F} {r : PUnit × MemSt nD τ sig (Elt F)}
    (h : RDat.FramePost (cfgs 0) (rdat m J A) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨h.arr_in c 0 rfl, h.arr_in c 1 rfl, h.arr_in c 2 rfl⟩

theorem quiet :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨args_of m h.1, h.2⟩) (run_main ρ (anyStep m))

end Cert.KernelIdeal.Att
-- ==== Proof.QuietBits.lean ====
/- The printed kernel is the idealized one read at bits, the named constant being its word there: so its run ends as the
   idealized kernel's does at any floats. -/
module

public import proofs.«01_k».proof.Proof.Quiet
public import Idealize.ShloMosaic.PureOps.BitExact
public import proofs.«01_k».proof.Proof.Gen.Kernel.Skeleton
public import proofs.«01_k».proof.Proof.Gen.Kernel.Frame
public import proofs.«01_k».proof.Defs

@[expose] public section

set_option maxRecDepth 16384

noncomputable section

namespace Cert.KernelIdeal.Att

open Idealize.ShloMosaic Idealize.SL.Sem Cert.KernelIdeal Cert.KernelIdeal.Gen

/-- A named constant read at a format's own bits. -/
@[reducible] def namedBits : Named Bits := ⟨fun _ _ φ b => Scalar.ofBits φ b⟩

attribute [local instance] namedBits

theorem body_bits : Cert.Kernel.cc0_fp8_gqa (F := Bits) = cc0_fp8_gqa (F := Bits) := by
  rw [Cert.Kernel.Gen.cc0_fp8_gqa_eq_skeleton, cc0_fp8_gqa_eq_skeleton]
  sl_kernel_rfl

theorem defs_bits : Cert.Kernel.defs₀ (F := Bits) = defs₀ (F := Bits) := by
  unfold Cert.Kernel.defs₀ defs₀
  rw [body_bits]
  sl_kernel_rfl

theorem defsAll_bits : Cert.Kernel.defs (F := Bits) = defs (F := Bits) := by
  unfold Cert.Kernel.defs defs
  rw [defs_bits]
  sl_kernel_rfl

/-- The printed kernel's run. -/
theorem quiet_bits : Cert.quiescent_Kernel := by
  intro m g _
  rw [defsAll_bits]
  exact quiet (F := Bits) m g

end Cert.KernelIdeal.Att
-- ==== Proof.Spec.lean ====
/- What the kernel computes, as functions of one sequence's queries, keys and values at natural-number indices
   (row, feature) over the extended reals: block scales, codes, scores, probabilities, outputs. -/
module

public import proofs.«01_k».proof.Proof.PassVal

@[expose] public section

noncomputable section

namespace Cert.KernelIdeal.Att

open Idealize.ShloMosaic Cert.KernelIdeal

/-- The magnitude. -/
def absA (x : EReal) : EReal := max x (-x)

/-- The exponent of the power of two above `y`, as the kernel finds it. -/
def kE (y : EReal) : EReal :=
  Scalar.select (Ideal.cmp .oeq y (Ideal.ofBits FTy.f32 0x00000000#32)) (Ideal.ofBits FTy.f32 0x00000000#32)
    (Scalar.select (Ideal.cmp .olt y (Ideal.exp2 (Ideal.liftRound Int.floor (Ideal.div (Ideal.log y) (Ideal.log (Ideal.ofBits FTy.f32 0x40000000#32))))))
      (Ideal.liftRound Int.floor (Ideal.div (Ideal.log y) (Ideal.log (Ideal.ofBits FTy.f32 0x40000000#32))) - Ideal.ofBits FTy.f32 0x3F800000#32)
      (Scalar.select (Ideal.cmp .oge y (Ideal.ofBits FTy.f32 0x40000000#32
          * Ideal.exp2 (Ideal.liftRound Int.floor (Ideal.div (Ideal.log y) (Ideal.log (Ideal.ofBits FTy.f32 0x40000000#32))))))
        (Ideal.liftRound Int.floor (Ideal.div (Ideal.log y) (Ideal.log (Ideal.ofBits FTy.f32 0x40000000#32))) + Ideal.ofBits FTy.f32 0x3F800000#32)
        (Ideal.liftRound Int.floor (Ideal.div (Ideal.log y) (Ideal.log (Ideal.ofBits FTy.f32 0x40000000#32)))))
      + Ideal.ofBits FTy.f32 0x3F800000#32)

/-- The scale of a block whose largest magnitude is `a`. -/
def SC (a : EReal) : EReal := Ideal.exp2 (kE (a * Ideal.ofBits FTy.f32 0x3B124925#32))
/-- Its inverse. -/
def IV (a : EReal) : EReal := Ideal.exp2 (Ideal.ofBits FTy.f32 0x00000000#32 - kE (a * Ideal.ofBits FTy.f32 0x3B124925#32))

/-- The largest magnitude of block `i` of 128 rows in head `h` of 64 features. -/
def amaxB (X : ℕ → ℕ → EReal) (i h : ℕ) : EReal :=
  (Finset.range 64).sup fun d => (Finset.range 128).sup fun w => absA (X (128 * i + w) (64 * h + d))

/-- The largest magnitude of a feature. -/
def amaxV (X : ℕ → ℕ → EReal) (f : ℕ) : EReal := (Finset.range 4096).sup fun n => absA (X n f)

/-- The code of a query or a key. -/
def codeB (X : ℕ → ℕ → EReal) (n f : ℕ) : EReal := clip (X n f * IV (amaxB X (n / 128) (f / 64)))

/-- The code of a value. -/
def codeV (X : ℕ → ℕ → EReal) (n f : ℕ) : EReal := clip (X n f * IV (amaxV X f))

/-- The factor of the exponents. -/
abbrev fac : EReal := Named.named (F := Ideal) κ "scale_log2e" (φ := .f32) 0x3E38AA3B#32

/-- The score of key `n` for query `q` of head `l` of key head `g`. -/
def scS (x k : ℕ → ℕ → EReal) (g l q n : ℕ) : EReal :=
  ∑ d ∈ Finset.range 64, codeB k n (64 * g + d) * codeB x q (64 * (4 * g + l) + d)

/-- The combined scale of key block `r` and query block `i`. -/
def scC (x k : ℕ → ℕ → EReal) (g l i r : ℕ) : EReal := SC (amaxB k r g) * (SC (amaxB x i (4 * g + l)) * fac)

/-- The largest scaled score. -/
def scM (x k : ℕ → ℕ → EReal) (g l q : ℕ) : EReal :=
  (Finset.range 4096).sup fun n => scS x k g l q n * scC x k g l (q / 128) (n / 128)

/-- The shifted probability. -/
def scP (x k : ℕ → ℕ → EReal) (g l q n : ℕ) : EReal :=
  Ideal.exp2 (scS x k g l q n * scC x k g l (q / 128) (n / 128) - (scM x k g l q - c8))

/-- The output. -/
def scO (x k v : ℕ → ℕ → EReal) (g l q d : ℕ) : EReal :=
  Ideal.div ((∑ n ∈ Finset.range 4096, codeV v n (64 * g + d) * clip (scP x k g l q n)) * SC (amaxV v (64 * g + d)))
    (∑ n ∈ Finset.range 4096, scP x k g l q n)

/-! ## Signs -/

theorem absA_nonneg (x : EReal) : 0 ≤ absA x := by
  unfold absA
  rcases le_total 0 x with h | h
  · exact le_max_of_le_left h
  · exact le_max_of_le_right (EReal.neg_nonneg.2 h)

theorem amaxB_nonneg (X : ℕ → ℕ → EReal) (i h : ℕ) : 0 ≤ amaxB X i h :=
  (absA_nonneg _).trans ((Finset.le_sup (f := fun w => absA (X (128 * i + w) (64 * h + 0))) (Finset.mem_range.2 (by decide : 0 < 128))).trans
    (Finset.le_sup (f := fun d => (Finset.range 128).sup fun w => absA (X (128 * i + w) (64 * h + d))) (Finset.mem_range.2 (by decide : 0 < 64))))

theorem amaxV_nonneg (X : ℕ → ℕ → EReal) (f : ℕ) : 0 ≤ amaxV X f :=
  (absA_nonneg _).trans (Finset.le_sup (f := fun n => absA (X n f)) (Finset.mem_range.2 (by decide : 0 < 4096)))

end Cert.KernelIdeal.Att
-- ==== Proof.Scale.lean ====
/- The scale of a block. The exponent the kernel finds corrects a rounded logarithm; over the extended reals the
   correction never acts, so the exponent is the floor of the base-two logarithm plus one, as the reference has it. -/
module

public import proofs.«01_k».proof.Proof.Spec

@[expose] public section

noncomputable section

namespace Cert.KernelIdeal.Att

open Idealize.ShloMosaic

/-- The exponent of the scale of a block whose largest magnitude is `a`, as the reference states it. -/
def rE (a : EReal) : EReal :=
  Scalar.select (Ideal.cmp .oeq a (Ideal.ofBits FTy.f32 0x00000000#32)) (Ideal.ofBits FTy.f32 0x00000000#32)
    (Ideal.liftRound Int.floor (Ideal.div (Ideal.log (a * Ideal.ofBits FTy.f32 0x3B124925#32)) (Ideal.log (Ideal.ofBits FTy.f32 0x40000000#32)))
      + Ideal.ofBits FTy.f32 0x3F800000#32)

theorem two_bits : Ideal.ofBits FTy.f32 0x40000000#32 = ((2 : ℝ) : EReal) := by
  simp [Ideal.ofBits, Ideal.ieee]
  rw [← EReal.coe_mul]
  norm_num

theorem inv448_bits : ∃ r : ℝ, 0 < r ∧ Ideal.ofBits FTy.f32 0x3B124925#32 = (r : EReal) := by
  refine ⟨_, ?_, by simp [Ideal.ofBits, Ideal.ieee]; rfl⟩
  positivity

theorem log_two : Ideal.log (Ideal.ofBits FTy.f32 0x40000000#32) = ((Real.log 2 : ℝ) : EReal) := by
  rw [two_bits]
  show (if (2 : ℝ) ≤ 0 then (⊥ : EReal) else ((Real.log 2 : ℝ) : EReal)) = _
  rw [if_neg (by norm_num)]

theorem log2_pos : 0 < Real.log 2 := Real.log_pos (by norm_num)

/-- A choice on a decided condition. -/
theorem select_ofBool {α : Type} (p : Bool) (x y : α) : Scalar.select (BitVec.ofBool p) x y = if p then x else y := by
  cases p <;> rfl

theorem div_real (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem kE_top : kE ⊤ = ⊤ := by
  have e0 : Ideal.liftRound Int.floor (Ideal.div (Ideal.log ⊤) (Ideal.log (Ideal.ofBits FTy.f32 0x40000000#32))) = ⊤ := by
    rw [log_two]
    show Ideal.liftRound Int.floor (Ideal.div ⊤ _) = ⊤
    unfold Ideal.div
    rw [if_neg (by exact_mod_cast log2_pos.ne'), ← EReal.coe_inv, EReal.top_mul_coe_of_pos (inv_pos.mpr log2_pos)]
    rfl
  unfold kE
  rw [e0, Ideal.ofBits_zero_f32, Ideal.ofBits_one_f32, two_bits]
  simp only [Ideal.cmp, select_ofBool]
  rw [show Ideal.exp2 ⊤ = ⊤ from rfl, EReal.coe_mul_top_of_pos (by norm_num)]
  simp only [lt_self_iff_false, decide_false, le_refl, decide_true, if_true, Bool.false_eq_true, if_false, EReal.top_ne_zero]
  rw [show (1 : EReal) = ((1 : ℝ) : EReal) from rfl, EReal.top_add_coe, EReal.top_add_coe]

theorem kE_pos (y : ℝ) (hy : 0 < y) : kE (y : EReal) = ((((⌊Real.log y / Real.log 2⌋ : ℤ) : ℝ) + 1 : ℝ) : EReal) := by
  have e0 : Ideal.liftRound Int.floor (Ideal.div (Ideal.log (y : EReal)) (Ideal.log (Ideal.ofBits FTy.f32 0x40000000#32)))
      = (((⌊Real.log y / Real.log 2⌋ : ℤ) : ℝ) : EReal) := by
    rw [log_two]
    rw [show Ideal.log (y : EReal) = ((Real.log y : ℝ) : EReal) from if_neg (not_le.mpr hy), div_real _ _ log2_pos.ne']
    rfl
  have hy2 : (2 : ℝ) ^ (Real.log y / Real.log 2) = y := by
    rw [Real.rpow_def_of_pos (by norm_num), mul_div_cancel₀ _ log2_pos.ne', Real.exp_log hy]
  have lo : (2 : ℝ) ^ ((⌊Real.log y / Real.log 2⌋ : ℤ) : ℝ) ≤ y :=
    (Real.rpow_le_rpow_of_exponent_le (by norm_num) (Int.floor_le _)).trans_eq hy2
  have hi : y < 2 * (2 : ℝ) ^ ((⌊Real.log y / Real.log 2⌋ : ℤ) : ℝ) := by
    have := Real.rpow_lt_rpow_of_exponent_lt (x := 2) (by norm_num) (Int.lt_floor_add_one (Real.log y / Real.log 2))
    rw [hy2, Real.rpow_add (by norm_num), Real.rpow_one] at this
    linarith
  unfold kE
  rw [e0, Ideal.ofBits_zero_f32, Ideal.ofBits_one_f32, two_bits]
  simp only [Ideal.cmp, select_ofBool]
  rw [show Ideal.exp2 ((((⌊Real.log y / Real.log 2⌋ : ℤ) : ℝ)) : EReal) = (((2 : ℝ) ^ ((⌊Real.log y / Real.log 2⌋ : ℤ) : ℝ) : ℝ) : EReal) from rfl,
    ← EReal.coe_mul]
  rw [if_neg (by simp only [decide_eq_true_eq]; exact_mod_cast hy.ne'),
    if_neg (by simp only [decide_eq_true_eq, not_lt]; exact_mod_cast lo),
    if_neg (by simp only [decide_eq_true_eq, not_le]; exact_mod_cast hi)]
  exact (EReal.coe_add _ 1).symm

theorem kE_zero : kE 0 = 0 := by
  unfold kE
  simp only [Ideal.ofBits_zero_f32, Ideal.cmp, select_ofBool]
  simp

/-- The kernel's exponent is the reference's. -/
theorem kE_eq (a : EReal) (h : 0 ≤ a) : kE (a * Ideal.ofBits FTy.f32 0x3B124925#32) = rE a := by
  obtain ⟨c, hc, ec⟩ := inv448_bits
  unfold rE
  rw [ec]
  induction a with
  | bot => exact absurd h (by simp)
  | top =>
    rw [EReal.top_mul_coe_of_pos hc, kE_top, log_two]
    show _ = Scalar.select _ _ (Ideal.liftRound Int.floor (Ideal.div ⊤ _) + _)
    unfold Ideal.div
    rw [if_neg (by exact_mod_cast log2_pos.ne'), ← EReal.coe_inv, EReal.top_mul_coe_of_pos (inv_pos.mpr log2_pos)]
    rw [show Ideal.liftRound Int.floor ⊤ = ⊤ from rfl]
    simp only [Ideal.cmp, select_ofBool, Ideal.ofBits_zero_f32, Ideal.ofBits_one_f32, EReal.top_ne_zero, decide_false, Bool.false_eq_true, if_false]
    rw [show (1 : EReal) = ((1 : ℝ) : EReal) from rfl, EReal.top_add_coe]
  | coe r =>
    have hr : 0 ≤ r := by exact_mod_cast h
    rcases hr.eq_or_lt with h0 | h0
    · subst h0
      simp only [EReal.coe_zero, zero_mul, kE_zero, Ideal.cmp, select_ofBool, Ideal.ofBits_zero_f32]
      simp
    · rw [← EReal.coe_mul, kE_pos _ (mul_pos h0 hc), log_two,
        show Ideal.log ((r * c : ℝ) : EReal) = ((Real.log (r * c) : ℝ) : EReal) from if_neg (not_le.mpr (mul_pos h0 hc)),
        div_real _ _ log2_pos.ne']
      simp only [Ideal.cmp, select_ofBool, Ideal.ofBits_zero_f32, Ideal.ofBits_one_f32]
      rw [if_neg (by simp only [decide_eq_true_eq]; exact_mod_cast h0.ne')]
      exact EReal.coe_add _ 1

/-- The exponent is never minus infinity. -/
theorem kE_ne_bot (a : EReal) (h : 0 ≤ a) : kE (a * Ideal.ofBits FTy.f32 0x3B124925#32) ≠ ⊥ := by
  obtain ⟨c, hc, ec⟩ := inv448_bits
  rw [ec]
  induction a with
  | bot => exact absurd h (by simp)
  | top => rw [EReal.top_mul_coe_of_pos hc, kE_top]; simp
  | coe r =>
    have hr : 0 ≤ r := by exact_mod_cast h
    rcases hr.eq_or_lt with h0 | h0
    · subst h0; simp [kE_zero]
    · rw [← EReal.coe_mul, kE_pos _ (mul_pos h0 hc)]; exact EReal.coe_ne_bot _

theorem exp2_pos (x : EReal) (h : x ≠ ⊥) : 0 < Ideal.exp2 x := by
  induction x with
  | bot => exact absurd rfl h
  | top => exact EReal.coe_lt_top 0
  | coe r => exact EReal.coe_pos.mpr (Real.rpow_pos_of_pos (by norm_num) r)

/-- Every scale is positive. -/
theorem SC_pos (a : EReal) (h : 0 ≤ a) : 0 < SC a := exp2_pos _ (kE_ne_bot a h)

theorem SC_eq (a : EReal) (h : 0 ≤ a) : SC a = Ideal.exp2 (rE a) := by unfold SC; rw [kE_eq a h]

theorem IV_eq (a : EReal) (h : 0 ≤ a) : IV a = Ideal.exp2 (Ideal.ofBits FTy.f32 0x00000000#32 - rE a) := by unfold IV; rw [kE_eq a h]

end Cert.KernelIdeal.Att
-- ==== Proof.QuantVal.lean ====
/- The quantisers' vectors read at natural-number indices. -/
module

public import proofs.«01_k».proof.Proof.Spec
public import proofs.«01_k».proof.Proof.Body

@[expose] public section

set_option maxRecDepth 16384

noncomputable section

namespace Cert.KernelIdeal.Att

open Idealize.ShloMosaic Idealize.SL.Sem Cert.KernelIdeal Cert.KernelIdeal.Gen

theorem load3' {n0 n1 n2 m0 m1 m2 o0 o1 o2 : ℕ} (o : Fin 3 → ℕ) (ho : o = ![o0, o1, o2])
    (inb : ∀ x, o x + (![m0, m1, m2] : Fin 3 → ℕ) x ≤ (⟨3, ![n0, n1, n2]⟩ : Shape).size x)
    (X : (⟨3, ![n0, n1, n2]⟩ : Shape).Idx → EReal) {i j k : ℕ} (hi : i < m0) (hj : j < m1) (hk : k < m2) :
    g3 (n0 := m0) (n1 := m1) (n2 := m2) (fun x => X ((Rect.unit (s := ⟨3, ![n0, n1, n2]⟩) o ![m0, m1, m2] inb).emb x)) i j k
      = g3 X (o0 + i) (o1 + j) (o2 + k) := by
  subst ho; exact load3 inb X hi hj hk

theorem over3' {n0 n1 n2 m0 m1 m2 o0 o1 o2 : ℕ} (o : Fin 3 → ℕ) (ho : o = ![o0, o1, o2])
    (inb : ∀ x, o x + (![m0, m1, m2] : Fin 3 → ℕ) x ≤ (⟨3, ![n0, n1, n2]⟩ : Shape).size x)
    (X : (⟨3, ![n0, n1, n2]⟩ : Shape).Idx → EReal) (w : (⟨3, ![m0, m1, m2]⟩ : Shape).Idx → EReal) (i j k : ℕ) :
    g3 (n0 := n0) (n1 := n1) (n2 := n2) ((Rect.unit (s := ⟨3, ![n0, n1, n2]⟩) o ![m0, m1, m2] inb).overlay X w) i j k
      = if o0 ≤ i ∧ i < o0 + m0 ∧ o1 ≤ j ∧ j < o1 + m1 ∧ o2 ≤ k ∧ k < o2 + m2 then g3 w (i - o0) (j - o1) (k - o2) else g3 X i j k := by
  subst ho; exact over3 inb X w i j k

theorem over2' {n0 n1 m0 m1 o0 o1 : ℕ} (o : Fin 2 → ℕ) (ho : o = ![o0, o1])
    (inb : ∀ x, o x + (![m0, m1] : Fin 2 → ℕ) x ≤ (⟨2, ![n0, n1]⟩ : Shape).size x)
    (X : (⟨2, ![n0, n1]⟩ : Shape).Idx → EReal) (w : (⟨2, ![m0, m1]⟩ : Shape).Idx → EReal) (i j : ℕ) :
    g2 (n0 := n0) (n1 := n1) ((Rect.unit (s := ⟨2, ![n0, n1]⟩) o ![m0, m1] inb).overlay X w) i j
      = if o0 ≤ i ∧ i < o0 + m0 ∧ o1 ≤ j ∧ j < o1 + m1 then g2 w (i - o0) (j - o1) else g2 X i j := by
  subst ho; exact over2 inb X w i j

theorem select_cmpi_eq {α : Type} (a b : BitVec 32) (x y : α) : Scalar.select (IntOp.cmpi .eq a b) x y = if a = b then x else y := by
  unfold Scalar.select IntOp.cmpi
  by_cases h : a = b
  · simp [h]
  · have hb : (a == b) = false := by simpa using h
    simp [h, hb]

theorem select_lane {α : Type} (l t : ℕ) (hl : l < 128) (ht : t < 256) (x y : α) :
    Scalar.select (IntOp.cmpi .eq (BitVec.ofNat 32 l) (BitVec.ofNat 32 t)) x y = if l = t then x else y := by
  rw [select_cmpi_eq]
  refine if_congr ⟨fun h => ?_, fun h => by rw [h]⟩ rfl rfl
  have := congrArg BitVec.toNat h
  simp only [BitVec.toNat_ofNat] at this
  omega

theorem select_half {α : Type} (l : Fin 128) (x y : α) :
    Scalar.select (IntOp.cmpi .slt (BitVec.ofNat 32 l.val) 64#32) x y = if l.val < 64 then x else y := by
  have h : ∀ l : Fin 128, IntOp.cmpi .slt (BitVec.ofNat 32 l.val) 64#32 = if l.val < 64 then 1#1 else 0#1 := by decide
  rw [h]
  unfold Scalar.select
  split <;> simp

theorem iv_eq (t : ℕ) : Scf.iv 0#32 1#32 t = BitVec.ofNat 32 t := by
  unfold Scf.iv; simp

/-- One tile's columns as a function of (row, feature). -/
abbrev fn3 {n0 n1 n2 : ℕ} (X : (⟨3, ![n0, n1, n2]⟩ : Shape).Idx → EReal) (n f : ℕ) : EReal := g3 X 0 n f

/-! ## Keys -/

section K

variable (v : Vec Ideal S1x128x256 .bf16)

theorem pay4_at (n : Fin 128) (f : Fin 256) : k0_pay4 v (ix2 n f) = g3 (n0 := 1) (n1 := 128) (n2 := 256) v 0 n.val f.val := by
  refine Eq.trans ?_ (g3_ix (n0 := 1) (n1 := 128) (n2 := 256) v 0 n f)
  pointwise [k0_pay4]

theorem pay5_at (f : Fin 256) (n : Fin 128) : k0_pay5 v (ix2 f n) = g3 (n0 := 1) (n1 := 128) (n2 := 256) v 0 n.val f.val := by
  refine Eq.trans ?_ (g3_ix (n0 := 1) (n1 := 128) (n2 := 256) v 0 n f)
  pointwise [k0_pay5, k0_pay4]

/-- A block's largest magnitude in head `g`, over its rows then its features. -/
def kAmaxV (v : Vec Ideal S1x128x256 .bf16) : FVec Ideal S4x128 .f32 :=
  broadcastTo S4x128 (shapeCast S4x1 (shapeCast S4x1 (multiReduction .maximumf [1] S4 (multiReduction .maximumf [1] S4x128
    (shapeCast S4x64x128 (absf (k0_pay5 v)) shapeCasts_S256x128_S4x64x128) 0xFF800000#32 reduces_S4x64x128_S4x128 (.inl rfl) rfl)
    0xFF800000#32 reduces_S4x128_S4 (.inl rfl) rfl) shapeCasts_S4_S4x1) shapeCasts_S4x1_S4x1) broadcasts_S4x1_S4x128

theorem kAmaxV_at (g : Fin 4) (l : Fin 128) : kAmaxV v (ix2 g l) = amaxB (fn3 (n0 := 1) (n1 := 128) (n2 := 256) v) 0 g.val := by
  unfold amaxB
  rw [Finset.sup_comm, ← fold_max_fin]
  pointwise [kAmaxV, k0_pay5, k0_pay4]
  rw [show (Ideal.ofBits FTy.f32 4286578688#32 : EReal) = ⊥ from ofBits_ninf]
  refine Finset.fold_congr fun w _ => ?_
  rw [← fold_max_fin]
  refine Finset.fold_congr fun d _ => ?_
  show absA _ = absA _
  have hd := d.isLt
  have hg := g.isLt
  rw [g3_ix (n0 := 1) (n1 := 128) (n2 := 256) v]
  congr 1
  show g3 (n0 := 1) (n1 := 128) (n2 := 256) v 0 w.val (g.val * 64 + d.val) = _
  unfold fn3
  congr 1 <;> omega

theorem pay7_at (g : Fin 4) (l : Fin 128) : k0_pay7 v (ix2 g l) = SC (amaxB (fn3 (n0 := 1) (n1 := 128) (n2 := 256) v) 0 g.val) := by
  rw [← kAmaxV_at v g l]; rfl

theorem pay8_at (g : Fin 4) (l : Fin 128) : k0_pay8 v (ix2 g l) = IV (amaxB (fn3 (n0 := 1) (n1 := 128) (n2 := 256) v) 0 g.val) := by
  rw [← kAmaxV_at v g l]; rfl

theorem kCode_at (g : Fin 4) (d : Fin 64) (l : Fin 128) : kCode g (k0_pay5 v) (k0_pay8 v) (ix3 0 d l)
    = codeB (fn3 (n0 := 1) (n1 := 128) (n2 := 256) v) l.val (64 * g.val + d.val) := by
  have hg := g.isLt
  have hd := d.isLt
  have hl := l.isLt
  have e : kCode g (k0_pay5 v) (k0_pay8 v) (ix3 0 d l)
      = clip (k0_pay5 v (ix2 ⟨64 * g.val + d.val, by omega⟩ l) * k0_pay8 v (ix2 g l)) := by pointwise [kCode, codeQ]; rfl
  rw [e, pay5_at, pay8_at]
  unfold codeB
  rw [show l.val / 128 = 0 by omega, show (64 * g.val + d.val) / 64 = g.val by omega]

theorem kScale_at (g : Fin 4) (l : Fin 128) : kScale g (k0_pay7 v) (ix3 0 0 l) = SC (amaxB (fn3 (n0 := 1) (n1 := 128) (n2 := 256) v) 0 g.val) := by
  rw [← pay7_at v g l]
  pointwise [kScale]

theorem knCode_at (j : Fin 2) (n l : Fin 128) : knCode j k0_pay463 (k0_pay4 v) (k0_pay8 v) (ix3 0 n l)
    = codeB (fn3 (n0 := 1) (n1 := 128) (n2 := 256) v) n.val (128 * j.val + l.val) := by
  have hj := j.isLt
  have hn := n.isLt
  have hl := l.isLt
  have e : knCode j k0_pay463 (k0_pay4 v) (k0_pay8 v) (ix3 0 n l)
      = clip (k0_pay4 v (ix2 n ⟨128 * j.val + l.val, by omega⟩) * (if l.val < 64 then k0_pay8 v (ix2 ⟨2 * j.val, by omega⟩ l)
        else k0_pay8 v (ix2 ⟨2 * j.val + 1, by omega⟩ l))) := by
    rw [← select_half]
    pointwise [knCode, k0_pay463]; rfl
  rw [e, pay4_at, pay8_at, pay8_at]
  unfold codeB
  rw [show n.val / 128 = 0 by omega]
  split
  · rw [show (128 * j.val + l.val) / 64 = 2 * j.val by omega]
  · rw [show (128 * j.val + l.val) / 64 = 2 * j.val + 1 by omega]

theorem pay466_at (acc : FVec Ideal S4x128 .f32) (t : ℕ) (ht : t < 32) (sc : FVec Ideal S4x128 .f32) (g : Fin 4) (l : Fin 128) :
    k0_pay466 acc (Scf.iv 0#32 1#32 t) sc (ix2 g l) = if l.val = t then sc (ix2 g l) else acc (ix2 g l) := by
  rw [← select_lane l.val t l.isLt (by omega), iv_eq]
  pointwise [k0_pay466]

theorem pay467_at (acc : FVec Ideal S4x128 .f32) (g : Fin 4) (l : Fin 32) : k0_pay467 acc (ix3 0 g l) = acc (ix2 g ⟨l.val, by omega⟩) := by
  pointwise [k0_pay467]

end K

/-! ## Queries -/

section Q

variable (v : Vec Ideal S1x128x1024 .bf16)

theorem pay468_at (f : Fin 1024) (n : Fin 128) : k0_pay468 v (ix2 f n) = g3 (n0 := 1) (n1 := 128) (n2 := 1024) v 0 n.val f.val := by
  refine Eq.trans ?_ (g3_ix (n0 := 1) (n1 := 128) (n2 := 1024) v 0 n f)
  pointwise [k0_pay468]

theorem pay469_at (h : Fin 16) (l : Fin 128) :
    k0_pay469 v (ix2 h l) = amaxB (fn3 (n0 := 1) (n1 := 128) (n2 := 1024) v) 0 h.val * Ideal.ofBits FTy.f32 0x3B124925#32 := by
  unfold amaxB
  rw [Finset.sup_comm, ← fold_max_fin]
  pointwise [k0_pay469, k0_pay468]
  rw [show (Ideal.ofBits FTy.f32 4286578688#32 : EReal) = ⊥ from ofBits_ninf]
  congr 1
  refine Finset.fold_congr fun w _ => ?_
  rw [← fold_max_fin]
  refine Finset.fold_congr fun d _ => ?_
  show absA _ = absA _
  have hd := d.isLt
  have hg := h.isLt
  rw [g3_ix (n0 := 1) (n1 := 128) (n2 := 1024) v]
  congr 1
  show g3 (n0 := 1) (n1 := 128) (n2 := 1024) v 0 w.val (h.val * 64 + d.val) = _
  unfold fn3
  congr 1 <;> omega

theorem pay472_at (h : Fin 16) (l : Fin 128) : k0_pay472 (k0_pay469 v) (k0_pay470 v) (ix2 h l)
    = SC (amaxB (fn3 (n0 := 1) (n1 := 128) (n2 := 1024) v) 0 h.val) := by
  unfold SC; rw [← pay469_at v h l]; rfl

theorem pay473_at (h : Fin 16) (l : Fin 128) : k0_pay473 (k0_pay469 v) (k0_pay470 v) (ix2 h l)
    = IV (amaxB (fn3 (n0 := 1) (n1 := 128) (n2 := 1024) v) 0 h.val) := by
  unfold IV; rw [← pay469_at v h l]; rfl

theorem pay475_at (h : Fin 16) (l : Fin 128) : k0_pay475 (k0_pay469 v) (k0_pay470 v) (ix2 h l)
    = SC (amaxB (fn3 (n0 := 1) (n1 := 128) (n2 := 1024) v) 0 h.val) * fac := by
  rw [← pay472_at v h l]
  have e : ∀ v21 v39, k0_pay475 (F := Ideal) v21 v39 (ix2 h l) = k0_pay472 v21 v39 (ix2 h l) * fac := by
    intro v21 v39
    pointwise [k0_pay475, k0_pay472, k0_pay471]
  exact e _ _

theorem pay474_at (a : BitVec 32) (i : ℕ) (hi : i < 32) (ha : Scalar.remsi (Scalar.minsi a 255#32) 32#32 = BitVec.ofNat 32 i)
    (old : Vec Ideal S1x16x32 .f32) (h : Fin 16) (l : Fin 32) :
    k0_pay474 a (k0_pay469 v) (k0_pay470 v) old (ix3 0 h l)
      = if l.val = i then SC (amaxB (fn3 (n0 := 1) (n1 := 128) (n2 := 1024) v) 0 h.val) else old (ix3 0 h l) := by
  rw [← pay472_at v h ⟨l.val, by omega⟩, ← select_lane l.val i (by omega) (by omega), ← ha]
  generalize k0_pay469 v = v21
  generalize k0_pay470 v = v39
  pointwise [k0_pay474, k0_pay472, k0_pay471]

theorem qCode_at (h : Fin 16) (d : Fin 64) (l : Fin 128) : qCode h (k0_pay468 v) (k0_pay473 (k0_pay469 v) (k0_pay470 v)) (ix3 0 d l)
    = codeB (fn3 (n0 := 1) (n1 := 128) (n2 := 1024) v) l.val (64 * h.val + d.val) := by
  have hg := h.isLt
  have hd := d.isLt
  have hl := l.isLt
  have e : ∀ x inv, qCode (F := Ideal) h x inv (ix3 0 d l)
      = clip (x (ix2 ⟨64 * h.val + d.val, by omega⟩ l) * inv (ix2 h l)) := by intro x inv; pointwise [qCode, codeQ]; rfl
  rw [e, pay468_at, pay473_at]
  unfold codeB
  rw [show l.val / 128 = 0 by omega, show (64 * h.val + d.val) / 64 = h.val by omega]

end Q

/-! ## Values -/

section V

theorem pay21_at (acc : FVec Ideal S8x256 .f32) (v : Vec Ideal S1x128x256 .bf16) (a : Fin 8) (f : Fin 256) :
    k0_pay21 acc v (ix2 a f) = max (acc (ix2 a f)) ((Finset.range 16).sup fun x => absA (g3 (n0 := 1) (n1 := 128) (n2 := 256) v 0 (8 * x + a.val) f.val)) := by
  rw [← fold_max_fin]
  pointwise [k0_pay21]
  rw [show (Ideal.ofBits FTy.f32 4286578688#32 : EReal) = ⊥ from ofBits_ninf]
  congr 1
  refine Finset.fold_congr fun x _ => ?_
  show absA _ = absA _
  have hx := x.isLt
  have ha := a.isLt
  rw [g3_ix (n0 := 1) (n1 := 128) (n2 := 256) v]
  congr 1
  show g3 (n0 := 1) (n1 := 128) (n2 := 256) v 0 (x.val * 8 + a.val) f.val = _
  congr 1; omega

/-- The maxima over the sublanes, on eight sublanes. -/
def vAmaxV (A : FVec Ideal S8x256 .f32) : FVec Ideal S8x256 .f32 :=
  broadcastTo S8x256 (shapeCast S1x256 (shapeCast S1x256 (multiReduction .maximumf [0] S256 A 0xFF800000#32 reduces_S8x256_S256 (.inl rfl) rfl)
    shapeCasts_S256_S1x256) shapeCasts_S1x256_S1x256) broadcasts_S1x256_S8x256

theorem vAmaxV_at (A : FVec Ideal S8x256 .f32) (a : Fin 8) (f : Fin 256) :
    vAmaxV A (ix2 a f) = (Finset.range 8).sup fun a => g2 (n0 := 8) (n1 := 256) A a f.val := by
  rw [← fold_max_fin]
  pointwise [vAmaxV]
  rw [show (Ideal.ofBits FTy.f32 4286578688#32 : EReal) = ⊥ from ofBits_ninf]
  refine Finset.fold_congr fun x _ => ?_
  rw [g2_ix (n0 := 8) (n1 := 256) A]

variable (A : FVec Ideal S8x256 .f32) (V : ℕ → EReal)
  (hA : ∀ f, f < 256 → ((Finset.range 8).sup fun a => g2 (n0 := 8) (n1 := 256) A a f) = V f)

include hA

theorem pay23_at (a : Fin 8) (f : Fin 256) : k0_pay23 A (ix2 a f) = SC (V f.val) := by
  rw [← hA _ f.isLt, ← vAmaxV_at A a f]; rfl

theorem pay24_at (a : Fin 8) (f : Fin 256) : k0_pay24 A (ix2 a f) = IV (V f.val) := by
  rw [← hA _ f.isLt, ← vAmaxV_at A a f]; rfl

theorem pay25_at (f : Fin 256) : k0_pay25 A (ix3 0 0 f) = SC (V f.val) := by
  rw [← pay23_at A V hA 0 f]
  generalize hX : k0_pay23 A = X
  pointwise [k0_pay25, hX]

theorem pay663_at (f : Fin 256) (l : Fin 128) : k0_pay663 (k0_pay26 A) (ix2 f l) = SC (V f.val) := by
  rw [← pay23_at A V hA 0 f]
  generalize hX : k0_pay23 A = X
  pointwise [k0_pay663, k0_pay26, hX]

theorem pay664_at (v : Vec Ideal S1x128x256 .bf16) (f : Fin 256) (l : Fin 128) : k0_pay664 (k0_pay24 A) v (ix2 f l)
    = clip (g3 (n0 := 1) (n1 := 128) (n2 := 256) v 0 l.val f.val * IV (V f.val)) := by
  rw [← pay24_at A V hA 0 f, show g3 (n0 := 1) (n1 := 128) (n2 := 256) v 0 l.val f.val = v (ix3 0 l f) from (g3_ix (n0 := 1) (n1 := 128) (n2 := 256) v 0 l f).symm]
  generalize k0_pay24 A = X
  pointwise [k0_pay664]
  rfl

theorem pay665_at (v : Vec Ideal S1x128x256 .bf16) (f : Fin 256) (l : Fin 128) : k0_pay665 (k0_pay24 A) v (ix3 0 f l)
    = clip (g3 (n0 := 1) (n1 := 128) (n2 := 256) v 0 l.val f.val * IV (V f.val)) := by
  rw [← pay664_at A V hA v f l]
  generalize hX : k0_pay664 (k0_pay24 A) v = X
  pointwise [k0_pay665, hX]

theorem pay666_at (v : Vec Ideal S1x128x256 .bf16) (f : Fin 256) (l : Fin 128) : k0_pay666 (k0_pay24 A) v (ix2 f l)
    = clip (g3 (n0 := 1) (n1 := 128) (n2 := 256) v 0 l.val f.val * IV (V f.val)) := by
  rw [← pay664_at A V hA v f l]
  generalize hX : k0_pay664 (k0_pay24 A) v = X
  pointwise [k0_pay666, hX]

end V

end Cert.KernelIdeal.Att
-- ==== Proof.Head.lean ====
/- The pass for one key head in closed form: every key's score, the probabilities' sum and the weighted values. -/
module

public import proofs.«01_k».proof.Proof.Pass
public import proofs.«01_k».proof.Proof.Body

@[expose] public section

set_option maxRecDepth 16384

noncomputable section

namespace Cert.KernelIdeal.Att

open Idealize.ShloMosaic Idealize.SL.Sem Cert.KernelIdeal Cert.KernelIdeal.Gen

/-- The scores' scratch at natural indices. -/
abbrev rS (X : Vec Ideal S4096x512 .f32) (n b : ℕ) : EReal := g2 (n0 := 4096) (n1 := 512) X n b
/-- The combined scales' scratch at natural indices. -/
abbrev rC (X : Vec Ideal S2x32x512 .f32) (p r b : ℕ) : EReal := g3 (n0 := 2) (n1 := 32) (n2 := 512) X p r b
/-- The maxima's scratch at natural indices. -/
abbrev rM (X : Vec Ideal S2x1x512 .f32) (p b : ℕ) : EReal := g3 (n0 := 2) (n1 := 1) (n2 := 512) X p 0 b
/-- The values' scratch at natural indices. -/
abbrev rVt (X : Vec Ideal S256x4096 .fp8e4m3) (d n : ℕ) : EReal := g2 (n0 := 256) (n1 := 4096) X d n
/-- Eight sublanes of columns at natural indices. -/
abbrev r8 (X : FVec Ideal S8x512 .f32) (a b : ℕ) : EReal := g2 (n0 := 8) (n1 := 512) X a b
/-- A head's transposed output at natural indices. -/
abbrev rO (X : FVec Ideal S64x512 .f32) (d b : ℕ) : EReal := g2 (n0 := 64) (n1 := 512) X d b

section Read

variable (R : Refs) (c : Dev nD)

/-- The probabilities the pass for head `g` finishes. -/
abbrev pr (g : ℕ) (s : St Ideal) (M : ℕ → EReal) (n b : ℕ) : EReal := prob (rS s.s) (rC s.c ((g + 1) % 2)) M n b

/-- One chunk. -/
theorem chunk_val (g : ℕ) (hg : g < 4) (m8 : FVec Ideal S8x512 .f32) (M : ℕ → EReal) (hm : ∀ a b, a < 8 → b < 512 → r8 m8 a b = M b - c8)
    (j : ℕ) (hj : j < 8) (rs mx : FVec Ideal S8x512 .f32) (s : St Ideal) :
    ∃ r S', Runs R c (chunk R.a11 R.a12 R.a14 R.a16 R.a18 g hg m8 j hj rs mx) s r { s with s := S' }
      ∧ (∀ n b, n < 4096 → b < 512 → rS S' n b = if 512 * j ≤ n ∧ n < 512 * j + 512 then score s.kn s.qz g n b else rS s.s n b)
      ∧ (∀ a b, a < 8 → b < 512 → r8 r.1 a b = r8 rs a b
          + ∑ u ∈ Finset.range 4, ∑ x ∈ Finset.range 16, pr g s M (512 * j + 128 * u + 8 * x + a) b)
      ∧ (∀ a b, a < 8 → b < 512 → r8 r.2.1 a b = max (r8 mx a b) ((Finset.range 4).sup fun u =>
          (Finset.range 16).sup (fun x => score s.kn s.qz g (512 * j + 128 * u + 8 * x + a) b) * rC s.c (g % 2) (4 * j + u) b))
      ∧ (∀ d b, d < 64 → b < 512 → rO r.2.2 d b = ∑ x ∈ Finset.range 512, rVt s.vt (64 * ((g + 3) % 4) + d) (512 * j + x)
          * clip (pr g s M (512 * j + x) b)) := by
  refine ⟨_, _, chunk_run R c g hg m8 j hj rs mx s, ?_, ?_, ?_, ?_⟩
  · intro n b hn hb
    refine (sPut_val _ _ _ _ n b hb).trans ?_
    split
    · rename_i q
      rw [shapeCast_self, sn_val _ _ _ _ _ hj _ _ (by omega) hb, show 512 * j + (n - 512 * j) = n by omega]
    · rfl
  · intro a b ha hb
    have H := fun (rs' : FVec Ideal S8x512 .f32) (u : ℕ) (hu : u < 32) => rsP_val rs' m8 (sB s.s u hu) (cB s.c ((g + 1) % 2) u (prev_lt g) hu)
      (rS s.s) (rC s.c ((g + 1) % 2)) M u (fun x b hx hb => sB_val _ _ _ _ _ hx hb) (fun b hb => cB_val _ _ _ _ _ _ hb) hm ha hb
    refine (H _ _ _).trans ?_
    rw [H, H, H]
    simp only [Finset.sum_range_succ _ 3, Finset.sum_range_succ _ 2, Finset.sum_range_succ _ 1, Finset.sum_range_one, add_assoc]
    simp only [show 128 * (4 * j) = 512 * j by omega, show 128 * (4 * j + 1) = 512 * j + 128 by omega,
      show 128 * (4 * j + 2) = 512 * j + 256 by omega, show 128 * (4 * j + 3) = 512 * j + 384 by omega,
      Nat.mul_zero, Nat.mul_one, Nat.add_zero, Nat.zero_add, Nat.add_assoc, show 128 * 2 = 256 from rfl, show 128 * 3 = 384 from rfl]
  · intro a b ha hb
    have H := fun (off : ℕ) (h : S512x512.Slices ![off, 0] S128x512) (ho : off + 128 ≤ 512) (mx' : FVec Ideal S8x512 .f32) (u : ℕ) (hu : u < 32) =>
      mxP_val off h ho mx' (snP (kB s.kn (g / 2) j (half_lt hg) hj) (qB s.qz g hg)) (cB s.c (g % 2) u (cur_lt g) hu) ha hb
    refine (H _ _ (by decide) _ _ _).trans ?_
    rw [H _ _ (by decide), H _ _ (by decide), H _ _ (by decide)]
    have K : ∀ off, off + 128 ≤ 512 → (Finset.range 16).sup (fun x => g2 (n0 := 512) (n1 := 512) (snP (kB s.kn (g / 2) j (half_lt hg) hj) (qB s.qz g hg))
        (off + 8 * x + a) b) = (Finset.range 16).sup (fun x => score s.kn s.qz g (512 * j + off + 8 * x + a) b) := by
      intro off ho
      refine Finset.sup_congr rfl fun x hx => ?_
      rw [Finset.mem_range] at hx
      rw [sn_val _ _ _ _ _ hj _ _ (by omega) hb]
      congr 1; omega
    rw [K _ (by decide), K _ (by decide), K _ (by decide), K _ (by decide), cB_val _ _ _ _ _ _ hb, cB_val _ _ _ _ _ _ hb,
      cB_val _ _ _ _ _ _ hb, cB_val _ _ _ _ _ _ hb]
    rw [show Finset.range 4 = {0, 1, 2, 3} from rfl]
    simp only [Finset.sup_insert, Finset.sup_singleton, max_assoc, Nat.mul_zero, Nat.mul_one, Nat.add_zero,
      show 128 * 2 = 256 from rfl, show 128 * 3 = 384 from rfl]
  · intro d b hd hb
    have H := fun (u : ℕ) (hu : u < 32) => codeP_val m8 (sB s.s u hu) (cB s.c ((g + 1) % 2) u (prev_lt g) hu)
      (rS s.s) (rC s.c ((g + 1) % 2)) M u (fun x b hx hb => sB_val _ _ _ _ _ hx hb) (fun b hb => cB_val _ _ _ _ _ _ hb) hm
    exact ojP_val _ _ _ _ _ (fun d n => rVt s.vt (64 * ((g + 3) % 4) + d) n) (fun n b => clip (pr g s M n b)) j
      (fun d x hd hx => vB_val _ _ _ _ _ _ _ hd hx) (H _ _) (H _ _) (H _ _) (H _ _) hd hb

/-- The first `k + 1` chunks. -/
theorem chunks_val (g : ℕ) (hg : g < 4) (m8 : FVec Ideal S8x512 .f32) (M : ℕ → EReal) (hm : ∀ a b, a < 8 → b < 512 → r8 m8 a b = M b - c8)
    (s : St Ideal) (k : ℕ) : ∀ hk : k < 8,
    ∃ r S', Runs R c (chunks R.a11 R.a12 R.a14 R.a16 R.a18 g hg m8 k hk) s r { s with s := S' }
      ∧ (∀ n b, n < 4096 → b < 512 → rS S' n b = if n < 512 * (k + 1) then score s.kn s.qz g n b else rS s.s n b)
      ∧ (∀ a b, a < 8 → b < 512 → r8 r.1 a b
          = ∑ j ∈ Finset.range (k + 1), ∑ u ∈ Finset.range 4, ∑ x ∈ Finset.range 16, pr g s M (512 * j + 128 * u + 8 * x + a) b)
      ∧ (∀ a b, a < 8 → b < 512 → r8 r.2.1 a b = (Finset.range (k + 1)).sup fun j => (Finset.range 4).sup fun u =>
          (Finset.range 16).sup (fun x => score s.kn s.qz g (512 * j + 128 * u + 8 * x + a) b) * rC s.c (g % 2) (4 * j + u) b)
      ∧ (∀ d b, d < 64 → b < 512 → rO r.2.2 d b = ∑ n ∈ Finset.range ((k + 1) * 512), rVt s.vt (64 * ((g + 3) % 4) + d) n
          * clip (pr g s M n b)) := by
  induction k with
  | zero =>
    intro hk
    obtain ⟨r, S', h, h1, h2, h3, h4⟩ := chunk_val R c g hg m8 M hm 0 hk (broadcast S8x512 (Scalar.ofBits .f32 0x00000000#32))
      (broadcast S8x512 (Scalar.ofBits .f32 0xFF800000#32)) s
    refine ⟨r, S', h, ?_, ?_, ?_, ?_⟩
    · intro n b hn hb
      rw [h1 n b hn hb]
      exact if_congr (by omega) rfl rfl
    · intro a b ha hb
      rw [h2 a b ha hb, Finset.sum_range_one]
      unfold r8; rw [g2_lt _ ha hb]
      show Ideal.ofBits FTy.f32 0x00000000#32 + _ = _
      rw [Ideal.ofBits_zero_f32, zero_add]
    · intro a b ha hb
      rw [h3 a b ha hb, Finset.range_one, Finset.sup_singleton]
      unfold r8; rw [g2_lt _ ha hb]
      show max (Ideal.ofBits FTy.f32 0xFF800000#32) _ = _
      rw [ofBits_ninf, max_eq_right bot_le]
    · intro d b hd hb
      rw [h4 d b hd hb]
      simp only [Nat.mul_zero, Nat.zero_add, Nat.one_mul]
  | succ k ih =>
    intro hk
    obtain ⟨r, S', h, h1, h2, h3, h4⟩ := ih (by omega)
    obtain ⟨r', S'', h', h1', h2', h3', h4'⟩ := chunk_val R c g hg m8 M hm (k + 1) hk r.1 r.2.1 { s with s := S' }
    have e : ∀ n b, 512 * (k + 1) ≤ n → n < 4096 → b < 512 → pr g { s with s := S' } M n b = pr g s M n b := by
      intro n b hn hn' hb
      unfold pr prob
      rw [show rS S' n b = rS s.s n b by rw [h1 n b hn' hb, if_neg (by omega)]]
    refine ⟨(r'.1, r'.2.1, addf r.2.2 r'.2.2), S'', Runs.bind R c h (Runs.bind R c h' (Runs.pure R c _ _)), ?_, ?_, ?_, ?_⟩
    · intro n b hn hb
      rw [h1' n b hn hb]
      show (if _ then _ else rS S' n b) = _
      rw [h1 n b hn hb]
      by_cases q : n < 512 * (k + 1)
      · rw [if_neg (by omega), if_pos q, if_pos (by omega)]
      · by_cases q' : n < 512 * (k + 1) + 512
        · rw [if_pos (by omega), if_pos (by omega)]
        · rw [if_neg (by omega), if_neg (by omega), if_neg (by omega)]
    · intro a b ha hb
      show r8 r'.1 a b = _
      rw [h2' a b ha hb, h2 a b ha hb, Finset.sum_range_succ _ (k + 1)]
      congr 1
      refine Finset.sum_congr rfl fun u hu => Finset.sum_congr rfl fun x hx => ?_
      rw [Finset.mem_range] at hu hx
      exact e _ _ (by omega) (by omega) hb
    · intro a b ha hb
      show r8 r'.2.1 a b = _
      rw [h3' a b ha hb, h3 a b ha hb, Finset.range_add_one (n := k + 1), Finset.sup_insert, max_comm]
    · intro d b hd hb
      have ea : rO (addf r.2.2 r'.2.2) d b = rO r.2.2 d b + rO r'.2.2 d b := by
        unfold rO; rw [g2_lt _ hd hb, g2_lt _ hd hb, g2_lt _ hd hb]; rfl
      show rO (addf r.2.2 r'.2.2) d b = _
      rw [ea, h4 d b hd hb, h4' d b hd hb, Nat.add_mul (k + 1) 1 512, Finset.sum_range_add, Nat.one_mul]
      congr 1
      refine Finset.sum_congr rfl fun x hx => ?_
      rw [Finset.mem_range] at hx
      rw [e _ _ (by omega) (by omega) hb, Nat.mul_comm 512]

theorem sum_keys (f : ℕ → EReal) : ∑ a ∈ Finset.range 8, ∑ j ∈ Finset.range 8, ∑ u ∈ Finset.range 4, ∑ x ∈ Finset.range 16,
    f (512 * j + 128 * u + 8 * x + a) = ∑ n ∈ Finset.range 4096, f n := by
  rw [show (4096 : ℕ) = 8 * 512 from rfl, sum_range_mul, Finset.sum_comm]
  refine Finset.sum_congr rfl fun j _ => ?_
  rw [show (512 : ℕ) = 4 * 128 from rfl, sum_range_mul (fun n => f (4 * 128 * j + n)), Finset.sum_comm]
  refine Finset.sum_congr rfl fun u _ => ?_
  rw [show (128 : ℕ) = 16 * 8 from rfl, sum_range_mul (fun n => f (4 * (16 * 8) * j + (16 * 8 * u + n))), Finset.sum_comm]
  exact Finset.sum_congr rfl fun x _ => Finset.sum_congr rfl fun a _ => by congr 1; omega

theorem sup_keys (f : ℕ → EReal) : ((Finset.range 8).sup fun a => (Finset.range 8).sup fun j => (Finset.range 4).sup fun u =>
    (Finset.range 16).sup fun x => f (512 * j + 128 * u + 8 * x + a)) = (Finset.range 4096).sup f := by
  rw [show (4096 : ℕ) = 8 * 512 from rfl, sup_range_mul, Finset.sup_comm]
  refine Finset.sup_congr rfl fun j _ => ?_
  rw [show (512 : ℕ) = 4 * 128 from rfl, sup_range_mul (fun n => f (4 * 128 * j + n)), Finset.sup_comm]
  refine Finset.sup_congr rfl fun u _ => ?_
  rw [show (128 : ℕ) = 16 * 8 from rfl, sup_range_mul (fun n => f (4 * (16 * 8) * j + (16 * 8 * u + n))), Finset.sup_comm]
  exact Finset.sup_congr rfl fun x _ => Finset.sup_congr rfl fun a _ => by congr 1; omega

/-- The combined scale of a key block and a query head. -/
def comb (ksr : Vec Ideal S4x32x128 .f32) (qsr : Vec Ideal S16x128 .f32) (g r b : ℕ) : EReal :=
  g3 (n0 := 4) (n1 := 32) (n2 := 128) ksr g r (b % 128) * g2 (n0 := 16) (n1 := 128) qsr (4 * g + b / 128) (b % 128)

theorem c_val (C : Vec Ideal S2x32x512 .f32) (ksr : Vec Ideal S4x32x128 .f32) (qsr : Vec Ideal S16x128 .f32) (g : ℕ) (hg : g < 4)
    (l : ℕ) (hl : l < 4) (q r b : ℕ) (hr : r < 32) :
    rC (cPut C (g % 2) l (cur_lt g) hl (cP (ksB ksr g hg) (qsB qsr (4 * g + l) (by omega)))) q r b
      = if q = g % 2 ∧ b / 128 = l then comb ksr qsr g r b else rC C q r b := by
  refine (cPut_val _ _ _ _ _ _ q r b hr).trans ?_
  by_cases z : q = g % 2 ∧ b / 128 = l
  · rw [if_pos z, if_pos z]
    obtain ⟨-, rfl⟩ := z
    rw [cP_val _ _ hr (Nat.mod_lt _ (by decide)), ksB_val _ _ _ _ _ hr (Nat.mod_lt _ (by decide)), qsB_val _ _ _ _ (Nat.mod_lt _ (by decide))]
    rfl
  · rw [if_neg z, if_neg z]

/-- The pass for key head `g`: it finishes the previous head and leaves head `g`'s scores, scales and maximum. -/
theorem headCore_val (g : ℕ) (hg : g < 4) (s : St Ideal) (hc : ∀ r b, r < 32 → b < 512 → 0 < comb s.ksr s.qsr g r b) :
    ∃ o S' C' M', Runs R c (core R g hg) s o { s with s := S', c := C', m := M' }
      ∧ (∀ n b, n < 4096 → b < 512 → rS S' n b = score s.kn s.qz g n b)
      ∧ (∀ q r b, r < 32 → b < 512 → rC C' q r b = if q = g % 2 then comb s.ksr s.qsr g r b else rC s.c q r b)
      ∧ (∀ q b, b < 512 → rM M' q b = if q = g % 2 then (Finset.range 4096).sup (fun n => score s.kn s.qz g n b * comb s.ksr s.qsr g (n / 128) b)
          else rM s.m q b)
      ∧ (∀ d b, d < 64 → b < 512 → rO o d b = Ideal.div
          ((∑ n ∈ Finset.range 4096, rVt s.vt (64 * ((g + 3) % 4) + d) n * clip (pr g s (rM s.m ((g + 1) % 2)) n b))
            * g2 (n0 := 256) (n1 := 128) s.vcol (64 * ((g + 3) % 4) + d) (b % 128))
          (∑ n ∈ Finset.range 4096, pr g s (rM s.m ((g + 1) % 2)) n b)) := by
  obtain ⟨C1, d1⟩ : ∃ C, C = cPut s.c (g % 2) 0 (cur_lt g) (by decide) (cP (ksB s.ksr g hg) (qsB s.qsr (4 * g + 0) (by omega))) := ⟨_, rfl⟩
  obtain ⟨C2, d2⟩ : ∃ C, C = cPut C1 (g % 2) 1 (cur_lt g) (by decide) (cP (ksB s.ksr g hg) (qsB s.qsr (4 * g + 1) (by omega))) := ⟨_, rfl⟩
  obtain ⟨C3, d3⟩ : ∃ C, C = cPut C2 (g % 2) 2 (cur_lt g) (by decide) (cP (ksB s.ksr g hg) (qsB s.qsr (4 * g + 2) (by omega))) := ⟨_, rfl⟩
  obtain ⟨C4, d4⟩ : ∃ C, C = cPut C3 (g % 2) 3 (cur_lt g) (by decide) (cP (ksB s.ksr g hg) (qsB s.qsr (4 * g + 3) (by omega))) := ⟨_, rfl⟩
  have R1 : Runs R c (cRow R.a13 R.a17 R.a18 g hg 0 (by decide)) s ⟨⟩ { s with c := C1 } := by
    subst d1; exact cRow_run R c g hg 0 (by decide) s
  have R2 : Runs R c (cRow R.a13 R.a17 R.a18 g hg 1 (by decide)) { s with c := C1 } ⟨⟩ { s with c := C2 } := by
    subst d2; exact cRow_run R c g hg 1 (by decide) { s with c := C1 }
  have R3 : Runs R c (cRow R.a13 R.a17 R.a18 g hg 2 (by decide)) { s with c := C2 } ⟨⟩ { s with c := C3 } := by
    subst d3; exact cRow_run R c g hg 2 (by decide) { s with c := C2 }
  have R4 : Runs R c (cRow R.a13 R.a17 R.a18 g hg 3 (by decide)) { s with c := C3 } ⟨⟩ { s with c := C4 } := by
    subst d4; exact cRow_run R c g hg 3 (by decide) { s with c := C3 }
  have hC : ∀ q r b, r < 32 → b < 512 → rC C4 q r b = if q = g % 2 then comb s.ksr s.qsr g r b else rC s.c q r b := by
    intro q r b hr hb
    have e1 := c_val s.c s.ksr s.qsr g hg 0 (by decide) q r b hr; rw [← d1] at e1
    have e2 := c_val C1 s.ksr s.qsr g hg 1 (by decide) q r b hr; rw [← d2] at e2
    have e3 := c_val C2 s.ksr s.qsr g hg 2 (by decide) q r b hr; rw [← d3] at e3
    have e4 := c_val C3 s.ksr s.qsr g hg 3 (by decide) q r b hr; rw [← d4] at e4
    rw [e4, e3, e2, e1]
    by_cases hq : q = g % 2
    · simp only [hq, true_and, if_true]
      split
      · rfl
      · split
        · rfl
        · split
          · rfl
          · rw [if_pos (by omega)]
    · simp only [hq, false_and, if_false]
  have hm : ∀ a b, a < 8 → b < 512 → r8 (m8P (mB s.m ((g + 1) % 2) (prev_lt g))) a b = rM s.m ((g + 1) % 2) b - c8 := by
    intro a b ha hb
    refine (m8P_val _ ha hb).trans ?_
    rw [mB_val _ _ _ _ hb]
  obtain ⟨r, S', h, h1, h2, h3, h4⟩ := chunks_val R c g hg (m8P (mB s.m ((g + 1) % 2) (prev_lt g))) (rM s.m ((g + 1) % 2)) hm
    { s with c := C4 } 7 (by decide)
  have hp : ∀ n b, n < 4096 → b < 512 → pr g { s with c := C4 } (rM s.m ((g + 1) % 2)) n b = pr g s (rM s.m ((g + 1) % 2)) n b := by
    intro n b hn hb
    unfold pr prob
    rw [show rC C4 ((g + 1) % 2) (n / 128) b = rC s.c ((g + 1) % 2) (n / 128) b by
      rw [hC _ _ _ (by omega) hb, if_neg (by omega)]]
  refine ⟨oFinP r.1 r.2.2 (vcB s.vcol ((g + 3) % 4) (gp_lt g)), S', C4, mPut s.m (g % 2) (cur_lt g) (mFinP r.2.1), ?_, ?_, hC, ?_, ?_⟩
  · have R5 : Runs R c (ld R.a19 ![(g + 1) % 2, 0, 0] S1x1x512.size (inbM _ (prev_lt g)) h_S1x1x512) { s with c := C4 }
        (mB s.m ((g + 1) % 2) (prev_lt g)) { s with c := C4 } := Runs.load (L19 R c) _ _ _ _ _
    have R6 : Runs R c (ld R.a15 ![64 * ((g + 3) % 4), 0] S64x128.size (inbVc _ (gp_lt g)) h_S64x128)
        { s with s := S', c := C4, m := mPut s.m (g % 2) (cur_lt g) (mFinP r.2.1) } (vcB s.vcol ((g + 3) % 4) (gp_lt g))
        { s with s := S', c := C4, m := mPut s.m (g % 2) (cur_lt g) (mFinP r.2.1) } := Runs.load (L15 R c) _ _ _ _ _
    have R7 : Runs R c (st R.a19 ![g % 2, 0, 0] S1x1x512.size (inbM _ (cur_lt g)) (mFinP r.2.1) (View.stores_vmem_bits_univ h_S1x1x512 rfl))
        { s with s := S', c := C4 } ⟨⟩ { s with s := S', c := C4, m := mPut s.m (g % 2) (cur_lt g) (mFinP r.2.1) } :=
      Runs.store (L19 R c) _ _ _ _ _ _
    unfold core headCore
    exact Runs.bind R c R1 (Runs.bind R c R2 (Runs.bind R c R3 (Runs.bind R c R4 (Runs.bind R c R5 (Runs.bind R c h
      (Runs.bind R c (Runs.load (L19 R c) _ _ _ _ _) (Runs.bind R c R7 (Runs.bind R c R6 (Runs.pure R c _ _)))))))))
  · intro n b hn hb
    rw [h1 n b hn hb, if_pos (by omega)]
  · intro q b hb
    refine (mPut_val _ _ _ _ q b hb).trans ?_
    refine if_congr Iff.rfl ?_ rfl
    rw [mFinP_val _ hb, ← sup_keys]
    refine Finset.sup_congr rfl fun a ha => ?_
    rw [Finset.mem_range] at ha
    refine (h3 a b ha hb).trans ?_
    refine Finset.sup_congr rfl fun j hj => Finset.sup_congr rfl fun u hu => ?_
    rw [Finset.mem_range] at hj hu
    show _ * rC C4 (g % 2) (4 * j + u) b = _
    rw [hC _ _ _ (by omega) hb, if_pos rfl, sup_mul_pos _ _ (hc _ _ (by omega) hb)]
    refine Finset.sup_congr rfl fun x hx => ?_
    rw [Finset.mem_range] at hx
    rw [show (512 * j + 128 * u + 8 * x + a) / 128 = 4 * j + u by omega]
  · intro d b hd hb
    refine (oFinP_val _ _ _ hd hb).trans ?_
    rw [vcB_val _ _ _ _ _ hd (Nat.mod_lt _ (by decide))]
    congr 1
    · congr 1
      refine (h4 d b hd hb).trans ?_
      refine Finset.sum_congr rfl fun n hn => ?_
      rw [Finset.mem_range] at hn
      rw [hp n b (by omega) hb]
    · rw [← sum_keys]
      refine Finset.sum_congr rfl fun a ha => ?_
      rw [Finset.mem_range] at ha
      refine (h2 a b ha hb).trans ?_
      refine Finset.sum_congr rfl fun j hj => Finset.sum_congr rfl fun u hu => Finset.sum_congr rfl fun x hx => ?_
      rw [Finset.mem_range] at hj hu hx
      exact hp _ b (by omega) hb

end Read

end Cert.KernelIdeal.Att
-- ==== Proof.Keys.lean ====
/- What the preparation of a sequence's keys leaves in memory. -/
module

public import proofs.«01_k».proof.Proof.QuantVal
public import proofs.«01_k».proof.Proof.Head

@[expose] public section

set_option maxRecDepth 16384

noncomputable section

namespace Cert.KernelIdeal.Att

open Idealize.ShloMosaic Idealize.SL.Sem Cert.KernelIdeal Cert.KernelIdeal.Gen

/-! ## Arrays at natural-number indices -/

abbrev rK (X : Vec Ideal S1x4096x256 .bf16) (n f : ℕ) : EReal := g3 (n0 := 1) (n1 := 4096) (n2 := 256) X 0 n f
abbrev rX (X : Vec Ideal S1x128x1024 .bf16) (n f : ℕ) : EReal := g3 (n0 := 1) (n1 := 128) (n2 := 1024) X 0 n f
abbrev rKsr (X : Vec Ideal S4x32x128 .f32) (g r l : ℕ) : EReal := g3 (n0 := 4) (n1 := 32) (n2 := 128) X g r l
abbrev rKc (X : Vec Ideal S1x256x4096 .fp8e4m3) (f n : ℕ) : EReal := g3 (n0 := 1) (n1 := 256) (n2 := 4096) X 0 f n
abbrev rKn (X : Vec Ideal S2x4096x128 .fp8e4m3) (j n l : ℕ) : EReal := g3 (n0 := 2) (n1 := 4096) (n2 := 128) X j n l
abbrev rKs (X : Vec Ideal S1x4x32 .f32) (g r : ℕ) : EReal := g3 (n0 := 1) (n1 := 4) (n2 := 32) X 0 g r
abbrev rQc (X : Vec Ideal S1x1024x128 .fp8e4m3) (f n : ℕ) : EReal := g3 (n0 := 1) (n1 := 1024) (n2 := 128) X 0 f n
abbrev rQs (X : Vec Ideal S1x16x32 .f32) (h i : ℕ) : EReal := g3 (n0 := 1) (n1 := 16) (n2 := 32) X 0 h i
abbrev rQz (X : Vec Ideal S4x128x512 .fp8e4m3) (g d b : ℕ) : EReal := g3 (n0 := 4) (n1 := 128) (n2 := 512) X g d b
abbrev rQsr (X : Vec Ideal S16x128 .f32) (h l : ℕ) : EReal := g2 (n0 := 16) (n1 := 128) X h l
abbrev rVs (X : Vec Ideal S1x1x256 .f32) (f : ℕ) : EReal := g3 (n0 := 1) (n1 := 1) (n2 := 256) X 0 0 f
abbrev rVcol (X : Vec Ideal S256x128 .f32) (f l : ℕ) : EReal := g2 (n0 := 256) (n1 := 128) X f l
abbrev rOut (X : Vec Ideal S1x128x1024 .bf16) (n f : ℕ) : EReal := g3 (n0 := 1) (n1 := 128) (n2 := 1024) X 0 n f
abbrev rOb (X : Vec Ideal S128x768 .bf16) (n f : ℕ) : EReal := g2 (n0 := 128) (n1 := 768) X n f

/-! ## A tile of an array -/

theorem amaxB_tile {X Y : ℕ → ℕ → EReal} {t g W : ℕ} (hW : 64 * g + 64 ≤ W) (h : ∀ n f, n < 128 → f < W → Y n f = X (128 * t + n) f) :
    amaxB Y 0 g = amaxB X t g := by
  unfold amaxB
  refine Finset.sup_congr rfl fun d hd => Finset.sup_congr rfl fun w hw => ?_
  rw [Finset.mem_range] at hd hw
  rw [show 128 * 0 + w = w by omega, h w _ hw (by omega)]

theorem codeB_tile {X Y : ℕ → ℕ → EReal} {t W n f : ℕ} (hn : n < 128) (hW : 64 * (f / 64) + 64 ≤ W)
    (h : ∀ n f, n < 128 → f < W → Y n f = X (128 * t + n) f) : codeB Y n f = codeB X (128 * t + n) f := by
  unfold codeB
  rw [h n f hn (by omega), show n / 128 = 0 by omega, amaxB_tile hW h, show (128 * t + n) / 128 = t by omega]

section Run

variable (R : Refs) (c : Dev nD)

/-- A counted loop whose every trip keeps a statement about the carried value and the memory. -/
theorem Runs.loop_exists {F : FTy → Type} [FloatOps F] [Named F] {σ : Type} (l : Scf.Loop 32) (ok : Scf.OK l.lb l.ub l.st) (N : ℕ) (hN : l.trips = N)
    (body : Fin l.trips → σ → PR F σ) (P : ℕ → σ → St F → Prop)
    (h : ∀ (t : Fin l.trips) a s, P t.val a s → ∃ a' s', Runs R c (body t a) s a' s' ∧ P (t.val + 1) a' s') (a : σ) (s : St F) (h0 : P 0 a s) :
    ∃ a' s', Runs R c (Scf.Loop.for l ok a body) s a' s' ∧ P N a' s' := by
  subst hN
  have H : ∀ (d k : ℕ) (a : σ) (s : St F), k + d = l.trips → P k a s →
      ∃ a' s', Runs R c (Scf.forFrom body ((List.finRange l.trips).drop k) a) s a' s' ∧ P l.trips a' s' := by
    intro d
    induction d with
    | zero =>
      intro k a s hk hp
      obtain rfl : k = l.trips := by omega
      rw [List.drop_of_length_le (by simp)]
      exact ⟨a, s, Runs.pure R c _ _, hp⟩
    | succ d ih =>
      intro k a s hk hp
      have hlt : k < l.trips := by omega
      rw [List.drop_eq_getElem_cons (by simpa using hlt), List.getElem_finRange, Fin.cast_mk, Scf.forFrom_cons]
      obtain ⟨a1, s1, r1, p1⟩ := h ⟨k, hlt⟩ a s hp
      obtain ⟨a2, s2, r2, p2⟩ := ih (k + 1) a1 s1 (by omega) p1
      exact ⟨a2, s2, Runs.bind R c r1 r2, p2⟩
  have := H l.trips 0 a s (by omega) h0
  unfold Scf.Loop.for
  rw [Scf.for_eq]
  exact this

theorem kHead_val (g : Fin 4) (t : ℕ) (o13 : Fin 3 → ℕ) (h13 : o13 = ![g.val, t, 0]) (i13 : ∀ a, o13 a + S1x1x128.size a ≤ S4x32x128.size a)
    (o7 : Fin 3 → ℕ) (h7 : o7 = ![0, 64 * g.val, 128 * t]) (i7 : ∀ a, o7 a + S1x64x128.size a ≤ S1x256x4096.size a)
    (p7 : (Rect.unit (s := S1x256x4096) o7 S1x64x128.size i7).PackedRows (EltTy.packing .fp8e4m3))
    (v : Vec Ideal S1x128x256 .bf16) (K : ℕ → ℕ → EReal)
    (hv : ∀ n f, n < 128 → f < 256 → fn3 (n0 := 1) (n1 := 128) (n2 := 256) v n f = K (128 * t + n) f) (s : St Ideal) :
    ∃ A B, Runs R c (kHead R g o13 i13 o7 i7 p7 (k0_pay5 v) (k0_pay7 v) (k0_pay8 v)) s ⟨⟩ { s with ksr := A, kc := B }
      ∧ (∀ g' r l, l < 128 → rKsr A g' r l = if g' = g.val ∧ r = t then SC (amaxB K t g.val) else rKsr s.ksr g' r l)
      ∧ (∀ f n, rKc B f n = if f / 64 = g.val ∧ n / 128 = t then codeB K n f else rKc s.kc f n) := by
  have hg := g.isLt
  refine ⟨(Rect.unit (s := S4x32x128) o13 S1x1x128.size i13).overlay s.ksr (kScale g (k0_pay7 v)),
    (Rect.unit (s := S1x256x4096) o7 S1x64x128.size i7).overlay s.kc (kCode g (k0_pay5 v) (k0_pay8 v)), ?_, ?_, ?_⟩
  · unfold kHead
    refine Runs.bind R c (Runs.load (L13 R c) _ _ _ _ s) ?_
    refine Runs.bind R c (Runs.store (L13 R c) _ _ _ _ _ s) ?_
    refine Runs.bind R c (Runs.load (L7 R c) _ _ _ _ _) ?_
    exact Runs.store (L7 R c) _ _ _ _ _ _
  · intro g' r l hl
    refine (over3' (n0 := 4) (n1 := 32) (n2 := 128) (m0 := 1) (m1 := 1) (m2 := 128) o13 h13 i13 s.ksr (kScale g (k0_pay7 v)) g' r l).trans ?_
    refine if_ctx_congr ⟨fun h => ⟨by omega, by omega⟩, fun h => by omega⟩ (fun h => ?_) (fun _ => rfl)
    obtain ⟨h1, h2⟩ := h
    rw [show g' - g.val = 0 by omega, show r - t = 0 by omega, Nat.sub_zero,
      show g3 (n0 := 1) (n1 := 1) (n2 := 128) (kScale g (k0_pay7 v)) 0 0 l = kScale g (k0_pay7 v) (ix3 0 0 ⟨l, hl⟩) from
        (g3_ix (n0 := 1) (n1 := 1) (n2 := 128) (kScale g (k0_pay7 v)) 0 0 ⟨l, hl⟩).symm, kScale_at]
    rw [amaxB_tile (W := 256) (by omega) hv]
  · intro f n
    refine (over3' (n0 := 1) (n1 := 256) (n2 := 4096) (m0 := 1) (m1 := 64) (m2 := 128) o7 h7 i7 s.kc (kCode g (k0_pay5 v) (k0_pay8 v)) 0 f n).trans ?_
    refine if_ctx_congr ⟨fun h => ⟨by omega, by omega⟩, fun h => by omega⟩ (fun h => ?_) (fun _ => rfl)
    obtain ⟨h1, h2⟩ := h
    rw [show g3 (n0 := 1) (n1 := 64) (n2 := 128) (kCode g (k0_pay5 v) (k0_pay8 v)) (0 - 0) (f - 64 * g.val) (n - 128 * t)
        = kCode g (k0_pay5 v) (k0_pay8 v) (ix3 0 ⟨f - 64 * g.val, by omega⟩ ⟨n - 128 * t, by omega⟩) from
        (g3_ix (n0 := 1) (n1 := 64) (n2 := 128) (kCode g (k0_pay5 v) (k0_pay8 v)) 0 ⟨f - 64 * g.val, by omega⟩ ⟨n - 128 * t, by omega⟩).symm, kCode_at]
    simp only [show 64 * g.val + (f - 64 * g.val) = f by omega]
    rw [codeB_tile (W := 256) (by omega) (by omega) hv, show 128 * t + (n - 128 * t) = n by omega]

theorem knPair_val (j : Fin 2) (t : ℕ) (o : Fin 3 → ℕ) (ho : o = ![j.val, 128 * t, 0]) (ih : ∀ a, o a + S1x128x128.size a ≤ S2x4096x128.size a)
    (p : (Rect.unit (s := S2x4096x128) o S1x128x128.size ih).PackedRows (EltTy.packing .fp8e4m3))
    (v : Vec Ideal S1x128x256 .bf16) (K : ℕ → ℕ → EReal)
    (hv : ∀ n f, n < 128 → f < 256 → fn3 (n0 := 1) (n1 := 128) (n2 := 256) v n f = K (128 * t + n) f) (s : St Ideal) :
    ∃ A, Runs R c (knPair R j o ih p k0_pay463 (k0_pay4 v) (k0_pay8 v)) s ⟨⟩ { s with kn := A }
      ∧ (∀ j' n l, l < 128 → rKn A j' n l = if j' = j.val ∧ n / 128 = t then codeB K n (128 * j.val + l) else rKn s.kn j' n l) := by
  have hj := j.isLt
  refine ⟨(Rect.unit (s := S2x4096x128) o S1x128x128.size ih).overlay s.kn (knCode j k0_pay463 (k0_pay4 v) (k0_pay8 v)), ?_, ?_⟩
  · unfold knPair
    refine Runs.bind R c (Runs.load (L12 R c) _ _ _ _ s) ?_
    exact Runs.store (L12 R c) _ _ _ _ _ s
  · intro j' n l hl
    refine (over3' (n0 := 2) (n1 := 4096) (n2 := 128) (m0 := 1) (m1 := 128) (m2 := 128) o ho ih s.kn (knCode j k0_pay463 (k0_pay4 v) (k0_pay8 v)) j' n l).trans ?_
    refine if_ctx_congr ⟨fun h => ⟨by omega, by omega⟩, fun h => by omega⟩ (fun h => ?_) (fun _ => rfl)
    obtain ⟨h1, h2⟩ := h
    rw [show j' - j.val = 0 by omega, show g3 (n0 := 1) (n1 := 128) (n2 := 128) (knCode j k0_pay463 (k0_pay4 v) (k0_pay8 v)) 0 (n - 128 * t) (l - 0)
        = knCode j k0_pay463 (k0_pay4 v) (k0_pay8 v) (ix3 0 ⟨n - 128 * t, by omega⟩ ⟨l, hl⟩) from
        (g3_ix (n0 := 1) (n1 := 128) (n2 := 128) (knCode j k0_pay463 (k0_pay4 v) (k0_pay8 v)) 0 ⟨n - 128 * t, by omega⟩ ⟨l, hl⟩).symm, knCode_at]
    rw [codeB_tile (W := 256) (by omega) (by omega) hv]
    simp only [show 128 * t + (n - 128 * t) = n by omega]

/-- What the loop over the key blocks has left after `T` blocks. -/
structure KFact (s0 : St Ideal) (T : ℕ) (acc : FVec Ideal S4x128 .f32) (s : St Ideal) : Prop where
  eq : s = { s0 with kn := s.kn, ksr := s.ksr, kc := s.kc }
  kn : ∀ j n l, j < 2 → n < 128 * T → l < 128 → rKn s.kn j n l = codeB (rK s0.k) n (128 * j + l)
  ksr : ∀ g r l, g < 4 → r < T → l < 128 → rKsr s.ksr g r l = SC (amaxB (rK s0.k) r g)
  kc : ∀ f n, f < 256 → n < 128 * T → rKc s.kc f n = codeB (rK s0.k) n f
  acc : ∀ g l, g < 4 → l < T → g2 (n0 := 4) (n1 := 128) acc g l = SC (amaxB (rK s0.k) l g)

theorem kBody_val (i : grid0.Coords) (h2 : k0_cond2 i = 1#1) (t : Fin k0_t1_loop.trips) (s0 : St Ideal) (acc : FVec Ideal S4x128 .f32) (s : St Ideal)
    (H : KFact s0 t.val acc s) : ∃ a' s', Runs R c (kBody R i h2 t acc) s a' s' ∧ KFact s0 (t.val + 1) a' s' := by
  have ht : t.val < 32 := lt_of_lt_of_le t.isLt (by decide)
  have hk : s.k = s0.k := by rw [H.eq]
  obtain ⟨v, dv⟩ : ∃ v : Vec Ideal S1x128x256 .bf16, v = fun x => s.k ((Rect.unit (s := S1x4096x256) (k0_off1 t) S1x128x256.size (k0_off1_inb i t h2)).emb x) := ⟨_, rfl⟩
  have Rv : Runs R c (ld R.a2 (k0_off1 t) S1x128x256.size (k0_off1_inb i t h2) h_S1x128x256) s v s := by subst dv; exact Runs.load (L2 R c) _ _ _ _ s
  have hv : ∀ n f, n < 128 → f < 256 → fn3 (n0 := 1) (n1 := 128) (n2 := 256) v n f = rK s0.k (128 * t.val + n) f := by
    intro n f hn hf
    subst dv
    refine (load3' (n0 := 1) (n1 := 4096) (n2 := 256) (m0 := 1) (m1 := 128) (m2 := 256) (k0_off1 t) (k0_off1_eq t) (k0_off1_inb i t h2) s.k (by decide) hn hf).trans ?_
    rw [hk]; simp only [Nat.zero_add]
  clear dv
  obtain ⟨A0, B0, r0, a0, b0⟩ := kHead_val R c 0 t.val (k0_off2 t) (k0_off2_eq t) (k0_off2_inb i t h2) (k0_off3 t) (k0_off3_eq t) (k0_off3_inb i t h2) (k0_off3_packedfp8e4m3 i t h2) v _ hv s
  obtain ⟨A1, B1, r1, a1, b1⟩ := kHead_val R c 1 t.val (k0_off4 t) (k0_off4_eq t) (k0_off4_inb i t h2) (k0_off5 t) (k0_off5_eq t) (k0_off5_inb i t h2) (k0_off5_packedfp8e4m3 i t h2) v _ hv { s with ksr := A0, kc := B0 }
  obtain ⟨A2, B2, r2, a2, b2⟩ := kHead_val R c 2 t.val (k0_off6 t) (k0_off6_eq t) (k0_off6_inb i t h2) (k0_off7 t) (k0_off7_eq t) (k0_off7_inb i t h2) (k0_off7_packedfp8e4m3 i t h2) v _ hv { s with ksr := A1, kc := B1 }
  obtain ⟨A3, B3, r3, a3, b3⟩ := kHead_val R c 3 t.val (k0_off8 t) (k0_off8_eq t) (k0_off8_inb i t h2) (k0_off9 t) (k0_off9_eq t) (k0_off9_inb i t h2) (k0_off9_packedfp8e4m3 i t h2) v _ hv { s with ksr := A2, kc := B2 }
  obtain ⟨D0, r4, d0⟩ := knPair_val R c 0 t.val (k0_off10 t) (k0_off10_eq t) (k0_off10_inb i t h2) (k0_off10_packedfp8e4m3 i t h2) v _ hv { s with ksr := A3, kc := B3 }
  obtain ⟨D1, r5, d1⟩ := knPair_val R c 1 t.val (k0_off11 t) (k0_off11_eq t) (k0_off11_inb i t h2) (k0_off11_packedfp8e4m3 i t h2) v _ hv { s with kn := D0, ksr := A3, kc := B3 }
  refine ⟨k0_pay466 acc (Scf.iv 0#32 1#32 t.val) (k0_pay7 v), { s with kn := D1, ksr := A3, kc := B3 }, ?_, ?_⟩
  · exact Runs.bind R c Rv (Runs.bind R c r0 (Runs.bind R c r1 (Runs.bind R c r2 (Runs.bind R c r3 (Runs.bind R c r4 (Runs.bind R c r5 (Runs.pure R c _ _)))))))
  · refine ⟨?_, ?_, ?_, ?_, ?_⟩
    · rw [H.eq]
    · intro j n l hj hn hl
      show rKn D1 j n l = _
      rw [d1 j n l hl]
      show (if _ then _ else rKn D0 j n l) = _
      rw [d0 j n l hl]
      show (if j = 1 ∧ n / 128 = t.val then codeB (rK s0.k) n (128 * 1 + l) else if j = 0 ∧ n / 128 = t.val then codeB (rK s0.k) n (128 * 0 + l) else rKn s.kn j n l) = _
      by_cases hq : n / 128 = t.val
      · rcases (show j = 0 ∨ j = 1 by omega) with rfl | rfl <;> simp [hq]
      · rw [if_neg (fun h => hq h.2), if_neg (fun h => hq h.2), H.kn j n l hj (by omega) hl]
    · intro g r l hg hr hl
      show rKsr A3 g r l = _
      rw [a3 g r l hl]
      show (if _ then _ else rKsr A2 g r l) = _
      rw [a2 g r l hl]
      show (if _ then _ else if _ then _ else rKsr A1 g r l) = _
      rw [a1 g r l hl]
      show (if _ then _ else if _ then _ else if _ then _ else rKsr A0 g r l) = _
      rw [a0 g r l hl]
      show (if g = 3 ∧ r = t.val then SC (amaxB (rK s0.k) t.val 3) else if g = 2 ∧ r = t.val then SC (amaxB (rK s0.k) t.val 2)
        else if g = 1 ∧ r = t.val then SC (amaxB (rK s0.k) t.val 1) else if g = 0 ∧ r = t.val then SC (amaxB (rK s0.k) t.val 0) else rKsr s.ksr g r l) = _
      by_cases hq : r = t.val
      · rcases (show g = 0 ∨ g = 1 ∨ g = 2 ∨ g = 3 by omega) with rfl | rfl | rfl | rfl <;> simp [hq]
      · simp only [hq, and_false, if_false]
        exact H.ksr g r l hg (by omega) hl
    · intro f n hf hn
      show rKc B3 f n = _
      rw [b3 f n]
      show (if _ then _ else rKc B2 f n) = _
      rw [b2 f n]
      show (if _ then _ else if _ then _ else rKc B1 f n) = _
      rw [b1 f n]
      show (if _ then _ else if _ then _ else if _ then _ else rKc B0 f n) = _
      rw [b0 f n]
      by_cases hq : n / 128 = t.val
      · have hc : ∀ (p : Prop) [Decidable p] (X : EReal), (p ∨ X = codeB (rK s0.k) n f) → (if p then codeB (rK s0.k) n f else X) = codeB (rK s0.k) n f := by
          intro p _ X h; by_cases hp : p
          · rw [if_pos hp]
          · rw [if_neg hp]; exact h.resolve_left hp
        refine hc _ _ ?_
        by_cases h3 : f / 64 = 3
        · exact Or.inl ⟨h3, hq⟩
        refine Or.inr (hc _ _ ?_)
        by_cases h2 : f / 64 = 2
        · exact Or.inl ⟨h2, hq⟩
        refine Or.inr (hc _ _ ?_)
        by_cases h1 : f / 64 = 1
        · exact Or.inl ⟨h1, hq⟩
        exact Or.inr (hc _ _ (Or.inl ⟨show f / 64 = 0 by omega, hq⟩))
      · simp only [hq, and_false, if_false]
        exact H.kc f n hf (by omega)
    · intro g l hg hl
      rw [show g2 (n0 := 4) (n1 := 128) (k0_pay466 acc (Scf.iv 0#32 1#32 t.val) (k0_pay7 v)) g l
        = k0_pay466 acc (Scf.iv 0#32 1#32 t.val) (k0_pay7 v) (ix2 ⟨g, hg⟩ ⟨l, by omega⟩) from
          (g2_ix (n0 := 4) (n1 := 128) (k0_pay466 acc (Scf.iv 0#32 1#32 t.val) (k0_pay7 v)) ⟨g, hg⟩ ⟨l, by omega⟩).symm,
        pay466_at acc t.val ht, pay7_at, g2_ix (n0 := 4) (n1 := 128) acc]
      show (if l = t.val then _ else _) = _
      by_cases hq : l = t.val
      · rw [if_pos hq, amaxB_tile (W := 256) (by show 64 * g + 64 ≤ 256; omega) hv, hq]
      · rw [if_neg hq]
        exact H.acc g l hg (by omega)

/-- The preparation of a sequence's keys, and what follows it. -/
def prepK {α : Type} (i : grid0.Coords) (k0_h2 : k0_cond2 i = 1#1) (k : PUnit.{1} → PR Ideal α) : PR Ideal α := do
  let v1351 : FVec Ideal S4x128 .f32 ← Scf.Loop.for k0_t1_loop (k0_t1_ok i k0_h2) (k0_pay464 (F := Ideal)) (kBody R i k0_h2)
  let _ ← ld R.a8 ![0, 0, 0] S1x4x32.size inb_S1x4x32_S1x4x32_0_0_0 h_S1x4x32
  st R.a8 ![0, 0, 0] S1x4x32.size inb_S1x4x32_S1x4x32_0_0_0 (k0_pay467 v1351) (View.stores_vmem_bits_univ h_S1x4x32 rfl)
  k ⟨⟩

theorem prepK_val (i : grid0.Coords) (h2 : k0_cond2 i = 1#1) (s : St Ideal) :
    ∃ A B C D, (∀ (α : Type) (k : PUnit.{1} → PR Ideal α) (b : α) (s'' : St Ideal), Runs R c (k ⟨⟩) { s with kn := A, ksr := B, kc := C, ks := D } b s''
        → Runs R c (prepK R i h2 k) s b s'')
      ∧ (∀ j n l, j < 2 → n < 4096 → l < 128 → rKn A j n l = codeB (rK s.k) n (128 * j + l))
      ∧ (∀ g r l, g < 4 → r < 32 → l < 128 → rKsr B g r l = SC (amaxB (rK s.k) r g))
      ∧ (∀ f n, f < 256 → n < 4096 → rKc C f n = codeB (rK s.k) n f)
      ∧ (∀ g r, g < 4 → r < 32 → rKs D g r = SC (amaxB (rK s.k) r g)) := by
  obtain ⟨a, s1, r1, H⟩ := Runs.loop_exists R c k0_t1_loop (k0_t1_ok i h2) 32 (by decide) (kBody R i h2) (KFact s)
    (fun t a s' h => kBody_val R c i h2 t s a s' h) (k0_pay464 (F := Ideal)) s
    ⟨rfl, fun _ _ _ _ h => absurd h (by omega), fun _ _ _ _ h => absurd h (by omega), fun _ _ _ h => absurd h (by omega), fun _ _ _ h => absurd h (by omega)⟩
  have e := H.eq
  refine ⟨s1.kn, s1.ksr, s1.kc, (Rect.unit (s := S1x4x32) ![0, 0, 0] S1x4x32.size inb_S1x4x32_S1x4x32_0_0_0).overlay s.ks (k0_pay467 a), ?_,
    fun j n l hj hn hl => H.kn j n l hj (by omega) hl, H.ksr, fun f n hf hn => H.kc f n hf (by omega), ?_⟩
  · obtain ⟨A, hA⟩ : ∃ A, A = s1.kn := ⟨_, rfl⟩
    obtain ⟨B, hB⟩ : ∃ A, A = s1.ksr := ⟨_, rfl⟩
    obtain ⟨C, hC⟩ : ∃ A, A = s1.kc := ⟨_, rfl⟩
    rw [← hA, ← hB, ← hC] at e ⊢
    clear hA hB hC H
    subst e
    intro α k b s'' hk
    exact Runs.bind R c r1 (Runs.bind R c (Runs.load (L8 R c) _ _ _ _ _) (Runs.bind R c (Runs.store (L8 R c) _ _ _ _ _ _) hk))
  · intro g r hg hr
    refine (over3 (n0 := 1) (n1 := 4) (n2 := 32) (m0 := 1) (m1 := 4) (m2 := 32) inb_S1x4x32_S1x4x32_0_0_0 s.ks (k0_pay467 a) 0 g r).trans ?_
    rw [if_pos (by omega), show g3 (n0 := 1) (n1 := 4) (n2 := 32) (k0_pay467 a) (0 - 0) (g - 0) (r - 0) = k0_pay467 a (ix3 0 ⟨g, hg⟩ ⟨r, hr⟩) from
      (g3_ix (n0 := 1) (n1 := 4) (n2 := 32) (k0_pay467 a) 0 ⟨g, hg⟩ ⟨r, hr⟩).symm, pay467_at, g2_ix (n0 := 4) (n1 := 128) a]
    exact H.acc g r hg hr

end Run

end Cert.KernelIdeal.Att
-- ==== Proof.Sections.lean ====
/- What the preparation of a sequence's values, the preparation of a tile of queries, the start-up and the stores of the
   outputs leave in memory. -/
module

public import proofs.«01_k».proof.Proof.Keys

@[expose] public section

set_option maxRecDepth 16384

noncomputable section

namespace Cert.KernelIdeal.Att

open Idealize.ShloMosaic Idealize.SL.Sem Cert.KernelIdeal Cert.KernelIdeal.Gen

theorem sup_range_add (f : ℕ → EReal) (m n : ℕ) :
    (Finset.range (m + n)).sup f = max ((Finset.range m).sup f) ((Finset.range n).sup fun x => f (m + x)) := by
  induction n with
  | zero => simp
  | succ n ih =>
    rw [← Nat.add_assoc, Finset.range_add_one, Finset.sup_insert, ih, Finset.range_add_one, Finset.sup_insert]
    exact max_left_comm _ _ _

section Run

variable (R : Refs) (c : Dev nD)

/-! ## Values -/

/-- What the loop over the value blocks has found after `T` blocks. -/
structure VMax (s0 : St Ideal) (T : ℕ) (acc : FVec Ideal S8x256 .f32) (s : St Ideal) : Prop where
  eq : s = s0
  acc : ∀ a f, a < 8 → f < 256 → g2 (n0 := 8) (n1 := 256) acc a f = max 0 ((Finset.range (16 * T)).sup fun x => absA (rK s0.v (8 * x + a) f))

theorem vMaxBody_val (i : grid0.Coords) (h3 : k0_cond3 i = 1#1) (t : Fin k0_t2_loop.trips) (s0 : St Ideal) (acc : FVec Ideal S8x256 .f32) (s : St Ideal)
    (H : VMax s0 t.val acc s) : ∃ a' s', Runs R c (vMaxBody R i h3 t acc) s a' s' ∧ VMax s0 (t.val + 1) a' s' := by
  have e := H.eq
  subst e
  have ht : t.val < 32 := lt_of_lt_of_le t.isLt (by decide)
  refine ⟨_, s, Runs.bind R c (Runs.load (L3 R c) _ _ _ _ s) (Runs.pure R c _ _), rfl, ?_⟩
  intro a f ha hf
  rw [show 16 * (t.val + 1) = 16 * t.val + 16 by omega, sup_range_add, ← max_assoc, ← H.acc a f ha hf]
  refine (g2_ix (n0 := 8) (n1 := 256) (k0_pay21 acc _) ⟨a, ha⟩ ⟨f, hf⟩).symm.trans ?_
  rw [pay21_at]
  refine congrArg₂ max (g2_ix (n0 := 8) (n1 := 256) acc ⟨a, ha⟩ ⟨f, hf⟩) ?_
  refine Finset.sup_congr rfl fun x hx => congrArg absA ?_
  rw [Finset.mem_range] at hx
  refine (load3' (n0 := 1) (n1 := 4096) (n2 := 256) (m0 := 1) (m1 := 128) (m2 := 256) (k0_off12 t) (k0_off12_eq t) (k0_off12_inb i t h3) s.v (i := 0) (j := 8 * x + a) (k := f) (by decide) (by omega) hf).trans ?_
  show g3 _ (0 + 0) _ (0 + f) = _
  rw [show 128 * t.val + (8 * x + a) = 8 * (16 * t.val + x) + a by omega, Nat.zero_add, Nat.zero_add]

/-- What the loop over the value blocks has stored after `T` blocks. -/
structure VFact (s0 : St Ideal) (T : ℕ) (u : Unit) (s : St Ideal) : Prop where
  eq : s = { s0 with vc := s.vc, vt := s.vt }
  vc : ∀ f n, f < 256 → n < 128 * T → rKc s.vc f n = codeV (rK s0.v) n f
  vt : ∀ f n, f < 256 → n < 128 * T → rVt s.vt f n = codeV (rK s0.v) n f

theorem vBody_val (i : grid0.Coords) (h3 : k0_cond3 i = 1#1) (t : Fin k0_t3_loop.trips) (s0 : St Ideal) (A : FVec Ideal S8x256 .f32)
    (hA : ∀ f, f < 256 → ((Finset.range 8).sup fun a => g2 (n0 := 8) (n1 := 256) A a f) = amaxV (rK s0.v) f) (u : Unit) (s : St Ideal)
    (H : VFact s0 t.val u s) : ∃ a' s', Runs R c (vBody R i h3 (k0_pay24 A) t u) s a' s' ∧ VFact s0 (t.val + 1) a' s' := by
  have ht : t.val < 32 := lt_of_lt_of_le t.isLt (by decide)
  have hk : s.v = s0.v := by rw [H.eq]
  obtain ⟨v, dv⟩ : ∃ v : Vec Ideal S1x128x256 .bf16, v = fun x => s.v ((Rect.unit (s := S1x4096x256) (k0_off13 t) S1x128x256.size (k0_off13_inb i t h3)).emb x) := ⟨_, rfl⟩
  have Rv : Runs R c (ld R.a3 (k0_off13 t) S1x128x256.size (k0_off13_inb i t h3) h_S1x128x256) s v s := by subst dv; exact Runs.load (L3 R c) _ _ _ _ s
  have hv : ∀ n f, n < 128 → f < 256 → g3 (n0 := 1) (n1 := 128) (n2 := 256) v 0 n f = rK s0.v (128 * t.val + n) f := by
    intro n f hn hf
    subst dv
    refine (load3' (n0 := 1) (n1 := 4096) (n2 := 256) (m0 := 1) (m1 := 128) (m2 := 256) (k0_off13 t) (k0_off13_eq t) (k0_off13_inb i t h3) s.v (by decide) hn hf).trans ?_
    rw [hk]; simp only [Nat.zero_add]
  clear dv
  obtain ⟨B, dB⟩ : ∃ B, B = (Rect.unit (s := S1x256x4096) (k0_off14 t) S1x256x128.size (k0_off14_inb i t h3)).overlay s.vc (k0_pay665 (k0_pay24 A) v) := ⟨_, rfl⟩
  obtain ⟨D, dD⟩ : ∃ D, D = (Rect.unit (s := S256x4096) (k0_off15 t) S256x128.size (k0_off15_inb i t h3)).overlay s.vt (k0_pay666 (k0_pay24 A) v) := ⟨_, rfl⟩
  have r1 : Runs R c (st R.a9 (k0_off14 t) S1x256x128.size (k0_off14_inb i t h3) (k0_pay665 (k0_pay24 A) v)
    (st8 R.a9 R.h9 _ _ _ h_S1x256x128 (k0_off14_packedfp8e4m3 i t h3))) s ⟨⟩ { s with vc := B } := by subst dB; exact Runs.store (L9 R c) _ _ _ _ _ s
  have r2 : Runs R c (st R.a14 (k0_off15 t) S256x128.size (k0_off15_inb i t h3) (k0_pay666 (k0_pay24 A) v)
    (st8 R.a14 R.h14 _ _ _ h_S256x128 (k0_off15_packedfp8e4m3 i t h3))) { s with vc := B } ⟨⟩ { s with vc := B, vt := D } := by
    subst dD; exact Runs.store (L14 R c) _ _ _ _ _ _
  have hB : ∀ f n, f < 256 → n < 128 * (t.val + 1) → rKc B f n = codeV (rK s0.v) n f := by
      intro f n hf hn
      subst dB
      refine (over3' (n0 := 1) (n1 := 256) (n2 := 4096) (m0 := 1) (m1 := 256) (m2 := 128) (k0_off14 t) (k0_off14_eq t) (k0_off14_inb i t h3) s.vc (k0_pay665 (k0_pay24 A) v) 0 f n).trans ?_
      by_cases hq : n / 128 = t.val
      · rw [if_pos (by omega)]
        refine (g3_ix (n0 := 1) (n1 := 256) (n2 := 128) (k0_pay665 (k0_pay24 A) v) 0 ⟨f, hf⟩ ⟨n - 128 * t.val, by omega⟩).symm.trans ?_
        rw [pay665_at A _ hA, hv _ _ (by show n - 128 * t.val < 128; omega) hf]
        show clip (rK s0.v (128 * t.val + (n - 128 * t.val)) f * _) = _
        rw [show 128 * t.val + (n - 128 * t.val) = n by omega]
        rfl
      · rw [if_neg (by omega)]
        exact H.vc f n hf (by omega)
  have hD : ∀ f n, f < 256 → n < 128 * (t.val + 1) → rVt D f n = codeV (rK s0.v) n f := by
      intro f n hf hn
      subst dD
      refine (over2' (n0 := 256) (n1 := 4096) (m0 := 256) (m1 := 128) (k0_off15 t) (k0_off15_eq t) (k0_off15_inb i t h3) s.vt (k0_pay666 (k0_pay24 A) v) f n).trans ?_
      by_cases hq : n / 128 = t.val
      · rw [if_pos (by omega)]
        refine (g2_ix (n0 := 256) (n1 := 128) (k0_pay666 (k0_pay24 A) v) ⟨f, hf⟩ ⟨n - 128 * t.val, by omega⟩).symm.trans ?_
        rw [pay666_at A _ hA, hv _ _ (by show n - 128 * t.val < 128; omega) hf]
        show clip (rK s0.v (128 * t.val + (n - 128 * t.val)) f * _) = _
        rw [show 128 * t.val + (n - 128 * t.val) = n by omega]
        rfl
      · rw [if_neg (by omega)]
        exact H.vt f n hf (by omega)
  clear dB dD
  refine ⟨⟨⟩, { s with vc := B, vt := D }, ?_, ?_⟩
  · exact Runs.bind R c Rv (Runs.bind R c (Runs.load (L9 R c) _ _ _ _ _) (Runs.bind R c r1 (Runs.bind R c (Runs.load (L14 R c) _ _ _ _ _) (Runs.bind R c r2 (Runs.pure R c _ _)))))
  · refine ⟨?_, hB, hD⟩
    rw [H.eq]

/-- The preparation of a sequence's values, and what follows it. -/
def prepV {α : Type} (i : grid0.Coords) (k0_h3 : k0_cond3 i = 1#1) (k : PUnit.{1} → PR Ideal α) : PR Ideal α := do
  let ⟨v1379, v1385⟩ : Σ' (v1379 : FVec Ideal S8x256 .f32), FVec Ideal S1x256 .f32 ← vScale R i k0_h3
  let _ ← ld R.a15 ![0, 0] S256x128.size inb_S256x128_S256x128_0_0 h_S256x128
  st R.a15 ![0, 0] S256x128.size inb_S256x128_S256x128_0_0 (k0_pay663 v1385) (View.stores_vmem_bits_univ h_S256x128 rfl)
  Scf.Loop.for k0_t3_loop (k0_t3_ok i k0_h3) ⟨⟩ (vBody R i k0_h3 v1379)
  k ⟨⟩

theorem amaxV_parts (V : ℕ → ℕ → EReal) (f : ℕ) :
    ((Finset.range 8).sup fun a => max 0 ((Finset.range (16 * 32)).sup fun x => absA (V (8 * x + a) f))) = amaxV V f := by
  apply le_antisymm
  · refine Finset.sup_le fun a ha => max_le (amaxV_nonneg V f) (Finset.sup_le fun x hx => ?_)
    rw [Finset.mem_range] at ha hx
    exact Finset.le_sup (f := fun n => absA (V n f)) (Finset.mem_range.2 (by omega))
  · refine Finset.sup_le fun n hn => ?_
    rw [Finset.mem_range] at hn
    have h1 := Finset.le_sup (f := fun x => absA (V (8 * x + n % 8) f)) (Finset.mem_range.2 (show n / 8 < 16 * 32 by omega))
    rw [show 8 * (n / 8) + n % 8 = n by omega] at h1
    refine h1.trans ((le_max_right 0 _).trans ?_)
    exact Finset.le_sup (f := fun a => max 0 ((Finset.range (16 * 32)).sup fun x => absA (V (8 * x + a) f))) (Finset.mem_range.2 (show n % 8 < 8 by omega))

theorem prepV_val (i : grid0.Coords) (h3 : k0_cond3 i = 1#1) (s : St Ideal) :
    ∃ A B C D, (∀ (α : Type) (k : PUnit.{1} → PR Ideal α) (b : α) (s'' : St Ideal), Runs R c (k ⟨⟩) { s with vs := A, vcol := B, vc := C, vt := D } b s''
        → Runs R c (prepV R i h3 k) s b s'')
      ∧ (∀ f, f < 256 → rVs A f = SC (amaxV (rK s.v) f))
      ∧ (∀ f l, f < 256 → l < 128 → rVcol B f l = SC (amaxV (rK s.v) f))
      ∧ (∀ f n, f < 256 → n < 4096 → rKc C f n = codeV (rK s.v) n f)
      ∧ (∀ f n, f < 256 → n < 4096 → rVt D f n = codeV (rK s.v) n f) := by
  obtain ⟨a, s1, r1, H1⟩ := Runs.loop_exists R c k0_t2_loop (k0_t2_ok i h3) 32 (by decide) (vMaxBody R i h3) (VMax s)
    (fun t a s' h => vMaxBody_val R c i h3 t s a s' h) (k0_pay20 (F := Ideal)) s
    ⟨rfl, fun a f ha hf => by
      refine (g2_ix (n0 := 8) (n1 := 256) (k0_pay20 (F := Ideal)) ⟨a, ha⟩ ⟨f, hf⟩).symm.trans ?_
      show Ideal.ofBits FTy.f32 0x00000000#32 = _
      rw [Ideal.ofBits_zero_f32]; simp⟩
  have e1 := H1.eq
  subst e1
  have hA : ∀ f, f < 256 → ((Finset.range 8).sup fun x => g2 (n0 := 8) (n1 := 256) a x f) = amaxV (rK s1.v) f := by
    intro f hf
    rw [← amaxV_parts]
    refine Finset.sup_congr rfl fun x hx => H1.acc x f (Finset.mem_range.1 hx) hf
  obtain ⟨A, dA⟩ : ∃ A, A = (Rect.unit (s := S1x1x256) ![0, 0, 0] S1x1x256.size inb_S1x1x256_S1x1x256_0_0_0).overlay s1.vs (k0_pay25 a) := ⟨_, rfl⟩
  obtain ⟨B, dB⟩ : ∃ B, B = (Rect.unit (s := S256x128) ![0, 0] S256x128.size inb_S256x128_S256x128_0_0).overlay s1.vcol (k0_pay663 (k0_pay26 a)) := ⟨_, rfl⟩
  have r2 : Runs R c (st R.a10 ![0, 0, 0] S1x1x256.size inb_S1x1x256_S1x1x256_0_0_0 (k0_pay25 a) (View.stores_vmem_bits_univ h_S1x1x256 rfl)) s1 ⟨⟩ { s1 with vs := A } := by
    subst dA; exact Runs.store (L10 R c) _ _ _ _ _ s1
  have r3 : Runs R c (st R.a15 ![0, 0] S256x128.size inb_S256x128_S256x128_0_0 (k0_pay663 (k0_pay26 a)) (View.stores_vmem_bits_univ h_S256x128 rfl))
      { s1 with vs := A } ⟨⟩ { s1 with vs := A, vcol := B } := by
    subst dB; exact Runs.store (L15 R c) _ _ _ _ _ _
  obtain ⟨u, s2, r4, H2⟩ := Runs.loop_exists R c k0_t3_loop (k0_t3_ok i h3) 32 (by decide) (vBody R i h3 (k0_pay24 a)) (VFact { s1 with vs := A, vcol := B })
    (fun t u s' h => vBody_val R c i h3 t { s1 with vs := A, vcol := B } a hA u s' h) ⟨⟩ { s1 with vs := A, vcol := B }
    ⟨rfl, fun _ _ _ h => absurd h (by omega), fun _ _ _ h => absurd h (by omega)⟩
  refine ⟨A, B, s2.vc, s2.vt, ?_, ?_, ?_, fun f n hf hn => H2.vc f n hf (by omega), fun f n hf hn => H2.vt f n hf (by omega)⟩
  · have e := H2.eq
    obtain ⟨C, hC⟩ : ∃ A, A = s2.vc := ⟨_, rfl⟩
    obtain ⟨D, hD⟩ : ∃ A, A = s2.vt := ⟨_, rfl⟩
    rw [← hC, ← hD] at e ⊢
    clear hC hD H2
    subst e
    have rs : Runs R c (vScale R i h3) s1 ⟨k0_pay24 a, k0_pay26 a⟩ { s1 with vs := A } :=
      Runs.bind R c r1 (Runs.bind R c (Runs.load (L10 R c) _ _ _ _ _) (Runs.bind R c r2 (Runs.pure R c _ _)))
    intro α k b s'' hk
    exact Runs.bind R c rs (Runs.bind R c (Runs.load (L15 R c) _ _ _ _ _) (Runs.bind R c r3 (Runs.bind R c r4 hk)))
  · intro f hf
    subst dA
    refine (over3 (n0 := 1) (n1 := 1) (n2 := 256) (m0 := 1) (m1 := 1) (m2 := 256) inb_S1x1x256_S1x1x256_0_0_0 s1.vs (k0_pay25 a) 0 0 f).trans ?_
    rw [if_pos (by omega)]
    refine (g3_ix (n0 := 1) (n1 := 1) (n2 := 256) (k0_pay25 a) 0 0 ⟨f, hf⟩).symm.trans ?_
    rw [pay25_at a _ hA]
  · intro f l hf hl
    subst dB
    refine (over2 (n0 := 256) (n1 := 128) (m0 := 256) (m1 := 128) inb_S256x128_S256x128_0_0 s1.vcol (k0_pay663 (k0_pay26 a)) f l).trans ?_
    rw [if_pos (by omega)]
    refine (g2_ix (n0 := 256) (n1 := 128) (k0_pay663 (k0_pay26 a)) ⟨f, hf⟩ ⟨l, hl⟩).symm.trans ?_
    rw [pay663_at a _ hA]

/-! ## Queries -/

theorem qHeads_val (v : Vec Ideal S1x128x1024 .bf16) (s : St Ideal) : ∀ (n : ℕ) (hn : n ≤ 16),
    ∃ C D, Runs R c (qHeads R (k0_pay468 v) (k0_pay473 (k0_pay469 v) (k0_pay470 v)) n hn) s ⟨⟩ { s with qc := C, qz := D }
      ∧ (∀ f m, f < 64 * n → m < 128 → rQc C f m = codeB (rX v) m f)
      ∧ (∀ g d b, g < 4 → d < 128 → b < 512 → rQz D g d b = if 4 * g + b / 128 < n ∧ d / 64 = g % 2
          then codeB (rX v) (b % 128) (64 * (4 * g + b / 128) + d % 64) else rQz s.qz g d b) := by
  intro n
  induction n with
  | zero =>
    intro hn
    refine ⟨s.qc, s.qz, Runs.pure R c _ _, fun f m hf => absurd hf (by omega), fun g d b hg hd hb => ?_⟩
    rw [if_neg (by omega)]
  | succ n ih =>
    intro hn
    obtain ⟨C, D, r, hC, hD⟩ := ih (by omega)
    refine ⟨(Rect.unit (s := S1x1024x128) ![0, 64 * n, 0] S1x64x128.size (inbQc ⟨n, by omega⟩)).overlay C (qCode ⟨n, by omega⟩ (k0_pay468 v) (k0_pay473 (k0_pay469 v) (k0_pay470 v))),
      (Rect.unit (s := S4x128x512) ![n / 4, 64 * ((n / 4) % 2), 128 * (n % 4)] S1x64x128.size (inbQz' ⟨n, by omega⟩)).overlay D
        (qCode ⟨n, by omega⟩ (k0_pay468 v) (k0_pay473 (k0_pay469 v) (k0_pay470 v))), ?_, ?_, ?_⟩
    · refine Runs.bind R c r ?_
      unfold qHead
      refine Runs.bind R c (Runs.load (L5 R c) _ _ _ _ _) ?_
      refine Runs.bind R c (Runs.store (L5 R c) _ _ _ _ _ _) ?_
      refine Runs.bind R c (Runs.load (L16 R c) _ _ _ _ _) ?_
      exact Runs.store (L16 R c) _ _ _ _ _ _
    · intro f m hf hm
      refine (over3 (n0 := 1) (n1 := 1024) (n2 := 128) (m0 := 1) (m1 := 64) (m2 := 128) (inbQc ⟨n, by omega⟩) C _ 0 f m).trans ?_
      show (if 0 ≤ 0 ∧ 0 < 0 + 1 ∧ 64 * n ≤ f ∧ f < 64 * n + 64 ∧ 0 ≤ m ∧ m < 0 + 128 then g3 _ (0 - 0) (f - 64 * n) (m - 0) else g3 C 0 f m) = _
      by_cases hq : f / 64 = n
      · rw [if_pos (by omega)]
        refine (g3_ix (n0 := 1) (n1 := 64) (n2 := 128) (qCode ⟨n, by omega⟩ (k0_pay468 v) (k0_pay473 (k0_pay469 v) (k0_pay470 v))) 0 ⟨f - 64 * n, by omega⟩ ⟨m, hm⟩).symm.trans ?_
        rw [qCode_at]
        show codeB (rX v) m (64 * n + (f - 64 * n)) = _
        rw [show 64 * n + (f - 64 * n) = f by omega]
      · rw [if_neg (by omega)]
        exact hC f m (by omega) hm
    · intro g d b hg hd hb
      refine (over3 (n0 := 4) (n1 := 128) (n2 := 512) (m0 := 1) (m1 := 64) (m2 := 128) (inbQz' ⟨n, by omega⟩) D _ g d b).trans ?_
      show (if n / 4 ≤ g ∧ g < n / 4 + 1 ∧ 64 * ((n / 4) % 2) ≤ d ∧ d < 64 * ((n / 4) % 2) + 64 ∧ 128 * (n % 4) ≤ b ∧ b < 128 * (n % 4) + 128
        then g3 _ (g - n / 4) (d - 64 * ((n / 4) % 2)) (b - 128 * (n % 4)) else rQz D g d b) = _
      by_cases hq : 4 * g + b / 128 = n ∧ d / 64 = g % 2
      · obtain ⟨h1, h2⟩ := hq
        have h3 : n / 4 = g := by omega
        have h4 : n % 4 = b / 128 := by omega
        simp only [h3, h4]
        rw [if_pos (by omega), if_pos (by omega), show g - g = 0 by omega]
        refine (g3_ix (n0 := 1) (n1 := 64) (n2 := 128) (qCode ⟨n, by omega⟩ (k0_pay468 v) (k0_pay473 (k0_pay469 v) (k0_pay470 v))) 0 ⟨d - 64 * (g % 2), by omega⟩
          ⟨b - 128 * (b / 128), by omega⟩).symm.trans ?_
        rw [qCode_at]
        show codeB (rX v) (b - 128 * (b / 128)) (64 * n + (d - 64 * (g % 2))) = _
        rw [show b - 128 * (b / 128) = b % 128 by omega, h1, show d - 64 * (g % 2) = d % 64 by omega]
      · rw [if_neg (by omega), hD g d b hg hd hb]
        refine if_congr ⟨fun h => ⟨by omega, h.2⟩, fun h => ⟨?_, h.2⟩⟩ rfl rfl
        rcases Nat.lt_succ_iff_lt_or_eq.1 h.1 with h' | h'
        · exact h'
        · exact absurd ⟨h', h.2⟩ hq

attribute [local irreducible] qHeads

theorem qHeads_val' (v : Vec Ideal S1x128x1024 .bf16) (s : St Ideal) (A : Vec Ideal S1x16x32 .f32) (B : Vec Ideal S16x128 .f32) (n : ℕ) (hn : n ≤ 16) :
    ∃ C D, Runs R c (qHeads R (k0_pay468 v) (k0_pay473 (k0_pay469 v) (k0_pay470 v)) n hn) { s with qs := A, qsr := B } ⟨⟩
        { s with qs := A, qsr := B, qc := C, qz := D }
      ∧ (∀ f m, f < 64 * n → m < 128 → rQc C f m = codeB (rX v) m f)
      ∧ (∀ g d b, g < 4 → d < 128 → b < 512 → rQz D g d b = if 4 * g + b / 128 < n ∧ d / 64 = g % 2
          then codeB (rX v) (b % 128) (64 * (4 * g + b / 128) + d % 64) else rQz s.qz g d b) :=
  qHeads_val R c v { s with qs := A, qsr := B } n hn

theorem qSec_val (v : Vec Ideal S1x128x1024 .bf16) (a : BitVec 32) (i : ℕ) (hi : i < 32) (ha : Scalar.remsi (Scalar.minsi a 255#32) 32#32 = BitVec.ofNat 32 i)
    (s : St Ideal) :
    ∃ A B C D, Runs R c (qSec R a (k0_pay468 v) (k0_pay469 v) (k0_pay470 v)) s ⟨⟩ { s with qs := A, qsr := B, qc := C, qz := D }
      ∧ (∀ h l, h < 16 → l < 32 → rQs A h l = if l = i then SC (amaxB (rX v) 0 h) else rQs s.qs h l)
      ∧ (∀ h l, h < 16 → l < 128 → rQsr B h l = SC (amaxB (rX v) 0 h) * fac)
      ∧ (∀ f m, f < 1024 → m < 128 → rQc C f m = codeB (rX v) m f)
      ∧ (∀ g d b, g < 4 → d < 128 → b < 512 → rQz D g d b = if d / 64 = g % 2
          then codeB (rX v) (b % 128) (64 * (4 * g + b / 128) + d % 64) else rQz s.qz g d b) := by
  obtain ⟨v54, d54⟩ : ∃ w : Vec Ideal S1x16x32 .f32, w = fun x => s.qs ((Rect.unit (s := S1x16x32) ![0, 0, 0] S1x16x32.size inb_S1x16x32_S1x16x32_0_0_0).emb x) := ⟨_, rfl⟩
  have r0 : Runs R c (ld R.a6 ![0, 0, 0] S1x16x32.size inb_S1x16x32_S1x16x32_0_0_0 h_S1x16x32) s v54 s := by subst d54; exact Runs.load (L6 R c) _ _ _ _ s
  obtain ⟨A, dA⟩ : ∃ A, A = (Rect.unit (s := S1x16x32) ![0, 0, 0] S1x16x32.size inb_S1x16x32_S1x16x32_0_0_0).overlay s.qs (k0_pay474 a (k0_pay469 v) (k0_pay470 v) v54) := ⟨_, rfl⟩
  obtain ⟨B, dB⟩ : ∃ A, A = (Rect.unit (s := S16x128) ![0, 0] S16x128.size inb_S16x128_S16x128_0_0).overlay s.qsr (k0_pay475 (k0_pay469 v) (k0_pay470 v)) := ⟨_, rfl⟩
  have r1 : Runs R c (st R.a6 ![0, 0, 0] S1x16x32.size inb_S1x16x32_S1x16x32_0_0_0 (k0_pay474 a (k0_pay469 v) (k0_pay470 v) v54) (View.stores_vmem_bits_univ h_S1x16x32 rfl))
      s ⟨⟩ { s with qs := A } := by subst dA; exact Runs.store (L6 R c) _ _ _ _ _ s
  have r2 : Runs R c (st R.a17 ![0, 0] S16x128.size inb_S16x128_S16x128_0_0 (k0_pay475 (k0_pay469 v) (k0_pay470 v)) (View.stores_vmem_bits_univ h_S16x128 rfl))
      { s with qs := A } ⟨⟩ { s with qs := A, qsr := B } := by subst dB; exact Runs.store (L17 R c) _ _ _ _ _ _
  obtain ⟨C, D, r3, hC, hD⟩ := qHeads_val' R c v s A B 16 heads_le
  refine ⟨A, B, C, D, ?_, ?_, ?_, fun f m hf hm => hC f m (by omega) hm, ?_⟩
  · unfold qSec
    refine Runs.bind R c r0 ?_
    refine Runs.bind R c (Runs.load (L6 R c) _ _ _ _ _) ?_
    refine Runs.bind R c r1 ?_
    refine Runs.bind R c (Runs.load (L17 R c) _ _ _ _ _) ?_
    refine Runs.bind R c r2 ?_
    exact r3
  · intro h l hh hl
    subst dA
    refine (over3 (n0 := 1) (n1 := 16) (n2 := 32) (m0 := 1) (m1 := 16) (m2 := 32) inb_S1x16x32_S1x16x32_0_0_0 s.qs _ 0 h l).trans ?_
    rw [if_pos (by omega)]
    refine (g3_ix (n0 := 1) (n1 := 16) (n2 := 32) (k0_pay474 a (k0_pay469 v) (k0_pay470 v) v54) 0 ⟨h, hh⟩ ⟨l, hl⟩).symm.trans ?_
    rw [pay474_at v a i hi ha]
    refine if_congr Iff.rfl rfl ?_
    rw [d54]
    refine (g3_ix (n0 := 1) (n1 := 16) (n2 := 32) (fun x => s.qs ((Rect.unit (s := S1x16x32) ![0, 0, 0] S1x16x32.size inb_S1x16x32_S1x16x32_0_0_0).emb x)) 0 ⟨h, hh⟩ ⟨l, hl⟩).trans ?_
    refine (load3 (n0 := 1) (n1 := 16) (n2 := 32) (m0 := 1) (m1 := 16) (m2 := 32) inb_S1x16x32_S1x16x32_0_0_0 s.qs (i := 0) (j := h) (k := l) (by decide) hh hl).trans ?_
    rw [Nat.zero_add, Nat.zero_add, Nat.zero_add]
  · intro h l hh hl
    subst dB
    refine (over2 (n0 := 16) (n1 := 128) (m0 := 16) (m1 := 128) inb_S16x128_S16x128_0_0 s.qsr _ h l).trans ?_
    rw [if_pos (by omega)]
    refine (g2_ix (n0 := 16) (n1 := 128) (k0_pay475 (k0_pay469 v) (k0_pay470 v)) ⟨h, hh⟩ ⟨l, hl⟩).symm.trans ?_
    rw [pay475_at]
  · intro g d b hg hd hb
    rw [hD g d b hg hd hb]
    exact if_congr ⟨fun h => h.2, fun h => ⟨by omega, h⟩⟩ rfl rfl

/-! ## Start-up and the stores of the outputs -/

theorem initP_val (s : St Ideal) : ∃ A B C D E G H, Runs R c (initP R) s ⟨⟩ { s with s := A, qz := B, c := C, m := D, vt := E, vcol := G, obuf := H }
    ∧ (∀ g d b, g < 4 → d < 128 → b < 512 → rQz B g d b = 0) := by
  obtain ⟨A, dA⟩ : ∃ X, X = (Rect.unit (s := S4096x512) ![0, 0] S4096x512.size inb_S4096x512_S4096x512_0_0).overlay s.s (k0_pay456 (F := Ideal)) := ⟨_, rfl⟩
  have rA : Runs R c (st R.a11 ![0, 0] S4096x512.size inb_S4096x512_S4096x512_0_0 (k0_pay456 (F := Ideal)) (View.stores_vmem_bits_univ h_S4096x512 rfl))
      s ⟨⟩ { s with s := A } := by
    subst dA; exact Runs.store (L11 R c) _ _ _ _ _ _
  obtain ⟨B, dB⟩ : ∃ X, X = (Rect.unit (s := S4x128x512) ![0, 0, 0] S4x128x512.size inb_S4x128x512_S4x128x512_0_0_0).overlay s.qz (k0_pay457 (F := Ideal)) := ⟨_, rfl⟩
  have rB : Runs R c (st R.a16 ![0, 0, 0] S4x128x512.size inb_S4x128x512_S4x128x512_0_0_0 (k0_pay457 (F := Ideal)) (st8 R.a16 R.h16 _ _ _ h_S4x128x512 packedfp8e4m3_S4x128x512_S4x128x512_0_0_0))
      { s with s := A } ⟨⟩ { s with s := A, qz := B } := by
    subst dB; exact Runs.store (L16 R c) _ _ _ _ _ _
  obtain ⟨C, dC⟩ : ∃ X, X = (Rect.unit (s := S2x32x512) ![0, 0, 0] S2x32x512.size inb_S2x32x512_S2x32x512_0_0_0).overlay s.c (k0_pay458 (F := Ideal)) := ⟨_, rfl⟩
  have rC : Runs R c (st R.a18 ![0, 0, 0] S2x32x512.size inb_S2x32x512_S2x32x512_0_0_0 (k0_pay458 (F := Ideal)) (View.stores_vmem_bits_univ h_S2x32x512 rfl))
      { s with s := A, qz := B } ⟨⟩ { s with s := A, qz := B, c := C } := by
    subst dC; exact Runs.store (L18 R c) _ _ _ _ _ _
  obtain ⟨D, dD⟩ : ∃ X, X = (Rect.unit (s := S2x1x512) ![0, 0, 0] S2x1x512.size inb_S2x1x512_S2x1x512_0_0_0).overlay s.m (k0_pay459 (F := Ideal)) := ⟨_, rfl⟩
  have rD : Runs R c (st R.a19 ![0, 0, 0] S2x1x512.size inb_S2x1x512_S2x1x512_0_0_0 (k0_pay459 (F := Ideal)) (View.stores_vmem_bits_univ h_S2x1x512 rfl))
      { s with s := A, qz := B, c := C } ⟨⟩ { s with s := A, qz := B, c := C, m := D } := by
    subst dD; exact Runs.store (L19 R c) _ _ _ _ _ _
  obtain ⟨E, dE⟩ : ∃ X, X = (Rect.unit (s := S256x4096) ![0, 0] S256x4096.size inb_S256x4096_S256x4096_0_0).overlay s.vt (k0_pay460 (F := Ideal)) := ⟨_, rfl⟩
  have rE : Runs R c (st R.a14 ![0, 0] S256x4096.size inb_S256x4096_S256x4096_0_0 (k0_pay460 (F := Ideal)) (st8 R.a14 R.h14 _ _ _ h_S256x4096 packedfp8e4m3_S256x4096_S256x4096_0_0))
      { s with s := A, qz := B, c := C, m := D } ⟨⟩ { s with s := A, qz := B, c := C, m := D, vt := E } := by
    subst dE; exact Runs.store (L14 R c) _ _ _ _ _ _
  obtain ⟨G, dG⟩ : ∃ X, X = (Rect.unit (s := S256x128) ![0, 0] S256x128.size inb_S256x128_S256x128_0_0).overlay s.vcol (k0_pay461 (F := Ideal)) := ⟨_, rfl⟩
  have rG : Runs R c (st R.a15 ![0, 0] S256x128.size inb_S256x128_S256x128_0_0 (k0_pay461 (F := Ideal)) (View.stores_vmem_bits_univ h_S256x128 rfl))
      { s with s := A, qz := B, c := C, m := D, vt := E } ⟨⟩ { s with s := A, qz := B, c := C, m := D, vt := E, vcol := G } := by
    subst dG; exact Runs.store (L15 R c) _ _ _ _ _ _
  obtain ⟨H, dH⟩ : ∃ X, X = (Rect.unit (s := S128x768) ![0, 0] S128x768.size inb_S128x768_S128x768_0_0).overlay s.obuf (k0_pay462 (F := Ideal)) := ⟨_, rfl⟩
  have rH : Runs R c (st R.a20 ![0, 0] S128x768.size inb_S128x768_S128x768_0_0 (k0_pay462 (F := Ideal)) (st16 R.a20 R.h20 _ _ _ h_S128x768 packedbf16_S128x768_S128x768_0_0))
      { s with s := A, qz := B, c := C, m := D, vt := E, vcol := G } ⟨⟩ { s with s := A, qz := B, c := C, m := D, vt := E, vcol := G, obuf := H } := by
    subst dH; exact Runs.store (L20 R c) _ _ _ _ _ _
  refine ⟨A, B, C, D, E, G, H, ?_, ?_⟩
  · unfold initP
    refine Runs.bind R c (Runs.load (L11 R c) _ _ _ _ _) (Runs.bind R c rA ?_)
    refine Runs.bind R c (Runs.load (L16 R c) _ _ _ _ _) (Runs.bind R c rB ?_)
    refine Runs.bind R c (Runs.load (L18 R c) _ _ _ _ _) (Runs.bind R c rC ?_)
    refine Runs.bind R c (Runs.load (L19 R c) _ _ _ _ _) (Runs.bind R c rD ?_)
    refine Runs.bind R c (Runs.load (L14 R c) _ _ _ _ _) (Runs.bind R c rE ?_)
    refine Runs.bind R c (Runs.load (L15 R c) _ _ _ _ _) (Runs.bind R c rG ?_)
    exact Runs.bind R c (Runs.load (L20 R c) _ _ _ _ _) rH
  · intro g d b hg hd hb
    subst dB
    refine (over3 (n0 := 4) (n1 := 128) (n2 := 512) (m0 := 4) (m1 := 128) (m2 := 512) inb_S4x128x512_S4x128x512_0_0_0 s.qz _ g d b).trans ?_
    rw [if_pos (by omega)]
    refine (g3_ix (n0 := 4) (n1 := 128) (n2 := 512) (k0_pay457 (F := Ideal)) ⟨g, hg⟩ ⟨d, hd⟩ ⟨b, hb⟩).symm.trans ?_
    pointwise [k0_pay457]
    simp [Ideal.ofBits, Ideal.ieee, Ideal.e4m3fn]

theorem outCopy_val (s : St Ideal) : ∃ A, Runs R c (outCopy R) s ⟨⟩ { s with out := A }
    ∧ (∀ n f, n < 128 → rOut A n f = if f < 768 then rOb s.obuf n f else rOut s.out n f) := by
  obtain ⟨v, dv⟩ : ∃ w : Vec Ideal S128x768 .bf16, w = fun x => s.obuf ((Rect.unit (s := S128x768) ![0, 0] S128x768.size inb_S128x768_S128x768_0_0).emb x) := ⟨_, rfl⟩
  have r0 : Runs R c (ld R.a20 ![0, 0] S128x768.size inb_S128x768_S128x768_0_0 h_S128x768) s v s := by subst dv; exact Runs.load (L20 R c) _ _ _ _ s
  refine ⟨(Rect.unit (s := S1x128x1024) ![0, 0, 0] S1x128x768.size inb_S1x128x1024_S1x128x768_0_0_0).overlay s.out (k0_pay528 v), ?_, ?_⟩
  · exact Runs.bind R c r0 (Runs.bind R c (Runs.load (L4 R c) _ _ _ _ _) (Runs.store (L4 R c) _ _ _ _ _ _))
  · intro n f hn
    refine (over3 (n0 := 1) (n1 := 128) (n2 := 1024) (m0 := 1) (m1 := 128) (m2 := 768) inb_S1x128x1024_S1x128x768_0_0_0 s.out _ 0 n f).trans ?_
    refine if_ctx_congr ⟨fun h => by omega, fun h => by omega⟩ (fun h => ?_) (fun _ => rfl)
    refine (g3_ix (n0 := 1) (n1 := 128) (n2 := 768) (k0_pay528 v) 0 ⟨n, hn⟩ ⟨f, h⟩).symm.trans ?_
    have e : k0_pay528 v (ix3 0 ⟨n, hn⟩ ⟨f, h⟩) = v (ix2 ⟨n, hn⟩ ⟨f, h⟩) := by pointwise [k0_pay528]
    rw [e, dv]
    refine (g2_ix (n0 := 128) (n1 := 768) (fun x => s.obuf ((Rect.unit (s := S128x768) ![0, 0] S128x768.size inb_S128x768_S128x768_0_0).emb x)) ⟨n, hn⟩ ⟨f, h⟩).trans ?_
    refine (load2 (n0 := 128) (n1 := 768) (m0 := 128) (m1 := 768) inb_S128x768_S128x768_0_0 s.obuf (i := n) (j := f) hn h).trans ?_
    rw [Nat.zero_add, Nat.zero_add]

/-- The last head's two tiles, to the output block, and what follows. -/
def outTail {α : Type} (o : FVec Ideal S64x512 .f32) (k : PUnit.{1} → PR Ideal α) : PR Ideal α := do
  let _ ← ld R.a4 ![0, 0, 768] S1x128x128.size inb_S1x128x1024_S1x128x128_0_0_768 h_S1x128x128
  st R.a4 ![0, 0, 768] S1x128x128.size inb_S1x128x1024_S1x128x128_0_0_768 (shapeCast S1x128x128
    (pairP 0 128 slices_S64x512_o0_0_S64x128 slices_S64x512_o0_128_S64x128 o) shapeCasts_S128x128_S1x128x128)
    (st16 R.a4 R.h4 _ _ _ h_S1x128x128 packedbf16_S1x128x1024_S1x128x128_0_0_768)
  let _ ← ld R.a4 ![0, 0, 896] S1x128x128.size inb_S1x128x1024_S1x128x128_0_0_896 h_S1x128x128
  st R.a4 ![0, 0, 896] S1x128x128.size inb_S1x128x1024_S1x128x128_0_0_896 (shapeCast S1x128x128
    (pairP 256 384 slices_S64x512_o0_256_S64x128 slices_S64x512_o0_384_S64x128 o) shapeCasts_S128x128_S1x128x128)
    (st16 R.a4 R.h4 _ _ _ h_S1x128x128 packedbf16_S1x128x1024_S1x128x128_0_0_896)
  k ⟨⟩

theorem cast_tile (p : FVec Ideal S128x128 .bf16) {n f : ℕ} (hn : n < 128) (hf : f < 128) :
    g3 (n0 := 1) (n1 := 128) (n2 := 128) (shapeCast S1x128x128 p shapeCasts_S128x128_S1x128x128) 0 n f = g2 (n0 := 128) (n1 := 128) p n f := by
  refine (g3_ix (n0 := 1) (n1 := 128) (n2 := 128) (shapeCast S1x128x128 p shapeCasts_S128x128_S1x128x128) 0 ⟨n, hn⟩ ⟨f, hf⟩).symm.trans
    (Eq.trans ?_ (g2_ix (n0 := 128) (n1 := 128) p ⟨n, hn⟩ ⟨f, hf⟩))
  pointwise []

theorem cast_tile2 (p : FVec Ideal S128x128 .bf16) {n f : ℕ} (hn : n < 128) (hf : f < 128) :
    g2 (n0 := 128) (n1 := 128) (shapeCast S128x128 p shapeCasts_S128x128_S128x128) n f = g2 (n0 := 128) (n1 := 128) p n f := by
  refine (g2_ix (n0 := 128) (n1 := 128) (shapeCast S128x128 p shapeCasts_S128x128_S128x128) ⟨n, hn⟩ ⟨f, hf⟩).symm.trans
    (Eq.trans ?_ (g2_ix (n0 := 128) (n1 := 128) p ⟨n, hn⟩ ⟨f, hf⟩))
  pointwise []

theorem outTail_val (o : FVec Ideal S64x512 .f32) (s : St Ideal) : ∃ A, (∀ (α : Type) (k : PUnit.{1} → PR Ideal α) (b : α) (s'' : St Ideal), Runs R c (k ⟨⟩) { s with out := A } b s''
        → Runs R c (outTail R o k) s b s'')
    ∧ (∀ n f, n < 128 → f < 1024 → rOut A n f = if f < 768 then rOut s.out n f else rO o (f % 64) (128 * ((f - 768) / 64) + n)) := by
  obtain ⟨A, dA⟩ : ∃ X, X = (Rect.unit (s := S1x128x1024) ![0, 0, 768] S1x128x128.size inb_S1x128x1024_S1x128x128_0_0_768).overlay s.out (shapeCast S1x128x128
    (pairP 0 128 slices_S64x512_o0_0_S64x128 slices_S64x512_o0_128_S64x128 o) shapeCasts_S128x128_S1x128x128) := ⟨_, rfl⟩
  obtain ⟨B, dB⟩ : ∃ X, X = (Rect.unit (s := S1x128x1024) ![0, 0, 896] S1x128x128.size inb_S1x128x1024_S1x128x128_0_0_896).overlay A (shapeCast S1x128x128
    (pairP 256 384 slices_S64x512_o0_256_S64x128 slices_S64x512_o0_384_S64x128 o) shapeCasts_S128x128_S1x128x128) := ⟨_, rfl⟩
  have r1 : Runs R c (st R.a4 ![0, 0, 768] S1x128x128.size inb_S1x128x1024_S1x128x128_0_0_768 (shapeCast S1x128x128
    (pairP 0 128 slices_S64x512_o0_0_S64x128 slices_S64x512_o0_128_S64x128 o) shapeCasts_S128x128_S1x128x128)
    (st16 R.a4 R.h4 _ _ _ h_S1x128x128 packedbf16_S1x128x1024_S1x128x128_0_0_768)) s ⟨⟩ { s with out := A } := by
    subst dA; exact Runs.store (L4 R c) _ _ _ _ _ _
  have r2 : Runs R c (st R.a4 ![0, 0, 896] S1x128x128.size inb_S1x128x1024_S1x128x128_0_0_896 (shapeCast S1x128x128
    (pairP 256 384 slices_S64x512_o0_256_S64x128 slices_S64x512_o0_384_S64x128 o) shapeCasts_S128x128_S1x128x128)
    (st16 R.a4 R.h4 _ _ _ h_S1x128x128 packedbf16_S1x128x1024_S1x128x128_0_0_896)) { s with out := A } ⟨⟩ { s with out := B } := by
    subst dB; exact Runs.store (L4 R c) _ _ _ _ _ _
  refine ⟨B, ?_, ?_⟩
  · intro α k b s'' hk
    unfold outTail
    refine Runs.bind R c (Runs.load (L4 R c) _ _ _ _ _) (Runs.bind R c r1 ?_)
    exact Runs.bind R c (Runs.load (L4 R c) _ _ _ _ _) (Runs.bind R c r2 hk)
  subst dB
  subst dA
  intro n f hn hf
  refine (over3 (n0 := 1) (n1 := 128) (n2 := 1024) (m0 := 1) (m1 := 128) (m2 := 128) inb_S1x128x1024_S1x128x128_0_0_896 _ _ 0 n f).trans ?_
  by_cases h1 : 896 ≤ f
  · rw [if_pos (by omega), if_neg (by omega)]
    show g3 _ 0 n _ = _
    rw [cast_tile _ hn (by omega), pairP_val1 _ _ _ hn (by omega)]
    show rO o ((f - 896) % 64) (256 + 128 * ((f - 896) / 64) + n) = _
    congr 1 <;> omega
  · rw [if_neg (by omega)]
    refine (over3 (n0 := 1) (n1 := 128) (n2 := 1024) (m0 := 1) (m1 := 128) (m2 := 128) inb_S1x128x1024_S1x128x128_0_0_768 _ _ 0 n f).trans ?_
    by_cases h2 : 768 ≤ f
    · rw [if_pos (by omega), if_neg (by omega)]
      show g3 _ 0 n _ = _
      rw [cast_tile _ hn (by omega), pairP_val0 _ _ _ hn (by omega)]
      show rO o ((f - 768) % 64) (128 * ((f - 768) / 64) + n) = _
      congr 1; omega
    · rw [if_neg (by omega), if_pos (by omega)]

/-- A later key head's pass, given what the pass itself leaves. -/
theorem rest_run (g : ℕ) (hg : g < 3) (o : FVec Ideal S64x512 .f32) (s s' : St Ideal) (h : Runs R c (core R (g + 1) (by omega)) s o s') :
    ∃ A, Runs R c (rest R g hg) s ⟨⟩ { s' with obuf := A }
      ∧ (∀ n f, n < 128 → f < 768 → rOb A n f = if f / 256 = g then rO o (f % 64) (128 * (f % 256 / 64) + n) else rOb s'.obuf n f) := by
  obtain ⟨A, dA⟩ : ∃ X, X = (Rect.unit (s := S128x768) ![0, 256 * g + 128 * 0] S128x128.size (inbOb g 0 hg (by decide))).overlay s'.obuf (shapeCast S128x128
    (pairP 0 128 slices_S64x512_o0_0_S64x128 slices_S64x512_o0_128_S64x128 o) shapeCasts_S128x128_S128x128) := ⟨_, rfl⟩
  obtain ⟨B, dB⟩ : ∃ X, X = (Rect.unit (s := S128x768) ![0, 256 * g + 128 * 1] S128x128.size (inbOb g 1 hg (by decide))).overlay A (shapeCast S128x128
    (pairP 256 384 slices_S64x512_o0_256_S64x128 slices_S64x512_o0_384_S64x128 o) shapeCasts_S128x128_S128x128) := ⟨_, rfl⟩
  have r1 : Runs R c (st R.a20 ![0, 256 * g + 128 * 0] S128x128.size (inbOb g 0 hg (by decide)) (shapeCast S128x128
    (pairP 0 128 slices_S64x512_o0_0_S64x128 slices_S64x512_o0_128_S64x128 o) shapeCasts_S128x128_S128x128)
    (stOb R.a20 R.h20 g 0 hg (by decide))) s' ⟨⟩ { s' with obuf := A } := by
    subst dA; exact Runs.store (L20 R c) _ _ _ _ _ _
  have r2 : Runs R c (st R.a20 ![0, 256 * g + 128 * 1] S128x128.size (inbOb g 1 hg (by decide)) (shapeCast S128x128
    (pairP 256 384 slices_S64x512_o0_256_S64x128 slices_S64x512_o0_384_S64x128 o) shapeCasts_S128x128_S128x128)
    (stOb R.a20 R.h20 g 1 hg (by decide))) { s' with obuf := A } ⟨⟩ { s' with obuf := B } := by
    subst dB; exact Runs.store (L20 R c) _ _ _ _ _ _
  refine ⟨B, ?_, ?_⟩
  · unfold rest headRest
    refine Runs.bind R c h ?_
    refine Runs.bind R c (Runs.load (L20 R c) _ _ _ _ _) (Runs.bind R c r1 ?_)
    exact Runs.bind R c (Runs.load (L20 R c) _ _ _ _ _) r2
  subst dB
  subst dA
  intro n f hn hf
  refine (over2 (n0 := 128) (n1 := 768) (m0 := 128) (m1 := 128) (inbOb g 1 hg (by decide)) _ _ n f).trans ?_
  by_cases h1 : 256 * g + 128 ≤ f ∧ f < 256 * g + 256
  · rw [if_pos (by omega), if_pos (by omega)]
    show g2 _ n _ = _
    rw [cast_tile2 _ hn (by omega), pairP_val1 _ _ _ hn (by omega)]
    show rO o ((f - (256 * g + 128 * 1)) % 64) (256 + 128 * ((f - (256 * g + 128 * 1)) / 64) + n) = _
    congr 1 <;> omega
  · rw [if_neg (by omega)]
    refine (over2 (n0 := 128) (n1 := 768) (m0 := 128) (m1 := 128) (inbOb g 0 hg (by decide)) _ _ n f).trans ?_
    by_cases h2 : 256 * g ≤ f ∧ f < 256 * g + 128
    · rw [if_pos (by omega), if_pos (by omega)]
      show g2 _ n _ = _
      rw [cast_tile2 _ hn (by omega), pairP_val0 _ _ _ hn (by omega)]
      show rO o ((f - (256 * g + 128 * 0)) % 64) (128 * ((f - (256 * g + 128 * 0)) / 64) + n) = _
      congr 1 <;> omega
    · rw [if_neg (by omega), if_neg (by omega)]

end Run

end Cert.KernelIdeal.Att
-- ==== Proof.Step.lean ====
/- One grid point of the kernel: what its body leaves, from what the previous grid point left. -/
module

public import proofs.«01_k».proof.Proof.Sections

@[expose] public section

set_option maxRecDepth 16384

noncomputable section

namespace Cert.KernelIdeal.Att

open Idealize.ShloMosaic Idealize.SL.Sem Cert.KernelIdeal Cert.KernelIdeal.Gen

/-! ## Scales are positive -/

theorem exp2_pos {x : EReal} (h : x ≠ ⊥) : 0 < Ideal.exp2 x := by
  induction x using EReal.rec with
  | bot => exact absurd rfl h
  | coe r =>
    rw [Ideal.exp2_coe]
    exact_mod_cast Real.rpow_pos_of_pos (by norm_num : (0 : ℝ) < 2) r
  | top => exact EReal.coe_lt_top 0

theorem fac_eq : fac = (((8 * Real.log 2)⁻¹ : ℝ) : EReal) := rfl

theorem fac_pos : 0 < fac := by
  rw [fac_eq]
  exact_mod_cast inv_pos.2 (mul_pos (by norm_num) (Real.log_pos (by norm_num)))

/-! ## The statements about the scratch memory -/

/-- Keys, queries and their scales are ready for query tile `i`. -/
structure Ready (x k : ℕ → ℕ → EReal) (i : ℕ) (kn : Vec Ideal S2x4096x128 .fp8e4m3) (ksr : Vec Ideal S4x32x128 .f32)
    (qsr : Vec Ideal S16x128 .f32) (qz : Vec Ideal S4x128x512 .fp8e4m3) : Prop where
  kn : ∀ j n l, j < 2 → n < 4096 → l < 128 → rKn kn j n l = codeB k n (128 * j + l)
  ksr : ∀ g r l, g < 4 → r < 32 → l < 128 → rKsr ksr g r l = SC (amaxB k r g)
  qsr : ∀ h l, h < 16 → l < 128 → rQsr qsr h l = SC (amaxB x i h) * fac
  qz : ∀ g d b, g < 4 → d < 128 → b < 512 → rQz qz g d b = if d / 64 = g % 2
    then codeB x (128 * i + b % 128) (64 * (4 * g + b / 128) + d % 64) else 0

/-- The scores of key head `g` for query tile `i` are stored, with their scales and maxima. -/
structure Scored (x k : ℕ → ℕ → EReal) (g i : ℕ) (S : Vec Ideal S4096x512 .f32) (C : Vec Ideal S2x32x512 .f32) (M : Vec Ideal S2x1x512 .f32) : Prop where
  s : ∀ n b, n < 4096 → b < 512 → rS S n b = scS x k g (b / 128) (128 * i + b % 128) n
  c : ∀ r b, r < 32 → b < 512 → rC C (g % 2) r b = scC x k g (b / 128) i r
  m : ∀ b, b < 512 → rM M (g % 2) b = scM x k g (b / 128) (128 * i + b % 128)

/-- The values are ready. -/
structure Valued (v : ℕ → ℕ → EReal) (vt : Vec Ideal S256x4096 .fp8e4m3) (vcol : Vec Ideal S256x128 .f32) : Prop where
  vt : ∀ f n, f < 256 → n < 4096 → rVt vt f n = codeV v n f
  vcol : ∀ f l, f < 256 → l < 128 → rVcol vcol f l = SC (amaxV v f)

section Math

theorem score_eq {x k : ℕ → ℕ → EReal} {i : ℕ} {kn : Vec Ideal S2x4096x128 .fp8e4m3} {ksr : Vec Ideal S4x32x128 .f32}
    {qsr : Vec Ideal S16x128 .f32} {qz : Vec Ideal S4x128x512 .fp8e4m3} (H : Ready x k i kn ksr qsr qz) {g n b : ℕ} (hg : g < 4) (hn : n < 4096) (hb : b < 512) :
    score kn qz g n b = scS x k g (b / 128) (128 * i + b % 128) n := by
  unfold score scS
  refine (sum_range_mul (fun l => g3 (n0 := 2) (n1 := 4096) (n2 := 128) kn (g / 2) n l * g3 (n0 := 4) (n1 := 128) (n2 := 512) qz g l b) 2 64).trans ?_
  rw [Finset.sum_eq_single (g % 2)]
  · refine Finset.sum_congr rfl fun d hd => ?_
    rw [Finset.mem_range] at hd
    have e1 := H.kn (g / 2) n (64 * (g % 2) + d) (by omega) hn (by omega)
    have e2 := H.qz g (64 * (g % 2) + d) b hg (by omega) hb
    rw [if_pos (by omega)] at e2
    rw [show 128 * (g / 2) + (64 * (g % 2) + d) = 64 * g + d by omega] at e1
    rw [show (64 * (g % 2) + d) % 64 = d by omega] at e2
    exact congrArg₂ (· * ·) e1 e2
  · intro e he hne
    rw [Finset.mem_range] at he
    refine Finset.sum_eq_zero fun d hd => ?_
    rw [Finset.mem_range] at hd
    have e2 := H.qz g (64 * e + d) b hg (by omega) hb
    rw [if_neg (by omega)] at e2
    refine (congrArg (_ * ·) e2).trans ?_
    exact mul_zero _
  · intro h
    exact absurd (Finset.mem_range.2 (by omega)) h

theorem comb_eq {x k : ℕ → ℕ → EReal} {i : ℕ} {kn : Vec Ideal S2x4096x128 .fp8e4m3} {ksr : Vec Ideal S4x32x128 .f32}
    {qsr : Vec Ideal S16x128 .f32} {qz : Vec Ideal S4x128x512 .fp8e4m3} (H : Ready x k i kn ksr qsr qz) {g r b : ℕ} (hg : g < 4) (hr : r < 32) (hb : b < 512) :
    comb ksr qsr g r b = scC x k g (b / 128) i r := by
  unfold comb scC
  exact congrArg₂ (· * ·) (H.ksr g r (b % 128) hg hr (by omega)) (H.qsr (4 * g + b / 128) (b % 128) (by omega) (by omega))

end Math

section Run

variable (R : Refs) (c : Dev nD) (hSC : ∀ a : EReal, 0 ≤ a → 0 < SC a)

include hSC

theorem scC_pos (x k : ℕ → ℕ → EReal) (g l i r : ℕ) : 0 < scC x k g l i r :=
  EReal.mul_pos (hSC _ (amaxB_nonneg _ _ _)) (EReal.mul_pos (hSC _ (amaxB_nonneg _ _ _)) fac_pos)

/-- One pass. -/
theorem core_step (g g' : ℕ) (hg : g < 4) (hg' : g' = (g + 3) % 4) {x k : ℕ → ℕ → EReal} {i : ℕ} (s : St Ideal) (H : Ready x k i s.kn s.ksr s.qsr s.qz) :
    ∃ o S C M, Runs R c (core R g hg) s o { s with s := S, c := C, m := M } ∧ Scored x k g i S C M
      ∧ ∀ (x' k' v' : ℕ → ℕ → EReal) (i' : ℕ), Scored x' k' g' i' s.s s.c s.m → Valued v' s.vt s.vcol →
        ∀ d b, d < 64 → b < 512 → rO o d b = scO x' k' v' g' (b / 128) (128 * i' + b % 128) d := by
  obtain ⟨o, S, C, M, r, h1, h2, h3, h4⟩ := headCore_val R c g hg s (fun r b hr hb => by rw [comb_eq H hg hr hb]; exact scC_pos hSC _ _ _ _ _ _)
  refine ⟨o, S, C, M, r, ⟨?_, ?_, ?_⟩, ?_⟩
  · intro n b hn hb
    rw [h1 n b hn hb, score_eq H hg hn hb]
  · intro r b hr hb
    rw [h2 _ r b hr hb, if_pos rfl, comb_eq H hg hr hb]
  · intro b hb
    rw [h3 _ b hb, if_pos rfl]
    unfold scM
    refine Finset.sup_congr rfl fun n hn => ?_
    rw [Finset.mem_range] at hn
    rw [score_eq H hg hn hb, comb_eq H hg (by omega) hb, show (128 * i + b % 128) / 128 = i by omega]
  · intro x' k' v' i' P V d b hd hb
    have hp : (g + 1) % 2 = g' % 2 := by omega
    have hP : ∀ n, n < 4096 → pr g s (rM s.m ((g + 1) % 2)) n b = scP x' k' g' (b / 128) (128 * i' + b % 128) n := by
      intro n hn
      unfold pr prob scP
      rw [hp, P.s n b hn hb, P.c (n / 128) b (by omega) hb, P.m b hb, show (128 * i' + b % 128) / 128 = i' by omega]
    rw [h4 d b hd hb, ← hg']
    unfold scO
    refine congrArg₂ Ideal.div (congrArg₂ (· * ·) ?_ (V.vcol (64 * g' + d) (b % 128) (by omega) (by omega))) ?_
    · refine Finset.sum_congr rfl fun n hn => ?_
      rw [Finset.mem_range] at hn
      rw [hP n hn, V.vt (64 * g' + d) n (by omega) hn]
    · refine Finset.sum_congr rfl fun n hn => ?_
      rw [Finset.mem_range] at hn
      exact hP n hn

/-- A later key head's pass. -/
theorem rest_step (g : ℕ) (hg : g < 3) {x k v : ℕ → ℕ → EReal} {i : ℕ} (s : St Ideal) (H : Ready x k i s.kn s.ksr s.qsr s.qz)
    (P : Scored x k g i s.s s.c s.m) (V : Valued v s.vt s.vcol) :
    ∃ S C M O, Runs R c (rest R g hg) s ⟨⟩ { s with s := S, c := C, m := M, obuf := O } ∧ Scored x k (g + 1) i S C M
      ∧ ∀ n f, n < 128 → f < 768 → rOb O n f = if f / 256 = g then scO x k v g (f % 256 / 64) (128 * i + n) (f % 64) else rOb s.obuf n f := by
  obtain ⟨o, S, C, M, r, h1, h2⟩ := core_step R c hSC (g + 1) g (by omega) (by omega) s H
  obtain ⟨O, r', h3⟩ := rest_run R c g hg o s _ r
  refine ⟨S, C, M, O, r', h1, fun n f hn hf => ?_⟩
  rw [h3 n f hn hf]
  refine if_congr Iff.rfl ?_ rfl
  rw [h2 x k v i P V (f % 64) _ (by omega) (by omega), show (128 * (f % 256 / 64) + n) / 128 = f % 256 / 64 by omega,
    show (128 * (f % 256 / 64) + n) % 128 = n by omega]

end Run

/-! ## The conditions -/

theorem cond1_iff : ∀ n : Fin 257, (Scalar.cmpi .ne (Scalar.extui (Scalar.cmpi .eq (BitVec.ofNat 32 n.val) 0#32) : BitVec 32) 0#32 = 1#1) ↔ n.val = 0 := by decide +kernel

theorem cond2_iff (i : grid0.Coords) : k0_cond2 i = 1#1 ↔ ((i 0).val % 32 = 0 ∧ (i 0).val < 256) :=
  (by decide +kernel : ∀ n : Fin 257, (Scalar.cmpi .ne (Scalar.extui (Scalar.andi (Scalar.cmpi .eq (Scalar.remsi (BitVec.ofNat 32 n.val) 32#32) 0#32)
    (Scalar.cmpi .slt (BitVec.ofNat 32 n.val) 256#32)) : BitVec 32) 0#32 = 1#1) ↔ (n.val % 32 = 0 ∧ n.val < 256)) (i 0)

theorem cond3_iff (i : grid0.Coords) : k0_cond3 i = 1#1 ↔ ((i 0).val % 32 = 0 ∧ (i 0).val < 256) := cond2_iff i

theorem cond4_iff : ∀ n : Fin 257, (Scalar.cmpi .ne (Scalar.extui (Scalar.cmpi .slt (BitVec.ofNat 32 n.val) 256#32) : BitVec 32) 0#32 = 1#1) ↔ n.val < 256 := by decide +kernel

theorem col_eq : ∀ n : Fin 257, Scalar.remsi (Scalar.minsi (BitVec.ofNat 32 n.val) 255#32) 32#32 = BitVec.ofNat 32 (min n.val 255 % 32) := by decide +kernel

end Cert.KernelIdeal.Att
-- ==== Proof.Turn.lean ====
/- The whole body at a grid point: from the statement about the scratch after the previous point to the one after this
   point, and what it leaves in the blocks of the results. -/
module

public import proofs.«01_k».proof.Proof.Step

@[expose] public section

set_option maxRecDepth 16384

noncomputable section

namespace Cert.KernelIdeal.Att

open Idealize.ShloMosaic Idealize.SL.Sem Cert.KernelIdeal Cert.KernelIdeal.Gen

/-- The scratch after grid point `t - 1`. -/
structure Inv (X K V : ℕ → ℕ → ℕ → EReal) (t : ℕ) (s : St Ideal) : Prop where
  qz : ∀ g d b, g < 4 → d < 128 → b < 512 → d / 64 ≠ g % 2 → rQz s.qz g d b = 0
  kn : ∀ j n l, j < 2 → n < 4096 → l < 128 → rKn s.kn j n l = codeB (K ((t - 1) / 32)) n (128 * j + l)
  ksr : ∀ g r l, g < 4 → r < 32 → l < 128 → rKsr s.ksr g r l = SC (amaxB (K ((t - 1) / 32)) r g)
  scored : Scored (X ((t - 1) / 32)) (K ((t - 1) / 32)) 3 ((t - 1) % 32) s.s s.c s.m
  valued : Valued (V ((t - 1) / 32)) s.vt s.vcol
  ob : ∀ n f, n < 128 → f < 768 → rOb s.obuf n f
    = scO (X ((t - 1) / 32)) (K ((t - 1) / 32)) (V ((t - 1) / 32)) (f / 256) (f % 256 / 64) (128 * ((t - 1) % 32) + n) (f % 64)

/-- The blocks of the three inputs at grid point `t`. -/
structure Ins (X K V : ℕ → ℕ → ℕ → EReal) (t : ℕ) (s : St Ideal) : Prop where
  x : ∀ n f, n < 128 → f < 1024 → rX s.x n f = X (min t 255 / 32) (128 * (min t 255 % 32) + n) f
  k : ∀ n f, n < 4096 → f < 256 → rK s.k n f = K (min t 255 / 32) n f
  v : ∀ n f, n < 4096 → f < 256 → rK s.v n f = V (min t 255 / 32) n f

/-- The blocks of the results after grid point `t`. -/
structure Outs (X K V : ℕ → ℕ → ℕ → EReal) (t : ℕ) (s s' : St Ideal) : Prop where
  x : s'.x = s.x
  k : s'.k = s.k
  v : s'.v = s.v
  out : t ≠ 0 → ∀ n f, n < 128 → f < 1024 → rOut s'.out n f
    = scO (X ((t - 1) / 32)) (K ((t - 1) / 32)) (V ((t - 1) / 32)) (f / 256) (f % 256 / 64) (128 * ((t - 1) % 32) + n) (f % 64)
  qc : ∀ f m, f < 1024 → m < 128 → rQc s'.qc f m = codeB (X (min t 255 / 32)) (128 * (min t 255 % 32) + m) f
  qs : ∀ h l, h < 16 → l < 32 → rQs s'.qs h l = if l = min t 255 % 32 then SC (amaxB (X (min t 255 / 32)) (min t 255 % 32) h) else rQs s.qs h l
  old : ¬(t % 32 = 0 ∧ t < 256) → s'.kc = s.kc ∧ s'.ks = s.ks ∧ s'.vc = s.vc ∧ s'.vs = s.vs
  kc : t % 32 = 0 ∧ t < 256 → ∀ f n, f < 256 → n < 4096 → rKc s'.kc f n = codeB (K (min t 255 / 32)) n f
  ks : t % 32 = 0 ∧ t < 256 → ∀ g r, g < 4 → r < 32 → rKs s'.ks g r = SC (amaxB (K (min t 255 / 32)) r g)
  vc : t % 32 = 0 ∧ t < 256 → ∀ f n, f < 256 → n < 4096 → rKc s'.vc f n = codeV (V (min t 255 / 32)) n f
  vs : t % 32 = 0 ∧ t < 256 → ∀ f, f < 256 → rVs s'.vs f = SC (amaxV (V (min t 255 / 32)) f)

theorem amaxB_congr {X Y : ℕ → ℕ → EReal} {i h : ℕ} (H : ∀ w d, w < 128 → d < 64 → X (128 * i + w) (64 * h + d) = Y (128 * i + w) (64 * h + d)) :
    amaxB X i h = amaxB Y i h := by
  unfold amaxB
  refine Finset.sup_congr rfl fun d hd => Finset.sup_congr rfl fun w hw => ?_
  rw [H w d (Finset.mem_range.1 hw) (Finset.mem_range.1 hd)]

theorem codeB_congr {X Y : ℕ → ℕ → EReal} {n f N W : ℕ} (hn : n / 128 * 128 + 128 ≤ N) (hf : f / 64 * 64 + 64 ≤ W)
    (H : ∀ n f, n < N → f < W → X n f = Y n f) : codeB X n f = codeB Y n f := by
  unfold codeB
  rw [H n f (by omega) (by omega), amaxB_congr fun w d hw hd => H _ _ (by omega) (by omega)]

theorem amaxV_congr {X Y : ℕ → ℕ → EReal} {f : ℕ} (H : ∀ n, n < 4096 → X n f = Y n f) : amaxV X f = amaxV Y f := by
  unfold amaxV
  refine Finset.sup_congr rfl fun n hn => ?_
  rw [H n (Finset.mem_range.1 hn)]

theorem codeV_congr {X Y : ℕ → ℕ → EReal} {n f : ℕ} (hn : n < 4096) (H : ∀ n, n < 4096 → X n f = Y n f) : codeV X n f = codeV Y n f := by
  unfold codeV
  rw [H n hn, amaxV_congr H]

section Run

variable (R : Refs) (c : Dev nD) (X K V : ℕ → ℕ → ℕ → EReal)

/-- Start-up and the keys. -/
theorem head84_step (i : grid0.Coords) (s : St Ideal) (I : Ins X K V (i 0).val s) (H : (i 0).val ≠ 0 → Inv X K V (i 0).val s) :
    ∃ S Q C M VT VC OB KN KSR KC KS, ∃ xv : Vec Ideal S1x128x1024 .bf16,
      Runs R c (head84 R i) s ⟨BitVec.ofNat 32 (i 0).val, k0_pay468 xv, k0_pay469 xv, k0_pay470 xv⟩
        { s with s := S, qz := Q, c := C, m := M, vt := VT, vcol := VC, obuf := OB, kn := KN, ksr := KSR, kc := KC, ks := KS }
      ∧ (∀ n f, n < 128 → f < 1024 → rX xv n f = X (min (i 0).val 255 / 32) (128 * (min (i 0).val 255 % 32) + n) f)
      ∧ (∀ g d b, g < 4 → d < 128 → b < 512 → d / 64 ≠ g % 2 → rQz Q g d b = 0)
      ∧ (∀ j n l, j < 2 → n < 4096 → l < 128 → rKn KN j n l = codeB (K (min (i 0).val 255 / 32)) n (128 * j + l))
      ∧ (∀ g r l, g < 4 → r < 32 → l < 128 → rKsr KSR g r l = SC (amaxB (K (min (i 0).val 255 / 32)) r g))
      ∧ ((i 0).val ≠ 0 → S = s.s ∧ C = s.c ∧ M = s.m ∧ VT = s.vt ∧ VC = s.vcol ∧ OB = s.obuf)
      ∧ (¬((i 0).val % 32 = 0 ∧ (i 0).val < 256) → KC = s.kc ∧ KS = s.ks)
      ∧ ((i 0).val % 32 = 0 ∧ (i 0).val < 256 → (∀ f n, f < 256 → n < 4096 → rKc KC f n = codeB (K (min (i 0).val 255 / 32)) n f)
          ∧ ∀ g r, g < 4 → r < 32 → rKs KS g r = SC (amaxB (K (min (i 0).val 255 / 32)) r g)) := by
  have hlt : (i 0).val < 257 := (i 0).isLt
  have c1 := cond1_iff (i 0)
  have c2 := cond2_iff i
  obtain ⟨xv, dx⟩ : ∃ w : Vec Ideal S1x128x1024 .bf16, w = fun j => s.x ((Rect.unit (s := S1x128x1024) ![0, 0, 0] S1x128x1024.size inb_S1x128x1024_S1x128x1024_0_0_0).emb j) := ⟨_, rfl⟩
  have hx : ∀ n f, n < 128 → f < 1024 → rX xv n f = X (min (i 0).val 255 / 32) (128 * (min (i 0).val 255 % 32) + n) f := by
    intro n f hn hf
    rw [← I.x n f hn hf, dx]
    refine (load3 (n0 := 1) (n1 := 128) (n2 := 1024) (m0 := 1) (m1 := 128) (m2 := 1024) inb_S1x128x1024_S1x128x1024_0_0_0 s.x (i := 0) (j := n) (k := f) (by decide) hn hf).trans ?_
    rw [Nat.zero_add, Nat.zero_add, Nat.zero_add]
  -- after the start-up
  obtain ⟨S, Q, C, M, VT, VC, OB, r1, hQ, hS⟩ : ∃ S Q C M VT VC OB,
      (∀ (α : Type) (k : PUnit.{1} → PR Ideal α) (b : α) (s'' : St Ideal), Runs R c (k ⟨⟩) { s with s := S, qz := Q, c := C, m := M, vt := VT, vcol := VC, obuf := OB } b s'' →
        Runs R c (if Scalar.cmpi .ne (Scalar.extui (Scalar.cmpi .eq (BitVec.ofNat 32 (i 0).val) 0#32) : BitVec 32) 0#32 = 1#1 then (do initP R; k ⟨⟩) else k ⟨⟩) s b s'')
      ∧ (∀ g d b, g < 4 → d < 128 → b < 512 → d / 64 ≠ g % 2 → rQz Q g d b = 0)
      ∧ ((i 0).val ≠ 0 → S = s.s ∧ C = s.c ∧ M = s.m ∧ VT = s.vt ∧ VC = s.vcol ∧ OB = s.obuf) := by
    by_cases h0 : (i 0).val = 0
    · obtain ⟨S, Q, C, M, VT, VC, OB, r, hQ⟩ := initP_val R c s
      refine ⟨S, Q, C, M, VT, VC, OB, fun α k b s'' hk => ?_, fun g d b hg hd hb _ => hQ g d b hg hd hb, fun h => absurd h0 h⟩
      rw [if_pos (c1.2 h0)]
      exact Runs.bind R c r hk
    · refine ⟨s.s, s.qz, s.c, s.m, s.vt, s.vcol, s.obuf, fun α k b s'' hk => ?_, (H h0).qz, fun _ => ⟨rfl, rfl, rfl, rfl, rfl, rfl⟩⟩
      rw [if_neg (fun h => h0 (c1.1 h))]
      exact hk
  -- after the keys
  obtain ⟨KN, KSR, KC, KS, r2, hKN, hKSR, hO, hN⟩ : ∃ KN KSR KC KS,
      (∀ (α : Type) (k : PUnit.{1} → PR Ideal α) (b : α) (s'' : St Ideal),
        Runs R c (k ⟨⟩) { s with s := S, qz := Q, c := C, m := M, vt := VT, vcol := VC, obuf := OB, kn := KN, ksr := KSR, kc := KC, ks := KS } b s'' →
        Runs R c (if h : k0_cond2 i = 1#1 then prepK R i h k else k ⟨⟩) { s with s := S, qz := Q, c := C, m := M, vt := VT, vcol := VC, obuf := OB } b s'')
      ∧ (∀ j n l, j < 2 → n < 4096 → l < 128 → rKn KN j n l = codeB (K (min (i 0).val 255 / 32)) n (128 * j + l))
      ∧ (∀ g r l, g < 4 → r < 32 → l < 128 → rKsr KSR g r l = SC (amaxB (K (min (i 0).val 255 / 32)) r g))
      ∧ (¬((i 0).val % 32 = 0 ∧ (i 0).val < 256) → KC = s.kc ∧ KS = s.ks)
      ∧ ((i 0).val % 32 = 0 ∧ (i 0).val < 256 → (∀ f n, f < 256 → n < 4096 → rKc KC f n = codeB (K (min (i 0).val 255 / 32)) n f)
          ∧ ∀ g r, g < 4 → r < 32 → rKs KS g r = SC (amaxB (K (min (i 0).val 255 / 32)) r g)) := by
    by_cases h2 : (i 0).val % 32 = 0 ∧ (i 0).val < 256
    · obtain ⟨KN, KSR, KC, KS, r, a1, a2, a3, a4⟩ := prepK_val R c i (c2.2 h2) { s with s := S, qz := Q, c := C, m := M, vt := VT, vcol := VC, obuf := OB }
      have hk : ∀ n f, n < 4096 → f < 256 → rK s.k n f = K (min (i 0).val 255 / 32) n f := I.k
      refine ⟨KN, KSR, KC, KS, fun α k b s'' hk => ?_, ?_, ?_, fun h => absurd h2 h, fun _ => ⟨?_, ?_⟩⟩
      · rw [dif_pos (c2.2 h2)]
        exact r α k b s'' hk
      · intro j n l hj hn hl
        rw [a1 j n l hj hn hl]
        exact codeB_congr (N := 4096) (W := 256) (by omega) (by omega) hk
      · intro g r l hg hr hl
        rw [a2 g r l hg hr hl, show amaxB (rK s.k) r g = _ from amaxB_congr fun w d hw hd => hk _ _ (by omega) (by omega)]
      · intro f n hf hn
        rw [a3 f n hf hn]
        exact codeB_congr (N := 4096) (W := 256) (by omega) (by omega) hk
      · intro g r hg hr
        rw [a4 g r hg hr, show amaxB (rK s.k) r g = _ from amaxB_congr fun w d hw hd => hk _ _ (by omega) (by omega)]
    · have h0 : (i 0).val ≠ 0 := fun h => h2 (by omega)
      have hb : ((i 0).val - 1) / 32 = min (i 0).val 255 / 32 := by omega
      have hKN := (H h0).kn
      have hKSR := (H h0).ksr
      rw [hb] at hKN hKSR
      refine ⟨s.kn, s.ksr, s.kc, s.ks, fun α k b s'' hk => ?_, hKN, hKSR, fun _ => ⟨rfl, rfl⟩, fun h => absurd h h2⟩
      rw [dif_neg (fun h => h2 (c2.1 h))]
      exact hk
  refine ⟨S, Q, C, M, VT, VC, OB, KN, KSR, KC, KS, xv, ?_, hx, hQ, hKN, hKSR, hS, hO, hN⟩
  unfold head84
  have r3 : Runs R c (do
      let v9 : Vec Ideal S1x128x1024 .bf16 ← ld R.a1 ![0, 0, 0] S1x128x1024.size inb_S1x128x1024_S1x128x1024_0_0_0 h_S1x128x1024
      pure (⟨BitVec.ofNat 32 (i 0).val, k0_pay468 v9, k0_pay469 v9, k0_pay470 v9⟩ :
        Σ' (arg0 : BitVec 32) (v12 : FVec Ideal S1024x128 .f32) (v21 : FVec Ideal S16x128 .f32), FVec Ideal S16x128 .f32))
      { s with s := S, qz := Q, c := C, m := M, vt := VT, vcol := VC, obuf := OB, kn := KN, ksr := KSR, kc := KC, ks := KS }
      ⟨BitVec.ofNat 32 (i 0).val, k0_pay468 xv, k0_pay469 xv, k0_pay470 xv⟩
      { s with s := S, qz := Q, c := C, m := M, vt := VT, vcol := VC, obuf := OB, kn := KN, ksr := KSR, kc := KC, ks := KS } := by
    subst dx
    exact Runs.bind R c (Runs.load (L1 R c) _ _ _ _ _) (Runs.pure R c _ _)
  have r4 := r2 _ (fun _ : PUnit.{1} => _) _ _ r3
  have r5 := r1 _ (fun _ : PUnit.{1} => _) _ _ r4
  exact r5

/-- The last head's tiles and the values. -/
theorem tail118_step (i : grid0.Coords) (o : FVec Ideal S64x512 .f32) (s : St Ideal)
    (hv : ∀ n f, n < 4096 → f < 256 → rK s.v n f = V (min (i 0).val 255 / 32) n f)
    (hV : ¬((i 0).val % 32 = 0 ∧ (i 0).val < 256) → Valued (V (min (i 0).val 255 / 32)) s.vt s.vcol) :
    ∃ OUT VS VCOL VC VT, Runs R c (tail118 R i (BitVec.ofNat 32 (i 0).val) o) s
        (Scalar.cmpi .ne (Scalar.extui (Scalar.cmpi .slt (BitVec.ofNat 32 (i 0).val) 256#32) : BitVec 32) 0#32)
        { s with out := OUT, vs := VS, vcol := VCOL, vc := VC, vt := VT }
      ∧ (∀ n f, n < 128 → f < 1024 → rOut OUT n f = if f < 768 then rOut s.out n f else rO o (f % 64) (128 * ((f - 768) / 64) + n))
      ∧ Valued (V (min (i 0).val 255 / 32)) VT VCOL
      ∧ (¬((i 0).val % 32 = 0 ∧ (i 0).val < 256) → VC = s.vc ∧ VS = s.vs)
      ∧ ((i 0).val % 32 = 0 ∧ (i 0).val < 256 → (∀ f n, f < 256 → n < 4096 → rKc VC f n = codeV (V (min (i 0).val 255 / 32)) n f)
          ∧ ∀ f, f < 256 → rVs VS f = SC (amaxV (V (min (i 0).val 255 / 32)) f)) := by
  have c3 := cond3_iff i
  obtain ⟨OUT, r1, hO⟩ := outTail_val R c o s
  obtain ⟨VS, VCOL, VC, VT, r2, h1, h2, h3⟩ : ∃ VS VCOL VC VT,
      (∀ (α : Type) (k : PUnit.{1} → PR Ideal α) (b : α) (s'' : St Ideal),
        Runs R c (k ⟨⟩) { s with out := OUT, vs := VS, vcol := VCOL, vc := VC, vt := VT } b s'' →
        Runs R c (if h : k0_cond3 i = 1#1 then prepV R i h k else k ⟨⟩) { s with out := OUT } b s'')
      ∧ Valued (V (min (i 0).val 255 / 32)) VT VCOL
      ∧ (¬((i 0).val % 32 = 0 ∧ (i 0).val < 256) → VC = s.vc ∧ VS = s.vs)
      ∧ ((i 0).val % 32 = 0 ∧ (i 0).val < 256 → (∀ f n, f < 256 → n < 4096 → rKc VC f n = codeV (V (min (i 0).val 255 / 32)) n f)
          ∧ ∀ f, f < 256 → rVs VS f = SC (amaxV (V (min (i 0).val 255 / 32)) f)) := by
    by_cases h3 : (i 0).val % 32 = 0 ∧ (i 0).val < 256
    · obtain ⟨VS, VCOL, VC, VT, r, a1, a2, a3, a4⟩ := prepV_val R c i (c3.2 h3) { s with out := OUT }
      have eA : ∀ f, f < 256 → amaxV (rK s.v) f = amaxV (V (min (i 0).val 255 / 32)) f := fun f hf => amaxV_congr fun n hn => hv n f hn hf
      have eC : ∀ f n, f < 256 → n < 4096 → codeV (rK s.v) n f = codeV (V (min (i 0).val 255 / 32)) n f :=
        fun f n hf hn => codeV_congr hn fun n hn => hv n f hn hf
      refine ⟨VS, VCOL, VC, VT, fun α k b s'' hk => ?_, ⟨?_, ?_⟩, fun h => absurd h3 h, fun _ => ⟨?_, ?_⟩⟩
      · rw [dif_pos (c3.2 h3)]
        exact r α k b s'' hk
      · intro f n hf hn
        rw [a4 f n hf hn]; exact eC f n hf hn
      · intro f l hf hl
        rw [a2 f l hf hl]; exact congrArg SC (eA f hf)
      · intro f n hf hn
        rw [a3 f n hf hn]; exact eC f n hf hn
      · intro f hf
        rw [a1 f hf]; exact congrArg SC (eA f hf)
    · refine ⟨s.vs, s.vcol, s.vc, s.vt, fun α k b s'' hk => ?_, hV h3, fun _ => ⟨rfl, rfl⟩, fun h => absurd h h3⟩
      rw [dif_neg (fun h => h3 (c3.1 h))]
      exact hk
  refine ⟨OUT, VS, VCOL, VC, VT, ?_, hO, h1, h2, h3⟩
  have r3 : Runs R c (pure (Scalar.cmpi .ne (Scalar.extui (Scalar.cmpi .slt (BitVec.ofNat 32 (i 0).val) 256#32) : BitVec 32) 0#32))
      { s with out := OUT, vs := VS, vcol := VCOL, vc := VC, vt := VT }
      (Scalar.cmpi .ne (Scalar.extui (Scalar.cmpi .slt (BitVec.ofNat 32 (i 0).val) 256#32) : BitVec 32) 0#32)
      { s with out := OUT, vs := VS, vcol := VCOL, vc := VC, vt := VT } := Runs.pure R c _ _
  have r4 := r2 _ (fun _ : PUnit.{1} => _) _ _ r3
  have r5 := r1 _ (fun _ : PUnit.{1} => _) _ _ r4
  unfold tail118
  exact r5

attribute [local irreducible] qHeads

variable (hSC : ∀ a, 0 ≤ a → 0 < SC a)
include hSC

/-- The body at a grid point. -/
theorem body_step (i : grid0.Coords) (s : St Ideal) (I : Ins X K V (i 0).val s) (H : (i 0).val ≠ 0 → Inv X K V (i 0).val s) :
    ∃ s', Runs R c (body R i) s ⟨⟩ s' ∧ ((i 0).val < 256 → Inv X K V ((i 0).val + 1) s') ∧ Outs X K V (i 0).val s s' := by
  have hlt : (i 0).val < 257 := (i 0).isLt
  obtain ⟨S, Q, C, M, VT, VC, OB, KN, KSR, KC, KS, xv, r1, hx, hQ, hKN, hKSR, hS, hO, hN⟩ := head84_step R c X K V i s I H
  have hi : min (i 0).val 255 % 32 < 32 := Nat.mod_lt _ (by decide)
  obtain ⟨QS, QSR, QC, QZ, r2, hQS, hQSR, hQC, hQZ⟩ := qSec_val R c xv (BitVec.ofNat 32 (i 0).val) (min (i 0).val 255 % 32) hi (col_eq (i 0))
    { s with s := S, qz := Q, c := C, m := M, vt := VT, vcol := VC, obuf := OB, kn := KN, ksr := KSR, kc := KC, ks := KS }
  have hA : ∀ h, h < 16 → amaxB (rX xv) 0 h = amaxB (X (min (i 0).val 255 / 32)) (min (i 0).val 255 % 32) h := by
    intro h hh
    exact amaxB_tile (W := 1024) (by omega) fun n f hn hf => hx n f hn hf
  have hB : ∀ m f, m < 128 → f < 1024 → codeB (rX xv) m f = codeB (X (min (i 0).val 255 / 32)) (128 * (min (i 0).val 255 % 32) + m) f := by
    intro m f hm hf
    exact codeB_tile (W := 1024) hm (by omega) fun n f hn hf => hx n f hn hf
  have RD : Ready (X (min (i 0).val 255 / 32)) (K (min (i 0).val 255 / 32)) (min (i 0).val 255 % 32) KN KSR QSR QZ := by
    refine ⟨hKN, hKSR, ?_, ?_⟩
    · intro h l hh hl
      rw [hQSR h l hh hl, hA h hh]
    · intro g d b hg hd hb
      rw [hQZ g d b hg hd hb]
      refine if_ctx_congr Iff.rfl (fun h => ?_) (fun h => hQ g d b hg hd hb h)
      exact hB _ _ (by omega) (by omega)
  obtain ⟨O1, r3, hO1⟩ := outCopy_val R c
    { s with s := S, qz := QZ, c := C, m := M, vt := VT, vcol := VC, obuf := OB, kn := KN, ksr := KSR, kc := KC, ks := KS, qs := QS, qsr := QSR, qc := QC }
  obtain ⟨o, S1, C1, M1, r4, hS1, ho⟩ := core_step R c hSC 0 3 (by decide) rfl
    { s with s := S, qz := QZ, c := C, m := M, vt := VT, vcol := VC, obuf := OB, kn := KN, ksr := KSR, kc := KC, ks := KS, qs := QS, qsr := QSR, qc := QC, out := O1 } RD
  obtain ⟨OUT, VS, VCOL, VCC, VTT, r5, hOUT, hVD, hVo, hVn⟩ := tail118_step R c V i o
    { s with s := S1, qz := QZ, c := C1, m := M1, vt := VT, vcol := VC, obuf := OB, kn := KN, ksr := KSR, kc := KC, ks := KS, qs := QS, qsr := QSR, qc := QC, out := O1 }
    I.v (fun h => by
      have h0 : (i 0).val ≠ 0 := fun h' => h (by omega)
      obtain ⟨e1, e2, e3, e4, e5, e6⟩ := hS h0
      have hV := (H h0).valued
      rw [show ((i 0).val - 1) / 32 = min (i 0).val 255 / 32 by omega] at hV
      subst e4 e5
      exact hV)
  have hout : (i 0).val ≠ 0 → ∀ n f, n < 128 → f < 1024 → rOut OUT n f
      = scO (X (((i 0).val - 1) / 32)) (K (((i 0).val - 1) / 32)) (V (((i 0).val - 1) / 32)) (f / 256) (f % 256 / 64) (128 * (((i 0).val - 1) % 32) + n) (f % 64) := by
    intro h0 n f hn hf
    obtain ⟨e1, e2, e3, e4, e5, e6⟩ := hS h0
    subst e1 e2 e3 e4 e5 e6
    rw [hOUT n f hn hf]
    by_cases h : f < 768
    · rw [if_pos h]
      refine (hO1 n f hn).trans ?_
      rw [if_pos h]
      exact (H h0).ob n f hn h
    · rw [if_neg h, ho _ _ _ _ (H h0).scored (H h0).valued (f % 64) (128 * ((f - 768) / 64) + n) (by omega) (by omega),
        show (128 * ((f - 768) / 64) + n) / 128 = f % 256 / 64 by omega, show (128 * ((f - 768) / 64) + n) % 128 = n by omega,
        show f / 256 = 3 by omega]
  have hQC' : ∀ f m, f < 1024 → m < 128 → rQc QC f m = codeB (X (min (i 0).val 255 / 32)) (128 * (min (i 0).val 255 % 32) + m) f := by
    intro f m hf hm
    rw [hQC f m hf hm, hB m f hm hf]
  have hQS' : ∀ h l, h < 16 → l < 32 → rQs QS h l = if l = min (i 0).val 255 % 32 then SC (amaxB (X (min (i 0).val 255 / 32)) (min (i 0).val 255 % 32) h) else rQs s.qs h l := by
    intro h l hh hl
    rw [hQS h l hh hl, hA h hh]
  by_cases h4 : (i 0).val < 256
  · have eb : (i 0).val / 32 = min (i 0).val 255 / 32 := by omega
    have ei : (i 0).val % 32 = min (i 0).val 255 % 32 := by omega
    obtain ⟨S2, C2, M2, OB2, r6, hS2, hOB2⟩ := rest_step R c hSC 0 (by decide) (v := V (min (i 0).val 255 / 32))
      { s with s := S1, qz := QZ, c := C1, m := M1, vt := VTT, vcol := VCOL, obuf := OB, kn := KN, ksr := KSR, kc := KC, ks := KS, qs := QS, qsr := QSR, qc := QC, out := OUT, vs := VS, vc := VCC }
      RD hS1 hVD
    obtain ⟨S3, C3, M3, OB3, r7, hS3, hOB3⟩ := rest_step R c hSC 1 (by decide) (v := V (min (i 0).val 255 / 32))
      { s with s := S2, qz := QZ, c := C2, m := M2, vt := VTT, vcol := VCOL, obuf := OB2, kn := KN, ksr := KSR, kc := KC, ks := KS, qs := QS, qsr := QSR, qc := QC, out := OUT, vs := VS, vc := VCC }
      RD hS2 hVD
    obtain ⟨S4, C4, M4, OB4, r8, hS4, hOB4⟩ := rest_step R c hSC 2 (by decide) (v := V (min (i 0).val 255 / 32))
      { s with s := S3, qz := QZ, c := C3, m := M3, vt := VTT, vcol := VCOL, obuf := OB3, kn := KN, ksr := KSR, kc := KC, ks := KS, qs := QS, qsr := QSR, qc := QC, out := OUT, vs := VS, vc := VCC }
      RD hS3 hVD
    refine ⟨{ s with s := S4, qz := QZ, c := C4, m := M4, vt := VTT, vcol := VCOL, obuf := OB4, kn := KN, ksr := KSR, kc := KC, ks := KS, qs := QS, qsr := QSR, qc := QC, out := OUT, vs := VS, vc := VCC }, ?_, ?_, ?_⟩
    · unfold body
      refine Runs.bind R c r1 (Runs.bind R c r2 (Runs.bind R c r3 (Runs.bind R c r4 (Runs.bind R c r5 ?_))))
      rw [dif_pos ((cond4_iff (i 0)).2 h4)]
      exact Runs.bind R c r6 (Runs.bind R c r7 (Runs.bind R c r8 (Runs.pure R c _ _)))
    · intro _
      refine ⟨?_, ?_, ?_, ?_, ?_, ?_⟩
      · intro g d b hg hd hb h
        refine (RD.qz g d b hg hd hb).trans ?_
        rw [if_neg h]
      · rw [Nat.add_sub_cancel, eb]; exact hKN
      · rw [Nat.add_sub_cancel, eb]; exact hKSR
      · rw [Nat.add_sub_cancel, eb, ei]; exact hS4
      · rw [Nat.add_sub_cancel, eb]; exact hVD
      · rw [Nat.add_sub_cancel, eb, ei]
        intro n f hn hf
        refine (hOB4 n f hn hf).trans ?_
        by_cases g2 : f / 256 = 2
        · rw [if_pos g2, g2]
        rw [if_neg g2]
        refine (hOB3 n f hn hf).trans ?_
        by_cases g1 : f / 256 = 1
        · rw [if_pos g1, g1]
        rw [if_neg g1]
        refine (hOB2 n f hn hf).trans ?_
        have g0 : f / 256 = 0 := by omega
        rw [if_pos g0, g0]
    · exact ⟨rfl, rfl, rfl, hout, hQC', hQS', fun h => ⟨(hO h).1, (hO h).2, (hVo h).1, (hVo h).2⟩, fun h => (hN h).1, fun h => (hN h).2,
        fun h => (hVn h).1, fun h => (hVn h).2⟩
  · refine ⟨{ s with s := S1, qz := QZ, c := C1, m := M1, vt := VTT, vcol := VCOL, obuf := OB, kn := KN, ksr := KSR, kc := KC, ks := KS, qs := QS, qsr := QSR, qc := QC, out := OUT, vs := VS, vc := VCC }, ?_, fun h => absurd h h4, ?_⟩
    · unfold body
      refine Runs.bind R c r1 (Runs.bind R c r2 (Runs.bind R c r3 (Runs.bind R c r4 (Runs.bind R c r5 ?_))))
      rw [dif_neg (fun h => h4 ((cond4_iff (i 0)).1 h))]
      exact Runs.pure R c _ _
    · exact ⟨rfl, rfl, rfl, hout, hQC', hQS', fun h => ⟨(hO h).1, (hO h).2, (hVo h).1, (hVo h).2⟩, fun h => (hN h).1, fun h => (hN h).2,
        fun h => (hVn h).1, fun h => (hVn h).2⟩

end Run

end Cert.KernelIdeal.Att
-- ==== Proof.Windows.lean ====
/- Where each window's block lies at each grid point, and which points write the results' blocks back. -/
module

public import proofs.«01_k».proof.Proof.Launch
public import proofs.«01_k».proof.Proof.NatIx

@[expose] public section

set_option maxRecDepth 16384

noncomputable section

namespace Cert.KernelIdeal.Att

open Cert.KernelIdeal Cert.KernelIdeal.Gen
open Idealize.ShloMosaic Idealize.ShloMosaic.TcCoe

theorem coords_val : ∀ t : Fin grid0.N, (grid0.coords t 0).val = t.val := by decide +kernel

/-- The number of grid points. -/
theorem lt257 (t : Fin cfg0.N) : t.val < 257 := t.isLt

theorem index_0 : ∀ t : Fin grid0.N, win0_0.index t = ![(min t.val 255 / 32), (min t.val 255 % 32), 0] := by decide +kernel
theorem index_1 : ∀ t : Fin grid0.N, win0_1.index t = ![(min t.val 255 / 32), 0, 0] := by decide +kernel
theorem index_2 : ∀ t : Fin grid0.N, win0_2.index t = ![(min t.val 255 / 32), 0, 0] := by decide +kernel
theorem index_3 : ∀ t : Fin grid0.N, win0_3.index t = ![((t.val - 1) / 32), ((t.val - 1) % 32), 0] := by decide +kernel
theorem index_4 : ∀ t : Fin grid0.N, win0_4.index t = ![(min t.val 255 / 32), 0, (min t.val 255 % 32)] := by decide +kernel
theorem index_5 : ∀ t : Fin grid0.N, win0_5.index t = ![(min t.val 255 / 32), 0, 0] := by decide +kernel
theorem index_6 : ∀ t : Fin grid0.N, win0_6.index t = ![(min t.val 255 / 32), 0, 0] := by decide +kernel
theorem index_7 : ∀ t : Fin grid0.N, win0_7.index t = ![(min t.val 255 / 32), 0, 0] := by decide +kernel
theorem index_8 : ∀ t : Fin grid0.N, win0_8.index t = ![(min t.val 255 / 32), 0, 0] := by decide +kernel
theorem index_9 : ∀ t : Fin grid0.N, win0_9.index t = ![(min t.val 255 / 32), 0, 0] := by decide +kernel

theorem flush_3 : ∀ t : Fin grid0.N, win0_3.flush t = decide (t.val ≠ 0) := by decide +kernel
theorem flush_4 : ∀ t : Fin grid0.N, win0_4.flush t = decide (t.val ≠ 255) := by decide +kernel
theorem flush_5 : ∀ t : Fin grid0.N, win0_5.flush t = decide (t.val = 256 ∨ (t.val % 32 = 31 ∧ t.val < 255)) := by decide +kernel
theorem flush_6 : ∀ t : Fin grid0.N, win0_6.flush t = decide (t.val = 256 ∨ (t.val % 32 = 31 ∧ t.val < 255)) := by decide +kernel
theorem flush_7 : ∀ t : Fin grid0.N, win0_7.flush t = decide (t.val = 256 ∨ (t.val % 32 = 31 ∧ t.val < 255)) := by decide +kernel
theorem flush_8 : ∀ t : Fin grid0.N, win0_8.flush t = decide (t.val = 256 ∨ (t.val % 32 = 31 ∧ t.val < 255)) := by decide +kernel
theorem flush_9 : ∀ t : Fin grid0.N, win0_9.flush t = decide (t.val = 256 ∨ (t.val % 32 = 31 ∧ t.val < 255)) := by decide +kernel

theorem emb_0 (t : Fin cfg0.N) (i : Fin 128) (j : Fin 1024) (y0 : Fin 8) (y1 : Fin 4096) (y2 : Fin 1024) (h0 : y0.val = (min t.val 255 / 32))
    (h1 : y1.val = (min t.val 255 % 32) * 128 + i.val) (h2 : y2.val = 0 * 1024 + j.val) :
    ((cfg0.win 0).blk t).view.emb (ix3 (n0 := 1) (n1 := 128) (n2 := 1024) 0 i j) = ix3 (n0 := 8) (n1 := 4096) (n2 := 1024) y0 y1 y2 := by
  have e := index_0 t
  funext a
  apply Fin.ext
  refine (win0_0.rect_emb_val t (ix3 (n0 := 1) (n1 := 128) (n2 := 1024) 0 i j) a).trans ?_
  rw [e]
  match a with
  | ⟨0, _⟩ => show (min t.val 255 / 32) * 1 + 0 = y0.val; omega
  | ⟨1, _⟩ => show (min t.val 255 % 32) * 128 + i.val = y1.val; omega
  | ⟨2, _⟩ => show 0 * 1024 + j.val = y2.val; omega

theorem emb_1 (t : Fin cfg0.N) (i : Fin 4096) (j : Fin 256) (y0 : Fin 8) (y1 : Fin 4096) (y2 : Fin 256) (h0 : y0.val = (min t.val 255 / 32))
    (h1 : y1.val = 0 * 4096 + i.val) (h2 : y2.val = 0 * 256 + j.val) :
    ((cfg0.win 1).blk t).view.emb (ix3 (n0 := 1) (n1 := 4096) (n2 := 256) 0 i j) = ix3 (n0 := 8) (n1 := 4096) (n2 := 256) y0 y1 y2 := by
  have e := index_1 t
  funext a
  apply Fin.ext
  refine (win0_1.rect_emb_val t (ix3 (n0 := 1) (n1 := 4096) (n2 := 256) 0 i j) a).trans ?_
  rw [e]
  match a with
  | ⟨0, _⟩ => show (min t.val 255 / 32) * 1 + 0 = y0.val; omega
  | ⟨1, _⟩ => show 0 * 4096 + i.val = y1.val; omega
  | ⟨2, _⟩ => show 0 * 256 + j.val = y2.val; omega

theorem emb_2 (t : Fin cfg0.N) (i : Fin 4096) (j : Fin 256) (y0 : Fin 8) (y1 : Fin 4096) (y2 : Fin 256) (h0 : y0.val = (min t.val 255 / 32))
    (h1 : y1.val = 0 * 4096 + i.val) (h2 : y2.val = 0 * 256 + j.val) :
    ((cfg0.win 2).blk t).view.emb (ix3 (n0 := 1) (n1 := 4096) (n2 := 256) 0 i j) = ix3 (n0 := 8) (n1 := 4096) (n2 := 256) y0 y1 y2 := by
  have e := index_2 t
  funext a
  apply Fin.ext
  refine (win0_2.rect_emb_val t (ix3 (n0 := 1) (n1 := 4096) (n2 := 256) 0 i j) a).trans ?_
  rw [e]
  match a with
  | ⟨0, _⟩ => show (min t.val 255 / 32) * 1 + 0 = y0.val; omega
  | ⟨1, _⟩ => show 0 * 4096 + i.val = y1.val; omega
  | ⟨2, _⟩ => show 0 * 256 + j.val = y2.val; omega

theorem emb_3 (t : Fin cfg0.N) (i : Fin 128) (j : Fin 1024) (y0 : Fin 8) (y1 : Fin 4096) (y2 : Fin 1024) (h0 : y0.val = ((t.val - 1) / 32))
    (h1 : y1.val = ((t.val - 1) % 32) * 128 + i.val) (h2 : y2.val = 0 * 1024 + j.val) :
    ((cfg0.win 3).blk t).view.emb (ix3 (n0 := 1) (n1 := 128) (n2 := 1024) 0 i j) = ix3 (n0 := 8) (n1 := 4096) (n2 := 1024) y0 y1 y2 := by
  have e := index_3 t
  funext a
  apply Fin.ext
  refine (win0_3.rect_emb_val t (ix3 (n0 := 1) (n1 := 128) (n2 := 1024) 0 i j) a).trans ?_
  rw [e]
  match a with
  | ⟨0, _⟩ => show ((t.val - 1) / 32) * 1 + 0 = y0.val; omega
  | ⟨1, _⟩ => show ((t.val - 1) % 32) * 128 + i.val = y1.val; omega
  | ⟨2, _⟩ => show 0 * 1024 + j.val = y2.val; omega

theorem emb_4 (t : Fin cfg0.N) (i : Fin 1024) (j : Fin 128) (y0 : Fin 8) (y1 : Fin 1024) (y2 : Fin 4096) (h0 : y0.val = (min t.val 255 / 32))
    (h1 : y1.val = 0 * 1024 + i.val) (h2 : y2.val = (min t.val 255 % 32) * 128 + j.val) :
    ((cfg0.win 4).blk t).view.emb (ix3 (n0 := 1) (n1 := 1024) (n2 := 128) 0 i j) = ix3 (n0 := 8) (n1 := 1024) (n2 := 4096) y0 y1 y2 := by
  have e := index_4 t
  funext a
  apply Fin.ext
  refine (win0_4.rect_emb_val t (ix3 (n0 := 1) (n1 := 1024) (n2 := 128) 0 i j) a).trans ?_
  rw [e]
  match a with
  | ⟨0, _⟩ => show (min t.val 255 / 32) * 1 + 0 = y0.val; omega
  | ⟨1, _⟩ => show 0 * 1024 + i.val = y1.val; omega
  | ⟨2, _⟩ => show (min t.val 255 % 32) * 128 + j.val = y2.val; omega

theorem emb_5 (t : Fin cfg0.N) (i : Fin 16) (j : Fin 32) (y0 : Fin 8) (y1 : Fin 16) (y2 : Fin 32) (h0 : y0.val = (min t.val 255 / 32))
    (h1 : y1.val = 0 * 16 + i.val) (h2 : y2.val = 0 * 32 + j.val) :
    ((cfg0.win 5).blk t).view.emb (ix3 (n0 := 1) (n1 := 16) (n2 := 32) 0 i j) = ix3 (n0 := 8) (n1 := 16) (n2 := 32) y0 y1 y2 := by
  have e := index_5 t
  funext a
  apply Fin.ext
  refine (win0_5.rect_emb_val t (ix3 (n0 := 1) (n1 := 16) (n2 := 32) 0 i j) a).trans ?_
  rw [e]
  match a with
  | ⟨0, _⟩ => show (min t.val 255 / 32) * 1 + 0 = y0.val; omega
  | ⟨1, _⟩ => show 0 * 16 + i.val = y1.val; omega
  | ⟨2, _⟩ => show 0 * 32 + j.val = y2.val; omega

theorem emb_6 (t : Fin cfg0.N) (i : Fin 256) (j : Fin 4096) (y0 : Fin 8) (y1 : Fin 256) (y2 : Fin 4096) (h0 : y0.val = (min t.val 255 / 32))
    (h1 : y1.val = 0 * 256 + i.val) (h2 : y2.val = 0 * 4096 + j.val) :
    ((cfg0.win 6).blk t).view.emb (ix3 (n0 := 1) (n1 := 256) (n2 := 4096) 0 i j) = ix3 (n0 := 8) (n1 := 256) (n2 := 4096) y0 y1 y2 := by
  have e := index_6 t
  funext a
  apply Fin.ext
  refine (win0_6.rect_emb_val t (ix3 (n0 := 1) (n1 := 256) (n2 := 4096) 0 i j) a).trans ?_
  rw [e]
  match a with
  | ⟨0, _⟩ => show (min t.val 255 / 32) * 1 + 0 = y0.val; omega
  | ⟨1, _⟩ => show 0 * 256 + i.val = y1.val; omega
  | ⟨2, _⟩ => show 0 * 4096 + j.val = y2.val; omega

theorem emb_7 (t : Fin cfg0.N) (i : Fin 4) (j : Fin 32) (y0 : Fin 8) (y1 : Fin 4) (y2 : Fin 32) (h0 : y0.val = (min t.val 255 / 32))
    (h1 : y1.val = 0 * 4 + i.val) (h2 : y2.val = 0 * 32 + j.val) :
    ((cfg0.win 7).blk t).view.emb (ix3 (n0 := 1) (n1 := 4) (n2 := 32) 0 i j) = ix3 (n0 := 8) (n1 := 4) (n2 := 32) y0 y1 y2 := by
  have e := index_7 t
  funext a
  apply Fin.ext
  refine (win0_7.rect_emb_val t (ix3 (n0 := 1) (n1 := 4) (n2 := 32) 0 i j) a).trans ?_
  rw [e]
  match a with
  | ⟨0, _⟩ => show (min t.val 255 / 32) * 1 + 0 = y0.val; omega
  | ⟨1, _⟩ => show 0 * 4 + i.val = y1.val; omega
  | ⟨2, _⟩ => show 0 * 32 + j.val = y2.val; omega

theorem emb_8 (t : Fin cfg0.N) (i : Fin 256) (j : Fin 4096) (y0 : Fin 8) (y1 : Fin 256) (y2 : Fin 4096) (h0 : y0.val = (min t.val 255 / 32))
    (h1 : y1.val = 0 * 256 + i.val) (h2 : y2.val = 0 * 4096 + j.val) :
    ((cfg0.win 8).blk t).view.emb (ix3 (n0 := 1) (n1 := 256) (n2 := 4096) 0 i j) = ix3 (n0 := 8) (n1 := 256) (n2 := 4096) y0 y1 y2 := by
  have e := index_8 t
  funext a
  apply Fin.ext
  refine (win0_8.rect_emb_val t (ix3 (n0 := 1) (n1 := 256) (n2 := 4096) 0 i j) a).trans ?_
  rw [e]
  match a with
  | ⟨0, _⟩ => show (min t.val 255 / 32) * 1 + 0 = y0.val; omega
  | ⟨1, _⟩ => show 0 * 256 + i.val = y1.val; omega
  | ⟨2, _⟩ => show 0 * 4096 + j.val = y2.val; omega

theorem emb_9 (t : Fin cfg0.N) (i : Fin 1) (j : Fin 256) (y0 : Fin 8) (y1 : Fin 1) (y2 : Fin 256) (h0 : y0.val = (min t.val 255 / 32))
    (h1 : y1.val = 0 * 1 + i.val) (h2 : y2.val = 0 * 256 + j.val) :
    ((cfg0.win 9).blk t).view.emb (ix3 (n0 := 1) (n1 := 1) (n2 := 256) 0 i j) = ix3 (n0 := 8) (n1 := 1) (n2 := 256) y0 y1 y2 := by
  have e := index_9 t
  funext a
  apply Fin.ext
  refine (win0_9.rect_emb_val t (ix3 (n0 := 1) (n1 := 1) (n2 := 256) 0 i j) a).trans ?_
  rw [e]
  match a with
  | ⟨0, _⟩ => show (min t.val 255 / 32) * 1 + 0 = y0.val; omega
  | ⟨1, _⟩ => show 0 * 1 + i.val = y1.val; omega
  | ⟨2, _⟩ => show 0 * 256 + j.val = y2.val; omega

end Cert.KernelIdeal.Att
-- ==== Proof.Values.lean ====
/- The kernel's run over the extended reals: what its seven results hold at the end, as functions of the arguments at
   natural-number indices. -/
module

public import proofs.«01_k».proof.Proof.Scale
public import proofs.«01_k».proof.Proof.Turn
public import proofs.«01_k».proof.Proof.Windows
public import proofs.«01_k».proof.Proof.Quiet

@[expose] public section

set_option maxRecDepth 16384

noncomputable section

namespace Cert.KernelIdeal.Att

open Cert.KernelIdeal Cert.KernelIdeal.Gen
open Idealize.ShloMosaic Idealize.ShloMosaic.TcCoe Idealize.SL.Sem
open Idealize.ShloMosaic.Pipeline (RDat Dat)

variable (m : (ℓ : Loc nD τ sig) → Buf (Elt Ideal) ℓ) (ρ : Dev nD → PrngReg)

/-- The queries: batch, row, feature. -/
def argX (c : Dev nD) : ℕ → ℕ → ℕ → EReal := g3 (n0 := 8) (n1 := 4096) (n2 := 1024) (m ((c.tc : Thread nD τ).loc main_arg0))
/-- The keys. -/
def argK (c : Dev nD) : ℕ → ℕ → ℕ → EReal := g3 (n0 := 8) (n1 := 4096) (n2 := 256) (m ((c.tc : Thread nD τ).loc main_arg1))
/-- The values. -/
def argV (c : Dev nD) : ℕ → ℕ → ℕ → EReal := g3 (n0 := 8) (n1 := 4096) (n2 := 256) (m ((c.tc : Thread nD τ).loc main_arg2))

theorem iblk0 (c : Dev nD) (t : Fin cfg0.N) (n f : ℕ) (hn : n < 128) (hf : f < 1024) :
    rX (iblk m c 0 t) n f = argX m c (min t.val 255 / 32) (128 * (min t.val 255 % 32) + n) f := by
  have ht := lt257 t
  unfold argX
  refine (g3_lt (n0 := 1) (n1 := 128) (n2 := 1024) (iblk m c 0 t) (by decide) hn hf).trans ?_
  rw [g3_lt _ (by omega) (by omega) hf]
  exact congrArg (m ((c.tc : Thread nD τ).loc main_arg0)) (emb_0 t ⟨n, hn⟩ ⟨f, hf⟩ ⟨_, by omega⟩ ⟨128 * (min t.val 255 % 32) + n, by omega⟩ ⟨f, hf⟩ rfl
    (by show 128 * (min t.val 255 % 32) + n = (min t.val 255 % 32) * 128 + n; omega) (by show f = 0 * 1024 + f; omega))

theorem iblk1 (c : Dev nD) (t : Fin cfg0.N) (n f : ℕ) (hn : n < 4096) (hf : f < 256) :
    rK (iblk m c 1 t) n f = argK m c (min t.val 255 / 32) n f := by
  have ht := lt257 t
  unfold argK
  refine (g3_lt (n0 := 1) (n1 := 4096) (n2 := 256) (iblk m c 1 t) (by decide) hn hf).trans ?_
  rw [g3_lt _ (by omega) (by omega) hf]
  exact congrArg (m ((c.tc : Thread nD τ).loc main_arg1)) (emb_1 t ⟨n, hn⟩ ⟨f, hf⟩ ⟨_, by omega⟩ ⟨n, by omega⟩ ⟨f, hf⟩ rfl
    (by show n = 0 * 4096 + n; omega) (by show f = 0 * 256 + f; omega))

theorem iblk2 (c : Dev nD) (t : Fin cfg0.N) (n f : ℕ) (hn : n < 4096) (hf : f < 256) :
    rK (iblk m c 2 t) n f = argV m c (min t.val 255 / 32) n f := by
  have ht := lt257 t
  unfold argV
  refine (g3_lt (n0 := 1) (n1 := 4096) (n2 := 256) (iblk m c 2 t) (by decide) hn hf).trans ?_
  rw [g3_lt _ (by omega) (by omega) hf]
  exact congrArg (m ((c.tc : Thread nD τ).loc main_arg2)) (emb_2 t ⟨n, hn⟩ ⟨f, hf⟩ ⟨_, by omega⟩ ⟨n, by omega⟩ ⟨f, hf⟩ rfl
    (by show n = 0 * 4096 + n; omega) (by show f = 0 * 256 + f; omega))

/-- How the body changes the results' blocks. -/
def valRel (c : Dev nD) : Rel Ideal where
  out t Y X := t.val ≠ 0 → ∀ n f, n < 128 → f < 1024 → rOut X n f
    = scO (argX m c ((t.val - 1) / 32)) (argK m c ((t.val - 1) / 32)) (argV m c ((t.val - 1) / 32)) (f / 256) (f % 256 / 64) (128 * ((t.val - 1) % 32) + n) (f % 64)
  qc t Y X := ∀ f n, f < 1024 → n < 128 → rQc X f n = codeB (argX m c (min t.val 255 / 32)) (128 * (min t.val 255 % 32) + n) f
  qs t Y X := ∀ h l, h < 16 → l < 32 → rQs X h l
    = if l = min t.val 255 % 32 then SC (amaxB (argX m c (min t.val 255 / 32)) (min t.val 255 % 32) h) else rQs Y h l
  kc t Y X := (t.val % 32 = 0 ∧ t.val < 256 → ∀ f n, f < 256 → n < 4096 → rKc X f n = codeB (argK m c (min t.val 255 / 32)) n f)
    ∧ (¬(t.val % 32 = 0 ∧ t.val < 256) → X = Y)
  ks t Y X := (t.val % 32 = 0 ∧ t.val < 256 → ∀ g r, g < 4 → r < 32 → rKs X g r = SC (amaxB (argK m c (min t.val 255 / 32)) r g))
    ∧ (¬(t.val % 32 = 0 ∧ t.val < 256) → X = Y)
  vc t Y X := (t.val % 32 = 0 ∧ t.val < 256 → ∀ f n, f < 256 → n < 4096 → rKc X f n = codeV (argV m c (min t.val 255 / 32)) n f)
    ∧ (¬(t.val % 32 = 0 ∧ t.val < 256) → X = Y)
  vs t Y X := (t.val % 32 = 0 ∧ t.val < 256 → ∀ f, f < 256 → rVs X f = SC (amaxV (argV m c (min t.val 255 / 32)) f))
    ∧ (¬(t.val % 32 = 0 ∧ t.val < 256) → X = Y)

/-- What the scratch holds before point `n`. -/
def valInv (c : Dev nD) (n : ℕ) (s : St Ideal) : Prop := n ≠ 0 → n ≤ 256 → Inv (argX m c) (argK m c) (argV m c) n s

theorem valStep : Step m (valInv m) (valRel m) where
  zero c s := fun h => absurd rfl h
  scratch c n s x k v out qc qs kc ks vc vs h := fun h0 h1 => ⟨(h h0 h1).qz, (h h0 h1).kn, (h h0 h1).ksr, (h h0 h1).scored, (h h0 h1).valued, (h h0 h1).ob⟩
  step c t s hx hk hv hJ := by
    have e : (grid0.coords t 0).val = t.val := coords_val t
    have ht := lt257 t
    obtain ⟨s', r, hi, ho⟩ := body_step (refs t) c (argX m c) (argK m c) (argV m c) SC_pos (grid0.coords t) s
      (by
        rw [e]
        exact ⟨fun n f hn hf => by rw [hx]; exact iblk0 m c t n f hn hf, fun n f hn hf => by rw [hk]; exact iblk1 m c t n f hn hf,
          fun n f hn hf => by rw [hv]; exact iblk2 m c t n f hn hf⟩)
      (by rw [e]; exact fun h => hJ h (by omega))
    rw [e] at hi ho
    refine ⟨s', r, fun _ h => hi (by omega), ⟨ho.x, ho.k, ho.v⟩, ho.out, ho.qc, ho.qs, ⟨ho.kc, fun h => (ho.old h).1⟩, ⟨ho.ks, fun h => (ho.old h).2.1⟩,
      ⟨ho.vc, fun h => (ho.old h).2.2.1⟩, ⟨ho.vs, fun h => (ho.old h).2.2.2⟩⟩

/-- The proof data of the run. -/
abbrev vdat (c : Dev nD) := rdat m (valInv m) (valRel m) c

/-- A block written at the first point of each batch and kept through the batch. -/
theorem leaves_batch (c : Dev nD) (w : Fin cfg0.W) (hout : (cfg0.win w).isOut = true)
    (hfl : ∀ t : Fin cfg0.N, (cfg0.win w).flush t = decide (t.val = 256 ∨ (t.val % 32 = 31 ∧ t.val < 255)))
    (P : ℕ → ((cfg0.win w).block.Idx → Elt Ideal (cfg0.win w).elt) → Prop)
    (h : ∀ t Y X, (vdat m c).after w t Y X → (t.val % 32 = 0 ∧ t.val < 256 → P (min t.val 255 / 32) X) ∧ (¬(t.val % 32 = 0 ∧ t.val < 256) → X = Y)) :
    ∀ (n : ℕ) (t : Fin cfg0.N), t.val = n → ∀ X, (vdat m c).Leaves w t X → P (min t.val 255 / 32) X := by
  intro n
  induction n with
  | zero =>
    rintro t ht X ⟨Y, hY, hX⟩
    exact (h t Y X hX).1 (by omega)
  | succ n ih =>
    rintro t ht X ⟨Y, hY, hX⟩
    have hlt := lt257 t
    by_cases h0 : t.val % 32 = 0 ∧ t.val < 256
    · exact (h t Y X hX).1 h0
    · rw [(h t Y X hX).2 h0]
      rcases (RDat.finds_of_pos (vdat m c) ((cfg0.win w).fetch_out hout t) (by omega) Y).1 hY with hf | hl
      · rw [hfl] at hf
        simp only [decide_eq_true_eq] at hf
        omega
      · have := ih _ (by show t.val - 1 = n; omega) Y hl
        rwa [show min (t.val - 1) 255 / 32 = min t.val 255 / 32 by omega] at this

/-- The query scales gather over a batch. -/
theorem leaves_qs (c : Dev nD) : ∀ (n : ℕ) (t : Fin cfg0.N), t.val = n → ∀ X : Vec Ideal S1x16x32 .f32, (vdat m c).Leaves 5 t X →
    ∀ h l, h < 16 → l ≤ min t.val 255 % 32 → rQs X h l = SC (amaxB (argX m c (min t.val 255 / 32)) l h) := by
  intro n
  induction n with
  | zero =>
    rintro t ht X ⟨Y, hY, hX⟩ h l hh hl
    have hX : (valRel m c).qs t Y X := hX
    rw [hX h l hh (by omega), if_pos (by omega), show min t.val 255 % 32 = l by omega]
  | succ n ih =>
    rintro t ht X ⟨Y, hY, hX⟩ h l hh hl
    have hlt := lt257 t
    have hX : (valRel m c).qs t Y X := hX
    rw [hX h l hh (by omega)]
    split
    · rename_i e; rw [e]
    · rename_i e
      rcases (RDat.finds_of_pos (vdat m c) ((cfg0.win 5).fetch_out rfl t) (by omega) Y).1 hY with hf | hl'
      · have hf' := (flush_5 _).symm.trans hf
        simp only [decide_eq_true_eq] at hf'
        omega
      · have := ih _ (by show t.val - 1 = n; omega) Y hl' h l hh (by show l ≤ min (t.val - 1) 255 % 32; omega)
        rwa [show min (t.val - 1) 255 / 32 = min t.val 255 / 32 by omega] at this

end Cert.KernelIdeal.Att
-- ==== Proof.Arrays.lean ====
/- The seven results at the end of the kernel's run, whole: each index lies in the block some point writes back. -/
module

public import proofs.«01_k».proof.Proof.Values
public import Idealize.ShloMosaic.Lib.Pipeline.ArrRel

@[expose] public section

set_option maxRecDepth 16384

noncomputable section

namespace Cert.KernelIdeal.Att

open Cert.KernelIdeal Cert.KernelIdeal.Gen
open Idealize.ShloMosaic Idealize.ShloMosaic.TcCoe Idealize.SL.Sem
open Idealize.ShloMosaic.Pipeline (RDat Dat)

/-- The attention output: batch, row, feature. -/
def resO (X K V : ℕ → ℕ → ℕ → EReal) (y : (⟨3, ![8, 4096, 1024]⟩ : Shape).Idx) : EReal :=
  scO (X (y 0).val) (K (y 0).val) (V (y 0).val) ((y 2).val / 256) ((y 2).val % 256 / 64) (y 1).val ((y 2).val % 64)
/-- The codes of queries or keys, features first. -/
def resB {W : ℕ} (X : ℕ → ℕ → ℕ → EReal) (y : (⟨3, ![8, W, 4096]⟩ : Shape).Idx) : EReal := codeB (X (y 0).val) (y 2).val (y 1).val
/-- The scales of queries or keys: batch, head, block of rows. -/
def resS {W : ℕ} (X : ℕ → ℕ → ℕ → EReal) (y : (⟨3, ![8, W, 32]⟩ : Shape).Idx) : EReal := SC (amaxB (X (y 0).val) (y 2).val (y 1).val)
/-- The codes of values, features first. -/
def resV (X : ℕ → ℕ → ℕ → EReal) (y : (⟨3, ![8, 256, 4096]⟩ : Shape).Idx) : EReal := codeV (X (y 0).val) (y 2).val (y 1).val
/-- The scales of values. -/
def resT (X : ℕ → ℕ → ℕ → EReal) (y : (⟨3, ![8, 1, 256]⟩ : Shape).Idx) : EReal := SC (amaxV (X (y 0).val) (y 2).val)

section Blocks

variable (m : (ℓ : Loc nD τ sig) → Buf (Elt Ideal) ℓ) (c : Dev nD)
  (after : (w' : Fin cfg0.W) → Fin cfg0.N → (cfg0.win w').block.Idx → Elt Ideal (cfg0.win w').elt)
  (hL : ∀ (w : Fin cfg0.W) (u : Fin cfg0.N), (cfg0.win w).flush u = true → (vdat m c).Leaves w u (after w u))
include hL

/-- Result 0. -/
theorem arr_3 : ((vdat m c).withAfter after).arrAt 3 cfg0.N = resO (argX m c) (argK m c) (argV m c) := by
  refine Dat.arrAt_eq_of_cover ((vdat m c).withAfter after) 3 (resO (argX m c) (argK m c) (argV m c)) (fun t hf => ?_) (fun y => ?_)
  · have hl := hL 3 t hf
    have ht := lt257 t
    have hf' := (flush_3 t).symm.trans hf
    simp only [decide_eq_true_eq] at hf'
    funext z
    have ez := eq_ix3 (n0 := 1) (n1 := 128) (n2 := 1024) z
    have e0 : z 0 = (0 : Fin 1) := Fin.ext (by have : (z 0).val < 1 := (z 0).isLt; show (z 0).val = 0; omega)
    rw [e0] at ez
    obtain ⟨i, hi⟩ : ∃ i : Fin 128, i = z 1 := ⟨_, rfl⟩
    obtain ⟨j, hj⟩ : ∃ j : Fin 1024, j = z 2 := ⟨_, rfl⟩
    rw [← hi, ← hj] at ez
    have hi' := i.isLt
    have hj' := j.isLt
    rw [ez]
    show after 3 t (ix3 (n0 := 1) (n1 := 128) (n2 := 1024) 0 i j) = resO (argX m c) (argK m c) (argV m c) (((cfg0.win 3).blk t).view.emb (ix3 (n0 := 1) (n1 := 128) (n2 := 1024) 0 i j))
    rw [emb_3 t i j ⟨(t.val - 1) / 32, by omega⟩ ⟨128 * ((t.val - 1) % 32) + i.val, by omega⟩ j rfl (by show 128 * ((t.val - 1) % 32) + i.val = _; omega) (by omega),
      g3_ix (n0 := 1) (n1 := 128) (n2 := 1024) (after 3 t)]
    obtain ⟨Y, hY, hX⟩ := hl
    have hX : (valRel m c).out t Y (after 3 t) := hX
    exact hX hf' i.val j.val hi' hj'
  · have b0 : (y 0).val < 8 := (y 0).isLt
    have b1 : (y 1).val < 4096 := (y 1).isLt
    have b2 : (y 2).val < 1024 := (y 2).isLt
    have hp : (32 * (y 0).val + (y 1).val / 128 + 1) < 257 := by omega
    obtain ⟨p, ep⟩ : ∃ p, p = 32 * (y 0).val + (y 1).val / 128 + 1 := ⟨_, rfl⟩
    rw [← ep] at hp
    refine ⟨⟨p, hp⟩, (flush_3 _).trans (decide_eq_true (by show p ≠ 0; omega)), ?_⟩
    have ee := emb_3 ⟨p, hp⟩ ⟨(y 1).val % 128, by omega⟩ (y 2) (y 0) (y 1) (y 2) (by show (y 0).val = (p - 1) / 32; omega)
      (by show (y 1).val = (p - 1) % 32 * 128 + (y 1).val % 128; omega) (by show (y 2).val = 0 * 1024 + (y 2).val; omega)
    have ey : ix3 (n0 := 8) (n1 := 4096) (n2 := 1024) (y 0) (y 1) (y 2) = y := (eq_ix3 (n0 := 8) (n1 := 4096) (n2 := 1024) y).symm
    exact (ee.trans ey) ▸ View.emb_mem_set _ _

/-- Result 1. -/
theorem arr_4 : ((vdat m c).withAfter after).arrAt 4 cfg0.N = resB (W := 1024) (argX m c) := by
  refine Dat.arrAt_eq_of_cover ((vdat m c).withAfter after) 4 (resB (W := 1024) (argX m c)) (fun t hf => ?_) (fun y => ?_)
  · have hl := hL 4 t hf
    have ht := lt257 t
    have hf' := (flush_4 t).symm.trans hf
    simp only [decide_eq_true_eq] at hf'
    funext z
    have ez := eq_ix3 (n0 := 1) (n1 := 1024) (n2 := 128) z
    have e0 : z 0 = (0 : Fin 1) := Fin.ext (by have : (z 0).val < 1 := (z 0).isLt; show (z 0).val = 0; omega)
    rw [e0] at ez
    obtain ⟨i, hi⟩ : ∃ i : Fin 1024, i = z 1 := ⟨_, rfl⟩
    obtain ⟨j, hj⟩ : ∃ j : Fin 128, j = z 2 := ⟨_, rfl⟩
    rw [← hi, ← hj] at ez
    have hi' := i.isLt
    have hj' := j.isLt
    rw [ez]
    show after 4 t (ix3 (n0 := 1) (n1 := 1024) (n2 := 128) 0 i j) = resB (W := 1024) (argX m c) (((cfg0.win 4).blk t).view.emb (ix3 (n0 := 1) (n1 := 1024) (n2 := 128) 0 i j))
    rw [emb_4 t i j ⟨min t.val 255 / 32, by omega⟩ i ⟨128 * (min t.val 255 % 32) + j.val, by omega⟩ rfl (by omega) (by show 128 * (min t.val 255 % 32) + j.val = _; omega),
      g3_ix (n0 := 1) (n1 := 1024) (n2 := 128) (after 4 t)]
    obtain ⟨Y, hY, hX⟩ := hl
    have hX : (valRel m c).qc t Y (after 4 t) := hX
    exact hX i.val j.val hi' hj'
  · have b0 : (y 0).val < 8 := (y 0).isLt
    have b1 : (y 1).val < 1024 := (y 1).isLt
    have b2 : (y 2).val < 4096 := (y 2).isLt
    have hp : (if 32 * (y 0).val + (y 2).val / 128 = 255 then 256 else 32 * (y 0).val + (y 2).val / 128) < 257 := by split <;> omega
    obtain ⟨p, ep⟩ : ∃ p, p = if 32 * (y 0).val + (y 2).val / 128 = 255 then 256 else 32 * (y 0).val + (y 2).val / 128 := ⟨_, rfl⟩
    rw [← ep] at hp
    have ep' := ep
    split at ep' <;> rename_i hc
    · refine ⟨⟨p, hp⟩, (flush_4 _).trans (decide_eq_true (by show p ≠ 255; omega)), ?_⟩
      have ee := emb_4 ⟨p, hp⟩ (y 1) ⟨(y 2).val % 128, by omega⟩ (y 0) (y 1) (y 2) (by show (y 0).val = min p 255 / 32; omega)
        (by show (y 1).val = 0 * 1024 + (y 1).val; omega) (by show (y 2).val = min p 255 % 32 * 128 + (y 2).val % 128; omega)
      have ey : ix3 (n0 := 8) (n1 := 1024) (n2 := 4096) (y 0) (y 1) (y 2) = y := (eq_ix3 (n0 := 8) (n1 := 1024) (n2 := 4096) y).symm
      exact (ee.trans ey) ▸ View.emb_mem_set _ _
    · refine ⟨⟨p, hp⟩, (flush_4 _).trans (decide_eq_true (by show p ≠ 255; omega)), ?_⟩
      have ee := emb_4 ⟨p, hp⟩ (y 1) ⟨(y 2).val % 128, by omega⟩ (y 0) (y 1) (y 2) (by show (y 0).val = min p 255 / 32; omega)
        (by show (y 1).val = 0 * 1024 + (y 1).val; omega) (by show (y 2).val = min p 255 % 32 * 128 + (y 2).val % 128; omega)
      have ey : ix3 (n0 := 8) (n1 := 1024) (n2 := 4096) (y 0) (y 1) (y 2) = y := (eq_ix3 (n0 := 8) (n1 := 1024) (n2 := 4096) y).symm
      exact (ee.trans ey) ▸ View.emb_mem_set _ _

/-- Result 2. -/
theorem arr_5 : ((vdat m c).withAfter after).arrAt 5 cfg0.N = resS (W := 16) (argX m c) := by
  refine Dat.arrAt_eq_of_cover ((vdat m c).withAfter after) 5 (resS (W := 16) (argX m c)) (fun t hf => ?_) (fun y => ?_)
  · have hl := hL 5 t hf
    have ht := lt257 t
    have hf' := (flush_5 t).symm.trans hf
    simp only [decide_eq_true_eq] at hf'
    funext z
    have ez := eq_ix3 (n0 := 1) (n1 := 16) (n2 := 32) z
    have e0 : z 0 = (0 : Fin 1) := Fin.ext (by have : (z 0).val < 1 := (z 0).isLt; show (z 0).val = 0; omega)
    rw [e0] at ez
    obtain ⟨i, hi⟩ : ∃ i : Fin 16, i = z 1 := ⟨_, rfl⟩
    obtain ⟨j, hj⟩ : ∃ j : Fin 32, j = z 2 := ⟨_, rfl⟩
    rw [← hi, ← hj] at ez
    have hi' := i.isLt
    have hj' := j.isLt
    rw [ez]
    show after 5 t (ix3 (n0 := 1) (n1 := 16) (n2 := 32) 0 i j) = resS (W := 16) (argX m c) (((cfg0.win 5).blk t).view.emb (ix3 (n0 := 1) (n1 := 16) (n2 := 32) 0 i j))
    rw [emb_5 t i j ⟨min t.val 255 / 32, by omega⟩ i j rfl (by omega) (by omega), g3_ix (n0 := 1) (n1 := 16) (n2 := 32) (after 5 t)]
    exact leaves_qs m c _ t rfl _ hl i.val j.val hi' (by omega)
  · have b0 : (y 0).val < 8 := (y 0).isLt
    have b1 : (y 1).val < 16 := (y 1).isLt
    have b2 : (y 2).val < 32 := (y 2).isLt
    have hp : (if (y 0).val = 7 then 256 else 32 * (y 0).val + 31) < 257 := by split <;> omega
    obtain ⟨p, ep⟩ : ∃ p, p = if (y 0).val = 7 then 256 else 32 * (y 0).val + 31 := ⟨_, rfl⟩
    rw [← ep] at hp
    have ep' := ep
    split at ep' <;> rename_i hc
    · refine ⟨⟨p, hp⟩, (flush_5 _).trans (decide_eq_true (by show p = 256 ∨ (p % 32 = 31 ∧ p < 255); omega)), ?_⟩
      have ee := emb_5 ⟨p, hp⟩ (y 1) (y 2) (y 0) (y 1) (y 2) (by show (y 0).val = min p 255 / 32; omega)
        (by show (y 1).val = 0 * 16 + (y 1).val; omega) (by show (y 2).val = 0 * 32 + (y 2).val; omega)
      have ey : ix3 (n0 := 8) (n1 := 16) (n2 := 32) (y 0) (y 1) (y 2) = y := (eq_ix3 (n0 := 8) (n1 := 16) (n2 := 32) y).symm
      exact (ee.trans ey) ▸ View.emb_mem_set _ _
    · refine ⟨⟨p, hp⟩, (flush_5 _).trans (decide_eq_true (by show p = 256 ∨ (p % 32 = 31 ∧ p < 255); omega)), ?_⟩
      have ee := emb_5 ⟨p, hp⟩ (y 1) (y 2) (y 0) (y 1) (y 2) (by show (y 0).val = min p 255 / 32; omega)
        (by show (y 1).val = 0 * 16 + (y 1).val; omega) (by show (y 2).val = 0 * 32 + (y 2).val; omega)
      have ey : ix3 (n0 := 8) (n1 := 16) (n2 := 32) (y 0) (y 1) (y 2) = y := (eq_ix3 (n0 := 8) (n1 := 16) (n2 := 32) y).symm
      exact (ee.trans ey) ▸ View.emb_mem_set _ _

/-- Result 3. -/
theorem arr_6 : ((vdat m c).withAfter after).arrAt 6 cfg0.N = resB (W := 256) (argK m c) := by
  refine Dat.arrAt_eq_of_cover ((vdat m c).withAfter after) 6 (resB (W := 256) (argK m c)) (fun t hf => ?_) (fun y => ?_)
  · have hl := hL 6 t hf
    have ht := lt257 t
    have hf' := (flush_6 t).symm.trans hf
    simp only [decide_eq_true_eq] at hf'
    funext z
    have ez := eq_ix3 (n0 := 1) (n1 := 256) (n2 := 4096) z
    have e0 : z 0 = (0 : Fin 1) := Fin.ext (by have : (z 0).val < 1 := (z 0).isLt; show (z 0).val = 0; omega)
    rw [e0] at ez
    obtain ⟨i, hi⟩ : ∃ i : Fin 256, i = z 1 := ⟨_, rfl⟩
    obtain ⟨j, hj⟩ : ∃ j : Fin 4096, j = z 2 := ⟨_, rfl⟩
    rw [← hi, ← hj] at ez
    have hi' := i.isLt
    have hj' := j.isLt
    rw [ez]
    show after 6 t (ix3 (n0 := 1) (n1 := 256) (n2 := 4096) 0 i j) = resB (W := 256) (argK m c) (((cfg0.win 6).blk t).view.emb (ix3 (n0 := 1) (n1 := 256) (n2 := 4096) 0 i j))
    rw [emb_6 t i j ⟨min t.val 255 / 32, by omega⟩ i j rfl (by omega) (by omega), g3_ix (n0 := 1) (n1 := 256) (n2 := 4096) (after 6 t)]
    exact leaves_batch m c 6 rfl flush_6 (fun b X => ∀ f n, f < 256 → n < 4096 → rKc X f n = codeB (argK m c b) n f)
      (fun t Y X (hX : (valRel m c).kc t Y X) => hX) _ t rfl _ hl i.val j.val hi' hj'
  · have b0 : (y 0).val < 8 := (y 0).isLt
    have b1 : (y 1).val < 256 := (y 1).isLt
    have b2 : (y 2).val < 4096 := (y 2).isLt
    have hp : (if (y 0).val = 7 then 256 else 32 * (y 0).val + 31) < 257 := by split <;> omega
    obtain ⟨p, ep⟩ : ∃ p, p = if (y 0).val = 7 then 256 else 32 * (y 0).val + 31 := ⟨_, rfl⟩
    rw [← ep] at hp
    have ep' := ep
    split at ep' <;> rename_i hc
    · refine ⟨⟨p, hp⟩, (flush_6 _).trans (decide_eq_true (by show p = 256 ∨ (p % 32 = 31 ∧ p < 255); omega)), ?_⟩
      have ee := emb_6 ⟨p, hp⟩ (y 1) (y 2) (y 0) (y 1) (y 2) (by show (y 0).val = min p 255 / 32; omega)
        (by show (y 1).val = 0 * 256 + (y 1).val; omega) (by show (y 2).val = 0 * 4096 + (y 2).val; omega)
      have ey : ix3 (n0 := 8) (n1 := 256) (n2 := 4096) (y 0) (y 1) (y 2) = y := (eq_ix3 (n0 := 8) (n1 := 256) (n2 := 4096) y).symm
      exact (ee.trans ey) ▸ View.emb_mem_set _ _
    · refine ⟨⟨p, hp⟩, (flush_6 _).trans (decide_eq_true (by show p = 256 ∨ (p % 32 = 31 ∧ p < 255); omega)), ?_⟩
      have ee := emb_6 ⟨p, hp⟩ (y 1) (y 2) (y 0) (y 1) (y 2) (by show (y 0).val = min p 255 / 32; omega)
        (by show (y 1).val = 0 * 256 + (y 1).val; omega) (by show (y 2).val = 0 * 4096 + (y 2).val; omega)
      have ey : ix3 (n0 := 8) (n1 := 256) (n2 := 4096) (y 0) (y 1) (y 2) = y := (eq_ix3 (n0 := 8) (n1 := 256) (n2 := 4096) y).symm
      exact (ee.trans ey) ▸ View.emb_mem_set _ _

/-- Result 4. -/
theorem arr_7 : ((vdat m c).withAfter after).arrAt 7 cfg0.N = resS (W := 4) (argK m c) := by
  refine Dat.arrAt_eq_of_cover ((vdat m c).withAfter after) 7 (resS (W := 4) (argK m c)) (fun t hf => ?_) (fun y => ?_)
  · have hl := hL 7 t hf
    have ht := lt257 t
    have hf' := (flush_7 t).symm.trans hf
    simp only [decide_eq_true_eq] at hf'
    funext z
    have ez := eq_ix3 (n0 := 1) (n1 := 4) (n2 := 32) z
    have e0 : z 0 = (0 : Fin 1) := Fin.ext (by have : (z 0).val < 1 := (z 0).isLt; show (z 0).val = 0; omega)
    rw [e0] at ez
    obtain ⟨i, hi⟩ : ∃ i : Fin 4, i = z 1 := ⟨_, rfl⟩
    obtain ⟨j, hj⟩ : ∃ j : Fin 32, j = z 2 := ⟨_, rfl⟩
    rw [← hi, ← hj] at ez
    have hi' := i.isLt
    have hj' := j.isLt
    rw [ez]
    show after 7 t (ix3 (n0 := 1) (n1 := 4) (n2 := 32) 0 i j) = resS (W := 4) (argK m c) (((cfg0.win 7).blk t).view.emb (ix3 (n0 := 1) (n1 := 4) (n2 := 32) 0 i j))
    rw [emb_7 t i j ⟨min t.val 255 / 32, by omega⟩ i j rfl (by omega) (by omega), g3_ix (n0 := 1) (n1 := 4) (n2 := 32) (after 7 t)]
    exact leaves_batch m c 7 rfl flush_7 (fun b X => ∀ g r, g < 4 → r < 32 → rKs X g r = SC (amaxB (argK m c b) r g))
      (fun t Y X (hX : (valRel m c).ks t Y X) => hX) _ t rfl _ hl i.val j.val hi' hj'
  · have b0 : (y 0).val < 8 := (y 0).isLt
    have b1 : (y 1).val < 4 := (y 1).isLt
    have b2 : (y 2).val < 32 := (y 2).isLt
    have hp : (if (y 0).val = 7 then 256 else 32 * (y 0).val + 31) < 257 := by split <;> omega
    obtain ⟨p, ep⟩ : ∃ p, p = if (y 0).val = 7 then 256 else 32 * (y 0).val + 31 := ⟨_, rfl⟩
    rw [← ep] at hp
    have ep' := ep
    split at ep' <;> rename_i hc
    · refine ⟨⟨p, hp⟩, (flush_7 _).trans (decide_eq_true (by show p = 256 ∨ (p % 32 = 31 ∧ p < 255); omega)), ?_⟩
      have ee := emb_7 ⟨p, hp⟩ (y 1) (y 2) (y 0) (y 1) (y 2) (by show (y 0).val = min p 255 / 32; omega)
        (by show (y 1).val = 0 * 4 + (y 1).val; omega) (by show (y 2).val = 0 * 32 + (y 2).val; omega)
      have ey : ix3 (n0 := 8) (n1 := 4) (n2 := 32) (y 0) (y 1) (y 2) = y := (eq_ix3 (n0 := 8) (n1 := 4) (n2 := 32) y).symm
      exact (ee.trans ey) ▸ View.emb_mem_set _ _
    · refine ⟨⟨p, hp⟩, (flush_7 _).trans (decide_eq_true (by show p = 256 ∨ (p % 32 = 31 ∧ p < 255); omega)), ?_⟩
      have ee := emb_7 ⟨p, hp⟩ (y 1) (y 2) (y 0) (y 1) (y 2) (by show (y 0).val = min p 255 / 32; omega)
        (by show (y 1).val = 0 * 4 + (y 1).val; omega) (by show (y 2).val = 0 * 32 + (y 2).val; omega)
      have ey : ix3 (n0 := 8) (n1 := 4) (n2 := 32) (y 0) (y 1) (y 2) = y := (eq_ix3 (n0 := 8) (n1 := 4) (n2 := 32) y).symm
      exact (ee.trans ey) ▸ View.emb_mem_set _ _

/-- Result 5. -/
theorem arr_8 : ((vdat m c).withAfter after).arrAt 8 cfg0.N = resV (argV m c) := by
  refine Dat.arrAt_eq_of_cover ((vdat m c).withAfter after) 8 (resV (argV m c)) (fun t hf => ?_) (fun y => ?_)
  · have hl := hL 8 t hf
    have ht := lt257 t
    have hf' := (flush_8 t).symm.trans hf
    simp only [decide_eq_true_eq] at hf'
    funext z
    have ez := eq_ix3 (n0 := 1) (n1 := 256) (n2 := 4096) z
    have e0 : z 0 = (0 : Fin 1) := Fin.ext (by have : (z 0).val < 1 := (z 0).isLt; show (z 0).val = 0; omega)
    rw [e0] at ez
    obtain ⟨i, hi⟩ : ∃ i : Fin 256, i = z 1 := ⟨_, rfl⟩
    obtain ⟨j, hj⟩ : ∃ j : Fin 4096, j = z 2 := ⟨_, rfl⟩
    rw [← hi, ← hj] at ez
    have hi' := i.isLt
    have hj' := j.isLt
    rw [ez]
    show after 8 t (ix3 (n0 := 1) (n1 := 256) (n2 := 4096) 0 i j) = resV (argV m c) (((cfg0.win 8).blk t).view.emb (ix3 (n0 := 1) (n1 := 256) (n2 := 4096) 0 i j))
    rw [emb_8 t i j ⟨min t.val 255 / 32, by omega⟩ i j rfl (by omega) (by omega), g3_ix (n0 := 1) (n1 := 256) (n2 := 4096) (after 8 t)]
    exact leaves_batch m c 8 rfl flush_8 (fun b X => ∀ f n, f < 256 → n < 4096 → rKc X f n = codeV (argV m c b) n f)
      (fun t Y X (hX : (valRel m c).vc t Y X) => hX) _ t rfl _ hl i.val j.val hi' hj'
  · have b0 : (y 0).val < 8 := (y 0).isLt
    have b1 : (y 1).val < 256 := (y 1).isLt
    have b2 : (y 2).val < 4096 := (y 2).isLt
    have hp : (if (y 0).val = 7 then 256 else 32 * (y 0).val + 31) < 257 := by split <;> omega
    obtain ⟨p, ep⟩ : ∃ p, p = if (y 0).val = 7 then 256 else 32 * (y 0).val + 31 := ⟨_, rfl⟩
    rw [← ep] at hp
    have ep' := ep
    split at ep' <;> rename_i hc
    · refine ⟨⟨p, hp⟩, (flush_8 _).trans (decide_eq_true (by show p = 256 ∨ (p % 32 = 31 ∧ p < 255); omega)), ?_⟩
      have ee := emb_8 ⟨p, hp⟩ (y 1) (y 2) (y 0) (y 1) (y 2) (by show (y 0).val = min p 255 / 32; omega)
        (by show (y 1).val = 0 * 256 + (y 1).val; omega) (by show (y 2).val = 0 * 4096 + (y 2).val; omega)
      have ey : ix3 (n0 := 8) (n1 := 256) (n2 := 4096) (y 0) (y 1) (y 2) = y := (eq_ix3 (n0 := 8) (n1 := 256) (n2 := 4096) y).symm
      exact (ee.trans ey) ▸ View.emb_mem_set _ _
    · refine ⟨⟨p, hp⟩, (flush_8 _).trans (decide_eq_true (by show p = 256 ∨ (p % 32 = 31 ∧ p < 255); omega)), ?_⟩
      have ee := emb_8 ⟨p, hp⟩ (y 1) (y 2) (y 0) (y 1) (y 2) (by show (y 0).val = min p 255 / 32; omega)
        (by show (y 1).val = 0 * 256 + (y 1).val; omega) (by show (y 2).val = 0 * 4096 + (y 2).val; omega)
      have ey : ix3 (n0 := 8) (n1 := 256) (n2 := 4096) (y 0) (y 1) (y 2) = y := (eq_ix3 (n0 := 8) (n1 := 256) (n2 := 4096) y).symm
      exact (ee.trans ey) ▸ View.emb_mem_set _ _

/-- Result 6. -/
theorem arr_9 : ((vdat m c).withAfter after).arrAt 9 cfg0.N = resT (argV m c) := by
  refine Dat.arrAt_eq_of_cover ((vdat m c).withAfter after) 9 (resT (argV m c)) (fun t hf => ?_) (fun y => ?_)
  · have hl := hL 9 t hf
    have ht := lt257 t
    have hf' := (flush_9 t).symm.trans hf
    simp only [decide_eq_true_eq] at hf'
    funext z
    have ez := eq_ix3 (n0 := 1) (n1 := 1) (n2 := 256) z
    have e0 : z 0 = (0 : Fin 1) := Fin.ext (by have : (z 0).val < 1 := (z 0).isLt; show (z 0).val = 0; omega)
    rw [e0] at ez
    obtain ⟨i, hi⟩ : ∃ i : Fin 1, i = z 1 := ⟨_, rfl⟩
    obtain ⟨j, hj⟩ : ∃ j : Fin 256, j = z 2 := ⟨_, rfl⟩
    rw [← hi, ← hj] at ez
    have hi' := i.isLt
    have hj' := j.isLt
    rw [ez]
    show after 9 t (ix3 (n0 := 1) (n1 := 1) (n2 := 256) 0 i j) = resT (argV m c) (((cfg0.win 9).blk t).view.emb (ix3 (n0 := 1) (n1 := 1) (n2 := 256) 0 i j))
    have e1 : i = (0 : Fin 1) := Fin.ext (by show i.val = 0; omega)
    rw [e1]
    rw [emb_9 t 0 j ⟨min t.val 255 / 32, by omega⟩ 0 j rfl (by rfl) (by omega), g3_ix (n0 := 1) (n1 := 1) (n2 := 256) (after 9 t)]
    exact leaves_batch m c 9 rfl flush_9 (fun b X => ∀ f, f < 256 → rVs X f = SC (amaxV (argV m c b) f))
      (fun t Y X (hX : (valRel m c).vs t Y X) => hX) _ t rfl _ hl j.val hj'
  · have b0 : (y 0).val < 8 := (y 0).isLt
    have b1 : (y 1).val < 1 := (y 1).isLt
    have b2 : (y 2).val < 256 := (y 2).isLt
    have hp : (if (y 0).val = 7 then 256 else 32 * (y 0).val + 31) < 257 := by split <;> omega
    obtain ⟨p, ep⟩ : ∃ p, p = if (y 0).val = 7 then 256 else 32 * (y 0).val + 31 := ⟨_, rfl⟩
    rw [← ep] at hp
    have ep' := ep
    split at ep' <;> rename_i hc
    · refine ⟨⟨p, hp⟩, (flush_9 _).trans (decide_eq_true (by show p = 256 ∨ (p % 32 = 31 ∧ p < 255); omega)), ?_⟩
      have ee := emb_9 ⟨p, hp⟩ (y 1) (y 2) (y 0) (y 1) (y 2) (by show (y 0).val = min p 255 / 32; omega)
        (by show (y 1).val = 0 * 1 + (y 1).val; omega) (by show (y 2).val = 0 * 256 + (y 2).val; omega)
      have ey : ix3 (n0 := 8) (n1 := 1) (n2 := 256) (y 0) (y 1) (y 2) = y := (eq_ix3 (n0 := 8) (n1 := 1) (n2 := 256) y).symm
      exact (ee.trans ey) ▸ View.emb_mem_set _ _
    · refine ⟨⟨p, hp⟩, (flush_9 _).trans (decide_eq_true (by show p = 256 ∨ (p % 32 = 31 ∧ p < 255); omega)), ?_⟩
      have ee := emb_9 ⟨p, hp⟩ (y 1) (y 2) (y 0) (y 1) (y 2) (by show (y 0).val = min p 255 / 32; omega)
        (by show (y 1).val = 0 * 1 + (y 1).val; omega) (by show (y 2).val = 0 * 256 + (y 2).val; omega)
      have ey : ix3 (n0 := 8) (n1 := 1) (n2 := 256) (y 0) (y 1) (y 2) = y := (eq_ix3 (n0 := 8) (n1 := 1) (n2 := 256) y).symm
      exact (ee.trans ey) ▸ View.emb_mem_set _ _

end Blocks

end Cert.KernelIdeal.Att
-- ==== Proof.RefIn.lean ====
/- The reference's operands as its kernel body finds them: the arguments' elements at natural-number indices. -/
module

public import proofs.«01_k».proof.Proof.Arrays
public import proofs.«01_k».proof.Proof.Gen.ReferenceIdeal.Value

@[expose] public section

set_option maxRecDepth 16384

noncomputable section

namespace Cert.ReferenceIdeal.Att

open Cert.ReferenceIdeal Cert.ReferenceIdeal.Gen
open Idealize.ShloMosaic Idealize.ShloMosaic.TcCoe Idealize.SL.Sem
open Cert.KernelIdeal.Att (g3 g3_lt g3_ix)

variable (m : (ℓ : Loc nD τ sig) → Buf (Elt Ideal) ℓ) (c : Dev nD)

/-- The queries: batch, row, feature. -/
def argX : ℕ → ℕ → ℕ → EReal := g3 (n0 := 8) (n1 := 4096) (n2 := 1024) (m ((c.tc : Thread nD τ).loc main_arg0))
/-- The keys. -/
def argK : ℕ → ℕ → ℕ → EReal := g3 (n0 := 8) (n1 := 4096) (n2 := 256) (m ((c.tc : Thread nD τ).loc main_arg1))
/-- The values. -/
def argV : ℕ → ℕ → ℕ → EReal := g3 (n0 := 8) (n1 := 4096) (n2 := 256) (m ((c.tc : Thread nD τ).loc main_arg2))

/-- A cut of two axes of three into four, read at an index. -/
theorem cast35 {n0 n1 n2 a b c' d : ℕ} {α : Type} (x : (⟨3, ![n0, n1, n2]⟩ : Shape).Idx → α) (h : (⟨3, ![n0, n1, n2]⟩ : Shape).ShapeCasts ⟨5, ![n0, a, b, c', d]⟩)
    (h1 : n1 = a * b) (h2 : n2 = c' * d) (i0 : Fin n0) (i1 : Fin a) (i2 : Fin b) (i3 : Fin c') (i4 : Fin d) (p : Fin n1) (q : Fin n2)
    (hp : p.val = b * i1.val + i2.val) (hq : q.val = d * i3.val + i4.val) :
    shapeCast ⟨5, ![n0, a, b, c', d]⟩ x h (ix5 i0 i1 i2 i3 i4) = x (ix3 i0 p q) := by
  refine shapeCast_apply x h _ _ ?_
  rw [Shape.rowMajor_val_three, Shape.rowMajor_val_five]
  show (i0.val * n1 + p.val) * n2 + q.val = (((i0.val * a + i1.val) * b + i2.val) * c' + i3.val) * d + i4.val
  rw [hp, hq, h1, h2]
  ring

theorem V_v2 : @Eq (FVec Ideal S8x16x64x32x128 .f32) (V m c main_v2) <| transpose S8x16x64x32x128 [0, 3, 4, 1, 2] (shapeCast S8x32x128x16x64 (extf (F := Ideal) .f32 (m ((c.tc : Thread nD τ).loc main_arg0) : FVec Ideal S8x4096x1024 .bf16) bitsLt_bf16_f32)
    shapeCasts_S8x4096x1024_S8x32x128x16x64) transposes_S8x32x128x16x64_S8x16x64x32x128_0_3_4_1_2 := by
  unfold V
  after_results_simp
  rfl

theorem in_q (b : Fin 8) (h : Fin 16) (d : Fin 64) (i : Fin 32) (w : Fin 128) :
    V m c main_v2 (ix5 (n0 := 8) (n1 := 16) (n2 := 64) (n3 := 32) (n4 := 128) b h d i w) = argX m c b.val (128 * i.val + w.val) (64 * h.val + d.val) := by
  rw [V_v2]
  refine (transpose_apply _ _ _ _ (ix5 (n0 := 8) (n1 := 32) (n2 := 128) (n3 := 16) (n4 := 64) b i w h d) (fun a => by
    match a with
    | ⟨0, _⟩ => rfl
    | ⟨1, _⟩ => rfl
    | ⟨2, _⟩ => rfl
    | ⟨3, _⟩ => rfl
    | ⟨4, _⟩ => rfl)).trans ?_
  refine (cast35 (n0 := 8) (n1 := 4096) (n2 := 1024) (a := 32) (b := 128) (c' := 16) (d := 64) _ _ rfl rfl b i w h d
    ⟨128 * i.val + w.val, by omega⟩ ⟨64 * h.val + d.val, by omega⟩ rfl rfl).trans ?_
  unfold argX
  rw [g3_lt _ b.isLt (show 128 * i.val + w.val < 4096 by omega) (show 64 * h.val + d.val < 1024 by omega)]
  rfl

theorem V_v5 : @Eq (FVec Ideal S8x4x64x32x128 .f32) (V m c main_v5) <| transpose S8x4x64x32x128 [0, 3, 4, 1, 2] (shapeCast S8x32x128x4x64 (extf (F := Ideal) .f32 (m ((c.tc : Thread nD τ).loc main_arg1) : FVec Ideal S8x4096x256 .bf16) bitsLt_bf16_f32)
    shapeCasts_S8x4096x256_S8x32x128x4x64) transposes_S8x32x128x4x64_S8x4x64x32x128_0_3_4_1_2 := by
  unfold V
  after_results_simp
  rfl

theorem in_k (b : Fin 8) (h : Fin 4) (d : Fin 64) (i : Fin 32) (w : Fin 128) :
    V m c main_v5 (ix5 (n0 := 8) (n1 := 4) (n2 := 64) (n3 := 32) (n4 := 128) b h d i w) = argK m c b.val (128 * i.val + w.val) (64 * h.val + d.val) := by
  rw [V_v5]
  refine (transpose_apply _ _ _ _ (ix5 (n0 := 8) (n1 := 32) (n2 := 128) (n3 := 4) (n4 := 64) b i w h d) (fun a => by
    match a with
    | ⟨0, _⟩ => rfl
    | ⟨1, _⟩ => rfl
    | ⟨2, _⟩ => rfl
    | ⟨3, _⟩ => rfl
    | ⟨4, _⟩ => rfl)).trans ?_
  refine (cast35 (n0 := 8) (n1 := 4096) (n2 := 256) (a := 32) (b := 128) (c' := 4) (d := 64) _ _ rfl rfl b i w h d
    ⟨128 * i.val + w.val, by omega⟩ ⟨64 * h.val + d.val, by omega⟩ rfl rfl).trans ?_
  unfold argK
  rw [g3_lt _ b.isLt (show 128 * i.val + w.val < 4096 by omega) (show 64 * h.val + d.val < 256 by omega)]
  rfl

theorem V_v8 : @Eq (FVec Ideal S8x4x64x4096 .f32) (V m c main_v8) <| transpose S8x4x64x4096 [0, 2, 3, 1] (shapeCast S8x4096x4x64 (extf (F := Ideal) .f32 (m ((c.tc : Thread nD τ).loc main_arg2) : FVec Ideal S8x4096x256 .bf16) bitsLt_bf16_f32)
    shapeCasts_S8x4096x256_S8x4096x4x64) transposes_S8x4096x4x64_S8x4x64x4096_0_2_3_1 := by
  unfold V
  after_results_simp
  rfl

theorem in_v (b : Fin 8) (h : Fin 4) (d : Fin 64) (n : Fin 4096) :
    V m c main_v8 (ix4 (n0 := 8) (n1 := 4) (n2 := 64) (n3 := 4096) b h d n) = argV m c b.val n.val (64 * h.val + d.val) := by
  rw [V_v8]
  refine (transpose_apply _ _ _ _ (ix4 (n0 := 8) (n1 := 4096) (n2 := 4) (n3 := 64) b n h d) (fun a => by
    match a with
    | ⟨0, _⟩ => rfl
    | ⟨1, _⟩ => rfl
    | ⟨2, _⟩ => rfl
    | ⟨3, _⟩ => rfl)).trans ?_
  refine (shapeCast_apply _ _ _ (ix3 (n0 := 8) (n1 := 4096) (n2 := 256) b n ⟨64 * h.val + d.val, by omega⟩) ?_).trans ?_
  · rw [Shape.rowMajor_val_three, Shape.rowMajor_val_four]
    show (b.val * 4096 + n.val) * 256 + (64 * h.val + d.val) = ((b.val * 4096 + n.val) * 4 + h.val) * 64 + d.val
    omega
  unfold argV
  rw [g3_lt _ b.isLt n.isLt (show 64 * h.val + d.val < 256 by omega)]
  rfl

end Cert.ReferenceIdeal.Att
-- ==== Proof.Softmax.lean ====
/- The softmax. The reference exponentiates to base e the distance to the row's maximum, and multiplies by 256
   afterwards; the kernel has the factor 1 / log 2 in its scales and exponentiates to base 2 the distance to the
   maximum of the scaled scores, shifted by 8. Over the extended reals the two outputs are one function. -/
module

public import proofs.«01_k».proof.Proof.Scale

@[expose] public section

noncomputable section

namespace Cert.KernelIdeal.Att

open Idealize.ShloMosaic

/-- The score scale, one eighth. -/
abbrev c0125 : EReal := Ideal.ofBits FTy.f32 0x3E000000#32
/-- The scale of the probabilities. -/
abbrev c256 : EReal := Ideal.ofBits FTy.f32 0x43800000#32
/-- Its inverse. -/
abbrev i256 : EReal := Ideal.ofBits FTy.f32 0x3B800000#32

/-- The reference's product of codes. -/
def rfS (x k : ℕ → ℕ → EReal) (g l q n : ℕ) : EReal :=
  ∑ d ∈ Finset.range 64, codeB x q (64 * (4 * g + l) + d) * codeB k n (64 * g + d)

/-- The reference's score. -/
def rfZ (x k : ℕ → ℕ → EReal) (g l q n : ℕ) : EReal :=
  rfS x k g l q n * (SC (amaxB x (q / 128) (4 * g + l)) * c0125) * SC (amaxB k (n / 128) g)

/-- The reference's row maximum. -/
def rfM (x k : ℕ → ℕ → EReal) (g l q : ℕ) : EReal := (Finset.range 4096).sup fun n => rfZ x k g l q n

/-- The reference's unnormalised probability. -/
def rfP (x k : ℕ → ℕ → EReal) (g l q n : ℕ) : EReal := Ideal.exp (rfZ x k g l q n - rfM x k g l q)

/-- The reference's output. -/
def rfO (x k v : ℕ → ℕ → EReal) (g l q d : ℕ) : EReal :=
  Ideal.div ((∑ n ∈ Finset.range 4096, clip (rfP x k g l q n * c256) * codeV v n (64 * g + d)) * (SC (amaxV v (64 * g + d)) * i256))
    (∑ n ∈ Finset.range 4096, rfP x k g l q n)

/-! ## The constants -/

theorem c0125_eq : c0125 = ((8⁻¹ : ℝ) : EReal) := by
  simp [c0125, Ideal.ofBits, Ideal.ieee]
  rw [← EReal.coe_mul]
  norm_num

theorem c256_eq : c256 = ((256 : ℝ) : EReal) := by
  simp [c256, Ideal.ofBits, Ideal.ieee]
  rw [← EReal.coe_mul]
  norm_num

theorem i256_eq : i256 = ((256⁻¹ : ℝ) : EReal) := by
  simp [i256, Ideal.ofBits, Ideal.ieee]
  rw [← EReal.coe_mul]
  norm_num

theorem c8_val : c8 = ((8 : ℝ) : EReal) := by
  simp [c8, Ideal.ofBits, Ideal.ieee]
  rw [← EReal.coe_mul]
  norm_num

/-- The reciprocal of the natural logarithm of two. -/
abbrev rl : ℝ := (Real.log 2)⁻¹

theorem rl_pos : 0 < rl := inv_pos.mpr log2_pos

theorem fac_ref : fac = c0125 * ((rl : ℝ) : EReal) := by
  have e : fac = (((8 * Real.log 2)⁻¹ : ℝ) : EReal) := rfl
  rw [e, c0125_eq, ← EReal.coe_mul, mul_inv]

/-! ## The scores -/

/-- The kernel's scaled score is the reference's score over log 2. -/
theorem score_ref (x k : ℕ → ℕ → EReal) (g l q n : ℕ) :
    scS x k g l q n * scC x k g l (q / 128) (n / 128) = rfZ x k g l q n * ((rl : ℝ) : EReal) := by
  have e : scS x k g l q n = rfS x k g l q n := Finset.sum_congr rfl fun d _ => mul_comm _ _
  unfold scC rfZ
  rw [e, fac_ref]
  simp only [mul_assoc, mul_comm, mul_left_comm]

theorem max_ref (x k : ℕ → ℕ → EReal) (g l q : ℕ) : scM x k g l q = rfM x k g l q * ((rl : ℝ) : EReal) := by
  unfold scM rfM
  rw [sup_mul_pos _ _ (EReal.coe_pos.mpr rl_pos)]
  exact congrArg _ (funext fun n => score_ref x k g l q n)

/-- The exponentials, at all extended reals. -/
theorem exp_shift (a b : EReal) : Ideal.exp2 (a * ((rl : ℝ) : EReal) - (b * ((rl : ℝ) : EReal) - c8)) = Ideal.exp (a - b) * c256 := by
  have hl := rl_pos
  have e2b : Ideal.exp2 ⊥ = 0 := rfl
  have eb : Ideal.exp ⊥ = 0 := rfl
  have e2t : Ideal.exp2 ⊤ = ⊤ := rfl
  have et : Ideal.exp ⊤ = ⊤ := rfl
  rw [c8_val, c256_eq]
  induction a with
  | bot => rw [EReal.bot_mul_coe_of_pos hl, EReal.bot_sub, EReal.bot_sub, e2b, eb, zero_mul]
  | top =>
    rw [EReal.top_mul_coe_of_pos hl]
    induction b with
    | bot => rw [EReal.bot_mul_coe_of_pos hl, EReal.bot_sub, EReal.top_sub_bot, e2t, et, EReal.top_mul_coe_of_pos (by norm_num)]
    | top => rw [EReal.top_mul_coe_of_pos hl, EReal.top_sub_coe, sub_eq_add_neg, EReal.neg_top, EReal.add_bot, e2b, eb, zero_mul]
    | coe b => rw [← EReal.coe_mul, ← EReal.coe_sub, EReal.top_sub_coe, EReal.top_sub_coe, e2t, et, EReal.top_mul_coe_of_pos (by norm_num)]
  | coe a =>
    rw [← EReal.coe_mul]
    induction b with
    | bot => rw [EReal.bot_mul_coe_of_pos hl, EReal.bot_sub, EReal.coe_sub_bot, EReal.coe_sub_bot, e2t, et, EReal.top_mul_coe_of_pos (by norm_num)]
    | top => rw [EReal.top_mul_coe_of_pos hl, EReal.top_sub_coe, sub_eq_add_neg, sub_eq_add_neg, EReal.neg_top, EReal.add_bot, EReal.add_bot, e2b, eb, zero_mul]
    | coe b =>
      rw [← EReal.coe_mul, ← EReal.coe_sub, ← EReal.coe_sub, ← EReal.coe_sub]
      show (((2 : ℝ) ^ (a * rl - (b * rl - 8)) : ℝ) : EReal) = ((Real.exp (a - b) : ℝ) : EReal) * _
      rw [← EReal.coe_mul]
      congr 1
      rw [show a * rl - (b * rl - 8) = (a - b) * rl + 8 by ring, Real.rpow_add (by norm_num), Real.rpow_def_of_pos (by norm_num)]
      rw [show Real.log 2 * ((a - b) * rl) = a - b by rw [mul_comm, mul_assoc, inv_mul_cancel₀ log2_pos.ne', mul_one]]
      norm_num

theorem prob_ref (x k : ℕ → ℕ → EReal) (g l q n : ℕ) : scP x k g l q n = rfP x k g l q n * c256 := by
  unfold scP rfP
  rw [score_ref, max_ref, exp_shift]

/-! ## The quotient -/

theorem mul_pos_iff_real (y : EReal) (r : ℝ) (hr : 0 < r) : 0 < y * (r : EReal) ↔ 0 < y := by
  induction y with
  | bot => rw [EReal.bot_mul_coe_of_pos hr]
  | top => rw [EReal.top_mul_coe_of_pos hr]
  | coe y =>
    rw [← EReal.coe_mul, EReal.coe_pos, EReal.coe_pos]
    exact mul_pos_iff_of_pos_right hr

/-- A common factor 256 of the denominator goes into the numerator. -/
theorem div_scale (A S D : EReal) : Ideal.div (A * S) (D * c256) = Ideal.div (A * (S * i256)) D := by
  rw [c256_eq, i256_eq, ← mul_assoc]
  have h0 : D * ((256 : ℝ) : EReal) = 0 ↔ D = 0 := by
    rw [mul_eq_zero, or_iff_left]
    exact_mod_cast (by norm_num : (256 : ℝ) ≠ 0)
  unfold Ideal.div
  by_cases h : D = 0
  · rw [if_pos (h0.2 h), if_pos h]
    simp only [mul_pos_iff_real (A * S) 256⁻¹ (by norm_num)]
  · rw [if_neg (mt h0.1 h), if_neg h, EReal.mul_inv, ← EReal.coe_inv, mul_comm D⁻¹, ← mul_assoc]

theorem sum_mul_real (s : Finset ℕ) (f : ℕ → EReal) (r : ℝ) (hr : 0 < r) : ∑ n ∈ s, f n * (r : EReal) = (∑ n ∈ s, f n) * (r : EReal) := by
  induction s using Finset.induction_on with
  | empty => simp
  | insert a s ha ih =>
    rw [Finset.sum_insert ha, Finset.sum_insert ha, ih]
    exact (EReal.right_distrib_of_nonneg_of_ne_top (EReal.coe_nonneg.mpr hr.le) (EReal.coe_ne_top r) _ _).symm

/-- The kernel's output is the reference's. -/
theorem out_ref (x k v : ℕ → ℕ → EReal) (g l q d : ℕ) : scO x k v g l q d = rfO x k v g l q d := by
  unfold scO rfO
  simp only [prob_ref]
  rw [← div_scale, c256_eq, sum_mul_real _ _ _ (by norm_num)]
  simp only [mul_comm (codeV _ _ _)]

end Cert.KernelIdeal.Att
-- ==== Proof.RefQuant.lean ====
/- The reference's quantised arrays at an index: the scales and the codes of queries, keys and values. -/
module

public import proofs.«01_k».proof.Proof.RefIn
public import proofs.«01_k».proof.Proof.Softmax

@[expose] public section

set_option maxRecDepth 16384

noncomputable section

namespace Cert.ReferenceIdeal.Att

open Cert.ReferenceIdeal Cert.ReferenceIdeal.Gen
open Idealize.ShloMosaic Idealize.ShloMosaic.TcCoe Idealize.SL.Sem
open Cert.KernelIdeal.Att (absA amaxB amaxV SC IV rE codeB codeV clip SC_eq IV_eq amaxB_nonneg amaxV_nonneg fold_max_fin ofBits_ninf)

/-! ## Re-indexings -/

/-- A block's value repeated over the features and the rows of the block. -/
theorem spread5 {n0 n1 n2 n3 n4 : ℕ} {α : Type} (x : (⟨3, ![n0, n1, n3]⟩ : Shape).Idx → α)
    (h : (⟨3, ![n0, n1, n3]⟩ : Shape).ShapeCasts ⟨5, ![n0, n1, 1, n3, 1]⟩) (h' : (⟨5, ![n0, n1, 1, n3, 1]⟩ : Shape).Broadcasts ⟨5, ![n0, n1, n2, n3, n4]⟩)
    (i0 : Fin n0) (i1 : Fin n1) (i2 : Fin n2) (i3 : Fin n3) (i4 : Fin n4) :
    broadcastTo ⟨5, ![n0, n1, n2, n3, n4]⟩ (shapeCast ⟨5, ![n0, n1, 1, n3, 1]⟩ x h) h' (ix5 i0 i1 i2 i3 i4) = x (ix3 i0 i1 i3) := by
  refine (broadcastTo_apply _ _ _ (ix5 i0 i1 (0 : Fin 1) i3 (0 : Fin 1)) fun a => ?_).trans ?_
  · match a with
    | ⟨0, _⟩ => show i0.val = if n0 = 1 then 0 else i0.val; split <;> omega
    | ⟨1, _⟩ => show i1.val = if n1 = 1 then 0 else i1.val; split <;> omega
    | ⟨2, _⟩ => rfl
    | ⟨3, _⟩ => show i3.val = if n3 = 1 then 0 else i3.val; split <;> omega
    | ⟨4, _⟩ => rfl
  · refine shapeCast_apply _ _ _ _ ?_
    rw [Shape.rowMajor_val_three, Shape.rowMajor_val_five]
    show (i0.val * n1 + i1.val) * n3 + i3.val = (((i0.val * n1 + i1.val) * 1 + 0) * n3 + i3.val) * 1 + 0
    ring

/-- Two pairs of axes joined. -/
theorem join53 {n0 n1 n2 a b c d : ℕ} {α : Type} (x : (⟨5, ![n0, a, b, c, d]⟩ : Shape).Idx → α) (h : (⟨5, ![n0, a, b, c, d]⟩ : Shape).ShapeCasts ⟨3, ![n0, n1, n2]⟩)
    (h1 : n1 = a * b) (h2 : n2 = c * d) (i0 : Fin n0) (i1 : Fin a) (i2 : Fin b) (i3 : Fin c) (i4 : Fin d) (p : Fin n1) (q : Fin n2)
    (hp : p.val = b * i1.val + i2.val) (hq : q.val = d * i3.val + i4.val) :
    shapeCast ⟨3, ![n0, n1, n2]⟩ x h (ix3 i0 p q) = x (ix5 i0 i1 i2 i3 i4) := by
  refine shapeCast_apply x h _ _ ?_
  rw [Shape.rowMajor_val_three, Shape.rowMajor_val_five]
  show (((i0.val * a + i1.val) * b + i2.val) * c + i3.val) * d + i4.val = (i0.val * n1 + p.val) * n2 + q.val
  rw [hp, hq, h1, h2]
  ring

/-- The exponents of the scales, from the largest magnitudes. -/
def expo (s : Shape) (a : FVec Ideal s .f32) : FVec Ideal s .f32 :=
  select (cmpf .oeq a (broadcast s (Scalar.ofBits .f32 0x00000000#32))) (broadcast s (Scalar.ofBits .f32 0x00000000#32))
    (addf (floor (divf (log (mulf a (broadcast s (Scalar.ofBits .f32 0x3B124925#32)))) (broadcast s (Scalar.log (Scalar.ofBits .f32 0x40000000#32)))))
      (broadcast s (Scalar.ofBits .f32 0x3F800000#32)))

theorem expo_at {s : Shape} (a : FVec Ideal s .f32) (j : s.Idx) : expo s a j = rE (a j) := rfl

/-- The inverse scales. -/
def invs (s : Shape) (e : FVec Ideal s .f32) : FVec Ideal s .f32 := exp2 (subf (broadcast s (Scalar.ofBits .f32 0x00000000#32)) e)

theorem invs_at {s : Shape} (e : FVec Ideal s .f32) (j : s.Idx) : invs s e j = Ideal.exp2 (Ideal.ofBits FTy.f32 0x00000000#32 - e j) := rfl

/-- The codes of a tensor, given the inverse scales at its shape. -/
def codes (s : Shape) (x z : FVec Ideal s .f32) : FVec Ideal s .fp8e4m3 :=
  truncf .fp8e4m3 (minimumf (broadcast s (Scalar.ofBits .f32 0x43E00000#32)) (maximumf (broadcast s (Scalar.ofBits .f32 0xC3E00000#32)) (mulf x z))) bitsLt_fp8e4m3_f32

theorem codes_at {s : Shape} (x z : FVec Ideal s .f32) (j : s.Idx) : codes s x z j = clip (x j * z j) := rfl

theorem exp2_at {s : Shape} (e : FVec Ideal s .f32) (j : s.Idx) : exp2 e j = Ideal.exp2 (e j) := rfl

/-! ## Queries -/

section Q
variable (P : Vec Ideal S8x16x64x32x128 .f32) (X : ℕ → ℕ → ℕ → EReal)
  (hP : ∀ (b : Fin 8) (h : Fin 16) (d : Fin 64) (i : Fin 32) (w : Fin 128),
    P (ix5 (n0 := 8) (n1 := 16) (n2 := 64) (n3 := 32) (n4 := 128) b h d i w) = X b.val (128 * i.val + w.val) (64 * h.val + d.val))
include hP

theorem pay2_eq : k0_pay2 P = P := shapeCast_self _ _

/-- The largest magnitudes of the blocks. -/
def amaxQ (P : Vec Ideal S8x16x64x32x128 .f32) : FVec Ideal S8x16x32 .f32 :=
  multiReduction .maximumf [2] S8x16x32 (multiReduction .maximumf [4] S8x16x64x32 (absf P) 0xFF800000#32 reduces_S8x16x64x32x128_S8x16x64x32 (.inl rfl) rfl)
    0xFF800000#32 reduces_S8x16x64x32_S8x16x32 (.inl rfl) rfl

theorem amaxQ_at (b : Fin 8) (h : Fin 16) (i : Fin 32) : amaxQ P (ix3 (n0 := 8) (n1 := 16) (n2 := 32) b h i) = amaxB (X b.val) i.val h.val := by
  unfold amaxB
  rw [← fold_max_fin]
  simp only [← fold_max_fin]
  pointwise [amaxQ]
  rw [show Ideal.ofBits FTy.f32 4286578688#32 = ⊥ from ofBits_ninf]
  refine Finset.fold_congr fun d _ => Finset.fold_congr fun w _ => ?_
  rw [hP]
  rfl

theorem pay3_at (b : Fin 8) (h : Fin 16) (i : Fin 32) : k0_pay3 P (ix3 (n0 := 8) (n1 := 16) (n2 := 32) b h i) = rE (amaxB (X b.val) i.val h.val) := by
  have e : k0_pay3 P = expo _ (amaxQ P) := by
    unfold k0_pay3 expo amaxQ
    rw [pay2_eq P X hP]
  rw [e, expo_at, amaxQ_at P X hP]

theorem pay4_at (b : Fin 8) (h : Fin 16) (i : Fin 32) : k0_pay4 P (ix3 (n0 := 8) (n1 := 16) (n2 := 32) b h i) = SC (amaxB (X b.val) i.val h.val) := by
  rw [SC_eq _ (amaxB_nonneg _ _ _), ← pay3_at P X hP]
  unfold k0_pay4
  exact exp2_at _ _

theorem pay5_at (b : Fin 8) (h : Fin 16) (d : Fin 64) (i : Fin 32) (w : Fin 128) :
    k0_pay5 P (ix5 (n0 := 8) (n1 := 16) (n2 := 64) (n3 := 32) (n4 := 128) b h d i w)
      = clip (X b.val (128 * i.val + w.val) (64 * h.val + d.val) * IV (amaxB (X b.val) i.val h.val)) := by
  rw [IV_eq _ (amaxB_nonneg _ _ _), ← pay3_at P X hP, ← hP]
  have e : k0_pay5 P = codes _ P (broadcastTo S8x16x64x32x128 (shapeCast S8x16x1x32x1 (invs _ (k0_pay3 P)) shapeCasts_S8x16x32_S8x16x1x32x1)
      broadcasts_S8x16x1x32x1_S8x16x64x32x128) := by
    unfold k0_pay5 codes invs
    rw [pay2_eq P X hP]
  rw [e, codes_at, spread5 (n0 := 8) (n1 := 16) (n2 := 64) (n3 := 32) (n4 := 128) (invs _ (k0_pay3 P)), invs_at]

theorem pay5_code (b : Fin 8) (h : Fin 16) (d : Fin 64) (i : Fin 32) (w : Fin 128) :
    k0_pay5 P (ix5 (n0 := 8) (n1 := 16) (n2 := 64) (n3 := 32) (n4 := 128) b h d i w) = codeB (X b.val) (128 * i.val + w.val) (64 * h.val + d.val) := by
  rw [pay5_at P X hP]
  unfold codeB
  rw [show (128 * i.val + w.val) / 128 = i.val by omega, show (64 * h.val + d.val) / 64 = h.val by omega]

theorem pay18_at (b : Fin 8) (f : Fin 1024) (n : Fin 4096) :
    k0_pay18 (k0_pay5 P) (ix3 (n0 := 8) (n1 := 1024) (n2 := 4096) b f n) = codeB (X b.val) n.val f.val := by
  unfold k0_pay18
  refine (join53 (n0 := 8) (n1 := 1024) (n2 := 4096) (a := 16) (b := 64) (c := 32) (d := 128) _ _ rfl rfl b ⟨f.val / 64, by omega⟩ ⟨f.val % 64, by omega⟩ ⟨n.val / 128, by omega⟩ ⟨n.val % 128, by omega⟩ f n
    (Nat.div_add_mod _ _).symm (Nat.div_add_mod _ _).symm).trans ?_
  rw [pay5_code P X hP]
  simp only [Nat.div_add_mod]

end Q

/-! ## Keys -/

section K
variable (P : Vec Ideal S8x4x64x32x128 .f32) (X : ℕ → ℕ → ℕ → EReal)
  (hP : ∀ (b : Fin 8) (h : Fin 4) (d : Fin 64) (i : Fin 32) (w : Fin 128),
    P (ix5 (n0 := 8) (n1 := 4) (n2 := 64) (n3 := 32) (n4 := 128) b h d i w) = X b.val (128 * i.val + w.val) (64 * h.val + d.val))
include hP

theorem pay6_eq : k0_pay6 P = P := shapeCast_self _ _

theorem pay7_at (b : Fin 8) (h : Fin 4) (i : Fin 32) : k0_pay7 P (ix3 (n0 := 8) (n1 := 4) (n2 := 32) b h i) = amaxB (X b.val) i.val h.val := by
  unfold amaxB
  rw [← fold_max_fin]
  simp only [← fold_max_fin]
  unfold k0_pay7
  rw [pay6_eq P X hP]
  pointwise
  rw [show Ideal.ofBits FTy.f32 4286578688#32 = ⊥ from ofBits_ninf]
  refine Finset.fold_congr fun d _ => Finset.fold_congr fun w _ => ?_
  rw [hP]
  rfl

theorem pay9_at (b : Fin 8) (h : Fin 4) (i : Fin 32) :
    k0_pay9 (k0_pay7 P) (k0_pay8 P) (ix3 (n0 := 8) (n1 := 4) (n2 := 32) b h i) = rE (amaxB (X b.val) i.val h.val) := by
  have e : k0_pay9 (k0_pay7 P) (k0_pay8 P) = expo _ (k0_pay7 P) := by
    unfold k0_pay9 k0_pay8 expo
    rfl
  rw [e, expo_at, pay7_at P X hP]

theorem pay10_at (b : Fin 8) (h : Fin 4) (i : Fin 32) :
    k0_pay10 (k0_pay7 P) (k0_pay8 P) (ix3 (n0 := 8) (n1 := 4) (n2 := 32) b h i) = SC (amaxB (X b.val) i.val h.val) := by
  rw [SC_eq _ (amaxB_nonneg _ _ _), ← pay9_at P X hP]
  unfold k0_pay10
  exact exp2_at _ _

theorem pay11_code (b : Fin 8) (h : Fin 4) (d : Fin 64) (i : Fin 32) (w : Fin 128) :
    k0_pay11 (k0_pay6 P) (k0_pay7 P) (k0_pay8 P) (ix5 (n0 := 8) (n1 := 4) (n2 := 64) (n3 := 32) (n4 := 128) b h d i w)
      = codeB (X b.val) (128 * i.val + w.val) (64 * h.val + d.val) := by
  unfold codeB
  rw [show (128 * i.val + w.val) / 128 = i.val by omega, show (64 * h.val + d.val) / 64 = h.val by omega]
  rw [IV_eq _ (amaxB_nonneg _ _ _), ← pay9_at P X hP, ← hP]
  rw [pay6_eq P X hP]
  have e : k0_pay11 P (k0_pay7 P) (k0_pay8 P) = codes _ P (broadcastTo S8x4x64x32x128 (shapeCast S8x4x1x32x1 (invs _ (k0_pay9 (k0_pay7 P) (k0_pay8 P)))
      shapeCasts_S8x4x32_S8x4x1x32x1) broadcasts_S8x4x1x32x1_S8x4x64x32x128) := by
    unfold k0_pay11 codes invs
    rfl
  rw [e, codes_at, spread5 (n0 := 8) (n1 := 4) (n2 := 64) (n3 := 32) (n4 := 128) (invs _ (k0_pay9 (k0_pay7 P) (k0_pay8 P))), invs_at]

theorem pay19_at (b : Fin 8) (f : Fin 256) (n : Fin 4096) :
    k0_pay19 (k0_pay11 (k0_pay6 P) (k0_pay7 P) (k0_pay8 P)) (ix3 (n0 := 8) (n1 := 256) (n2 := 4096) b f n) = codeB (X b.val) n.val f.val := by
  unfold k0_pay19
  refine (join53 (n0 := 8) (n1 := 256) (n2 := 4096) (a := 4) (b := 64) (c := 32) (d := 128) _ _ rfl rfl b ⟨f.val / 64, by omega⟩ ⟨f.val % 64, by omega⟩ ⟨n.val / 128, by omega⟩ ⟨n.val % 128, by omega⟩ f n
    (Nat.div_add_mod _ _).symm (Nat.div_add_mod _ _).symm).trans ?_
  rw [pay11_code P X hP]
  simp only [Nat.div_add_mod]

end K

/-! ## Values -/

section V
variable (P : Vec Ideal S8x4x64x4096 .f32) (X : ℕ → ℕ → ℕ → EReal)
  (hP : ∀ (b : Fin 8) (h : Fin 4) (d : Fin 64) (n : Fin 4096),
    P (ix4 (n0 := 8) (n1 := 4) (n2 := 64) (n3 := 4096) b h d n) = X b.val n.val (64 * h.val + d.val))
include hP

theorem pay12_eq : k0_pay12 P = P := shapeCast_self _ _

/-- The largest magnitudes of the channels. -/
def amaxC (P : Vec Ideal S8x4x64x4096 .f32) : FVec Ideal S8x4x64 .f32 :=
  multiReduction .maximumf [3] S8x4x64 (absf P) 0xFF800000#32 reduces_S8x4x64x4096_S8x4x64 (.inl rfl) rfl

theorem amaxC_at (b : Fin 8) (h : Fin 4) (d : Fin 64) : amaxC P (ix3 (n0 := 8) (n1 := 4) (n2 := 64) b h d) = amaxV (X b.val) (64 * h.val + d.val) := by
  unfold amaxV
  rw [← fold_max_fin]
  pointwise [amaxC]
  rw [show Ideal.ofBits FTy.f32 4286578688#32 = ⊥ from ofBits_ninf]
  refine Finset.fold_congr fun n _ => ?_
  rw [hP]
  rfl

theorem pay13_at (b : Fin 8) (h : Fin 4) (d : Fin 64) : k0_pay13 P (ix3 (n0 := 8) (n1 := 4) (n2 := 64) b h d) = rE (amaxV (X b.val) (64 * h.val + d.val)) := by
  have e : k0_pay13 P = expo _ (amaxC P) := by
    unfold k0_pay13 expo amaxC
    rw [pay12_eq P X hP]
  rw [e, expo_at, amaxC_at P X hP]

theorem pay14_at (b : Fin 8) (h : Fin 4) (d : Fin 64) : k0_pay14 P (ix3 (n0 := 8) (n1 := 4) (n2 := 64) b h d) = SC (amaxV (X b.val) (64 * h.val + d.val)) := by
  rw [SC_eq _ (amaxV_nonneg _ _), ← pay13_at P X hP]
  unfold k0_pay14
  exact exp2_at _ _

theorem pay16_code (b : Fin 8) (h : Fin 4) (d : Fin 64) (n : Fin 4096) :
    k0_pay16 (k0_pay12 P) (k0_pay13 P) (k0_pay15 (F := Ideal)) (ix4 (n0 := 8) (n1 := 4) (n2 := 64) (n3 := 4096) b h d n) = codeV (X b.val) n.val (64 * h.val + d.val) := by
  unfold codeV
  rw [IV_eq _ (amaxV_nonneg _ _), ← pay13_at P X hP, ← hP, pay12_eq P X hP]
  have e : k0_pay16 P (k0_pay13 P) (k0_pay15 (F := Ideal)) = codes _ P (broadcastTo S8x4x64x4096 (shapeCast S8x4x64x1 (invs _ (k0_pay13 P))
      shapeCasts_S8x4x64_S8x4x64x1) broadcasts_S8x4x64x1_S8x4x64x4096) := by
    unfold k0_pay16 k0_pay15 codes invs
    rfl
  rw [e, codes_at, ← invs_at]
  refine congrArg (fun z => clip (P _ * z)) ?_
  refine (broadcastTo_apply _ _ _ (ix4 (n0 := 8) (n1 := 4) (n2 := 64) (n3 := 1) b h d 0) fun a => ?_).trans ?_
  · match a with
    | ⟨0, _⟩ => rfl
    | ⟨1, _⟩ => rfl
    | ⟨2, _⟩ => rfl
    | ⟨3, _⟩ => rfl
  refine (shapeCast_apply _ _ _ (ix3 (n0 := 8) (n1 := 4) (n2 := 64) b h d) ?_).trans ?_
  · rw [Shape.rowMajor_val_three, Shape.rowMajor_val_four]
    show (b.val * 4 + h.val) * 64 + d.val = ((b.val * 4 + h.val) * 64 + d.val) * 1 + 0
    omega
  rfl

theorem pay20_at (b : Fin 8) (f : Fin 256) (n : Fin 4096) :
    k0_pay20 (k0_pay12 P) (k0_pay13 P) (k0_pay15 (F := Ideal)) (ix3 (n0 := 8) (n1 := 256) (n2 := 4096) b f n) = codeV (X b.val) n.val f.val := by
  unfold k0_pay20
  refine (shapeCast_apply _ _ _ (ix4 (n0 := 8) (n1 := 4) (n2 := 64) (n3 := 4096) b ⟨f.val / 64, by omega⟩ ⟨f.val % 64, by omega⟩ n) ?_).trans ?_
  · rw [Shape.rowMajor_val_three, Shape.rowMajor_val_four]
    show ((b.val * 4 + f.val / 64) * 64 + f.val % 64) * 4096 + n.val = (b.val * 256 + f.val) * 4096 + n.val
    omega
  rw [pay16_code P X hP]
  simp only [Nat.div_add_mod]

theorem pay17_at (b : Fin 8) (f : Fin 256) :
    k0_pay17 (k0_pay14 P) (ix3 (n0 := 8) (n1 := 1) (n2 := 256) b 0 f) = SC (amaxV (X b.val) f.val) := by
  unfold k0_pay17
  refine (shapeCast_apply _ _ _ (ix3 (n0 := 8) (n1 := 4) (n2 := 64) b ⟨f.val / 64, by omega⟩ ⟨f.val % 64, by omega⟩) ?_).trans ?_
  · rw [Shape.rowMajor_val_three, Shape.rowMajor_val_three]
    show (b.val * 4 + f.val / 64) * 64 + f.val % 64 = (b.val * 1 + 0) * 256 + f.val
    omega
  rw [pay14_at P X hP]
  simp only [Nat.div_add_mod]

end V

end Cert.ReferenceIdeal.Att
-- ==== Proof.RefVal.lean ====
/- The reference's attention at an index: scores, row maxima, probabilities, output. -/
module

public import proofs.«01_k».proof.Proof.RefQuant

@[expose] public section

set_option maxRecDepth 16384

noncomputable section

namespace Cert.ReferenceIdeal.Att

open Cert.ReferenceIdeal Cert.ReferenceIdeal.Gen
open Idealize.ShloMosaic Idealize.ShloMosaic.TcCoe Idealize.SL.Sem
open Cert.KernelIdeal.Att (absA amaxB amaxV SC IV rE codeB codeV clip fold_max_fin sum_fin ofBits_ninf c0125 c256 i256 rfS rfZ rfM rfP rfO)

/-- Indices of the score array: batch, key head, query head within the group, query, key. -/
abbrev jS (b : Fin 8) (g l : Fin 4) (q n : Fin 4096) : S8x4x4x4096x4096.Idx := ix5 (n0 := 8) (n1 := 4) (n2 := 4) (n3 := 4096) (n4 := 4096) b g l q n
/-- Indices of the rows. -/
abbrev jR (b : Fin 8) (g l : Fin 4) (q : Fin 4096) : S8x4x4x4096.Idx := ix4 (n0 := 8) (n1 := 4) (n2 := 4) (n3 := 4096) b g l q
/-- Indices of the outputs. -/
abbrev jO (b : Fin 8) (g l : Fin 4) (q : Fin 4096) (d : Fin 64) : S8x4x4x4096x64.Idx := ix5 (n0 := 8) (n1 := 4) (n2 := 4) (n3 := 4096) (n4 := 64) b g l q d
/-- The head of a query head within its group. -/
abbrev hd (g l : Fin 4) : Fin 16 := ⟨4 * g.val + l.val, by omega⟩
/-- The block of a row. -/
abbrev bk (n : Fin 4096) : Fin 32 := ⟨n.val / 128, by omega⟩
/-- The place in its block. -/
abbrev pl (n : Fin 4096) : Fin 128 := ⟨n.val % 128, by omega⟩

/-! ## The steps -/

/-- Two products of codes, contracted over the features. -/
theorem scores_at (Q : FVec Ideal S8x4x4x64x4096 .fp8e4m3) (K : FVec Ideal S8x4x64x4096 .fp8e4m3) (b : Fin 8) (g l : Fin 4) (q n : Fin 4096) :
    matmul dot_S8x4x4x64x4096_S8x4x64x4096_S8x4x4x4096x4096_3_2_24_3_01_01 none Q K (constant S8x4x4x4096x4096 .f32 0x00000000#32) (jS b g l q n)
      = ∑ d : Fin 64, Q (ix5 (n0 := 8) (n1 := 4) (n2 := 4) (n3 := 64) (n4 := 4096) b g l d q) * K (ix4 (n0 := 8) (n1 := 4) (n2 := 64) (n3 := 4096) b g d n) := by
  pointwise

/-- The probabilities' codes with the values'. -/
theorem values_at (C : FVec Ideal S8x4x4x4096x4096 .fp8e4m3) (W : FVec Ideal S8x4x64x4096 .fp8e4m3) (b : Fin 8) (g l : Fin 4) (q : Fin 4096) (d : Fin 64) :
    matmul dot_S8x4x4x4096x4096_S8x4x64x4096_S8x4x4x4096x64_4_3_23_2_01_01 none C W (constant S8x4x4x4096x64 .f32 0x00000000#32) (jO b g l q d)
      = ∑ n : Fin 4096, C (jS b g l q n) * W (ix4 (n0 := 8) (n1 := 4) (n2 := 64) (n3 := 4096) b g d n) := by
  pointwise

/-- A row's value repeated along the row. -/
theorem rows_at (y : FVec Ideal S8x4x4x4096 .f32) (b : Fin 8) (g l : Fin 4) (q n : Fin 4096) :
    broadcastTo S8x4x4x4096x4096 (shapeCast S8x4x4x4096x1 y shapeCasts_S8x4x4x4096_S8x4x4x4096x1) broadcasts_S8x4x4x4096x1_S8x4x4x4096x4096 (jS b g l q n)
      = y (jR b g l q) := by
  refine (broadcastTo_apply _ _ _ (ix5 (n0 := 8) (n1 := 4) (n2 := 4) (n3 := 4096) (n4 := 1) b g l q 0) fun a => ?_).trans ?_
  · match a with
    | ⟨0, _⟩ => rfl
    | ⟨1, _⟩ => rfl
    | ⟨2, _⟩ => rfl
    | ⟨3, _⟩ => rfl
    | ⟨4, _⟩ => rfl
  refine shapeCast_apply _ _ _ _ ?_
  rw [Shape.rowMajor_val_four, Shape.rowMajor_val_five]
  show ((b.val * 4 + g.val) * 4 + l.val) * 4096 + q.val = (((b.val * 4 + g.val) * 4 + l.val) * 4096 + q.val) * 1 + 0
  omega

/-- The same, along the features of an output. -/
theorem rowsO_at (y : FVec Ideal S8x4x4x4096 .f32) (b : Fin 8) (g l : Fin 4) (q : Fin 4096) (d : Fin 64) :
    broadcastTo S8x4x4x4096x64 (shapeCast S8x4x4x4096x1 y shapeCasts_S8x4x4x4096_S8x4x4x4096x1) broadcasts_S8x4x4x4096x1_S8x4x4x4096x64 (jO b g l q d)
      = y (jR b g l q) := by
  refine (broadcastTo_apply _ _ _ (ix5 (n0 := 8) (n1 := 4) (n2 := 4) (n3 := 4096) (n4 := 1) b g l q 0) fun a => ?_).trans ?_
  · match a with
    | ⟨0, _⟩ => rfl
    | ⟨1, _⟩ => rfl
    | ⟨2, _⟩ => rfl
    | ⟨3, _⟩ => rfl
    | ⟨4, _⟩ => rfl
  refine shapeCast_apply _ _ _ _ ?_
  rw [Shape.rowMajor_val_four, Shape.rowMajor_val_five]
  show ((b.val * 4 + g.val) * 4 + l.val) * 4096 + q.val = (((b.val * 4 + g.val) * 4 + l.val) * 4096 + q.val) * 1 + 0
  omega

/-- A key's value repeated over the queries. -/
theorem cols_at (y : FVec Ideal S8x4x4096 .f32) (b : Fin 8) (g l : Fin 4) (q n : Fin 4096) :
    broadcastTo S8x4x4x4096x4096 (shapeCast S8x4x1x1x4096 y shapeCasts_S8x4x4096_S8x4x1x1x4096) broadcasts_S8x4x1x1x4096_S8x4x4x4096x4096 (jS b g l q n)
      = y (ix3 (n0 := 8) (n1 := 4) (n2 := 4096) b g n) := by
  refine (broadcastTo_apply _ _ _ (ix5 (n0 := 8) (n1 := 4) (n2 := 1) (n3 := 1) (n4 := 4096) b g 0 0 n) fun a => ?_).trans ?_
  · match a with
    | ⟨0, _⟩ => rfl
    | ⟨1, _⟩ => rfl
    | ⟨2, _⟩ => rfl
    | ⟨3, _⟩ => rfl
    | ⟨4, _⟩ => rfl
  refine shapeCast_apply _ _ _ _ ?_
  rw [Shape.rowMajor_val_three, Shape.rowMajor_val_five]
  show (b.val * 4 + g.val) * 4096 + n.val = (((b.val * 4 + g.val) * 1 + 0) * 1 + 0) * 4096 + n.val
  omega

/-- A channel's value repeated over the queries. -/
theorem chans_at (y : FVec Ideal S8x4x1x1x64 .f32) (b : Fin 8) (g l : Fin 4) (q : Fin 4096) (d : Fin 64) :
    broadcastTo S8x4x4x4096x64 y broadcasts_S8x4x1x1x64_S8x4x4x4096x64 (jO b g l q d) = y (ix5 (n0 := 8) (n1 := 4) (n2 := 1) (n3 := 1) (n4 := 64) b g 0 0 d) := by
  refine broadcastTo_apply _ _ _ _ fun a => ?_
  match a with
  | ⟨0, _⟩ => rfl
  | ⟨1, _⟩ => rfl
  | ⟨2, _⟩ => rfl
  | ⟨3, _⟩ => rfl
  | ⟨4, _⟩ => rfl

theorem chanCast_at (y : FVec Ideal S8x4x64 .f32) (b : Fin 8) (g : Fin 4) (d : Fin 64) :
    shapeCast S8x4x1x1x64 y shapeCasts_S8x4x64_S8x4x1x1x64 (ix5 (n0 := 8) (n1 := 4) (n2 := 1) (n3 := 1) (n4 := 64) b g 0 0 d)
      = y (ix3 (n0 := 8) (n1 := 4) (n2 := 64) b g d) := by
  refine shapeCast_apply _ _ _ _ ?_
  rw [Shape.rowMajor_val_three, Shape.rowMajor_val_five]
  show (b.val * 4 + g.val) * 64 + d.val = (((b.val * 4 + g.val) * 1 + 0) * 1 + 0) * 64 + d.val
  omega

/-- The largest element of every row. -/
def rowMax (z : FVec Ideal S8x4x4x4096x4096 .f32) : FVec Ideal S8x4x4x4096 .f32 :=
  multiReduction .maximumf [4] S8x4x4x4096 z 0xFF800000#32 reduces_S8x4x4x4096x4096_S8x4x4x4096 (.inl rfl) rfl

theorem rowMax_at (z : FVec Ideal S8x4x4x4096x4096 .f32) (f : ℕ → EReal) (b : Fin 8) (g l : Fin 4) (q : Fin 4096) (h : ∀ n : Fin 4096, z (jS b g l q n) = f n.val) :
    rowMax z (jR b g l q) = (Finset.range 4096).sup f := by
  rw [← fold_max_fin]
  pointwise [rowMax]
  rw [show Ideal.ofBits FTy.f32 4286578688#32 = ⊥ from ofBits_ninf]
  exact Finset.fold_congr fun n _ => h n

/-- The sum of every row. -/
def rowSum (z : FVec Ideal S8x4x4x4096x4096 .f32) : FVec Ideal S8x4x4x4096 .f32 :=
  multiReduction .add [4] S8x4x4x4096 z 0x00000000#32 reduces_S8x4x4x4096x4096_S8x4x4x4096 (.inl rfl) rfl

theorem rowSum_at (z : FVec Ideal S8x4x4x4096x4096 .f32) (f : ℕ → EReal) (b : Fin 8) (g l : Fin 4) (q : Fin 4096) (h : ∀ n : Fin 4096, z (jS b g l q n) = f n.val) :
    rowSum z (jR b g l q) = ∑ n ∈ Finset.range 4096, f n := by
  rw [← sum_fin]
  pointwise [rowSum]
  exact Finset.sum_congr rfl fun n _ => h n

theorem mulf_at {s : Shape} (x y : FVec Ideal s .f32) (j : s.Idx) : mulf x y j = x j * y j := rfl

/-- The scaled scores. -/
def scaled (s : FVec Ideal S8x4x4x4096x4096 .f32) (r : FVec Ideal S8x4x4x4096 .f32) (k : FVec Ideal S8x4x32x128 .f32) : FVec Ideal S8x4x4x4096x4096 .f32 :=
  mulf (mulf s (broadcastTo S8x4x4x4096x4096 (shapeCast S8x4x4x4096x1 r shapeCasts_S8x4x4x4096_S8x4x4x4096x1) broadcasts_S8x4x4x4096x1_S8x4x4x4096x4096))
    (broadcastTo S8x4x4x4096x4096 (shapeCast S8x4x1x1x4096 (shapeCast S8x4x4096 k shapeCasts_S8x4x32x128_S8x4x4096) shapeCasts_S8x4x4096_S8x4x1x1x4096) broadcasts_S8x4x1x1x4096_S8x4x4x4096x4096)

theorem scaled_at (s : FVec Ideal S8x4x4x4096x4096 .f32) (r : FVec Ideal S8x4x4x4096 .f32) (k : FVec Ideal S8x4x32x128 .f32) (b : Fin 8) (g l : Fin 4) (q n : Fin 4096) :
    scaled s r k (jS b g l q n) = s (jS b g l q n) * r (jR b g l q) * k (ix4 (n0 := 8) (n1 := 4) (n2 := 32) (n3 := 128) b g (bk n) (pl n)) := by
  have e : shapeCast S8x4x4096 k shapeCasts_S8x4x32x128_S8x4x4096 (ix3 (n0 := 8) (n1 := 4) (n2 := 4096) b g n)
      = k (ix4 (n0 := 8) (n1 := 4) (n2 := 32) (n3 := 128) b g (bk n) (pl n)) := by
    refine shapeCast_apply _ _ _ _ ?_
    rw [Shape.rowMajor_val_three, Shape.rowMajor_val_four]
    show ((b.val * 4 + g.val) * 32 + n.val / 128) * 128 + n.val % 128 = (b.val * 4 + g.val) * 4096 + n.val
    omega
  unfold scaled
  rw [mulf_at, mulf_at, cols_at, rows_at, e]

/-- The unnormalised probabilities. -/
def probs (z : FVec Ideal S8x4x4x4096x4096 .f32) : FVec Ideal S8x4x4x4096x4096 .f32 :=
  exp (subf z (broadcastTo S8x4x4x4096x4096 (shapeCast S8x4x4x4096x1 (rowMax z) shapeCasts_S8x4x4x4096_S8x4x4x4096x1) broadcasts_S8x4x4x4096x1_S8x4x4x4096x4096))

theorem probs_at (z : FVec Ideal S8x4x4x4096x4096 .f32) (b : Fin 8) (g l : Fin 4) (q n : Fin 4096) :
    probs z (jS b g l q n) = Ideal.exp (z (jS b g l q n) - rowMax z (jR b g l q)) := by
  rw [← rows_at (rowMax z) b g l q n]
  rfl

/-- The output before its axes are moved. -/
def outs (vs : FVec Ideal S8x4x64 .f32) (vc : FVec Ideal S8x4x64x4096 .fp8e4m3) (p : FVec Ideal S8x4x4x4096x4096 .f32) : FVec Ideal S8x4x4x4096x64 .f32 :=
  divf (mulf (matmul dot_S8x4x4x4096x4096_S8x4x64x4096_S8x4x4x4096x64_4_3_23_2_01_01 none
      (codes S8x4x4x4096x4096 p (broadcast S8x4x4x4096x4096 (Scalar.ofBits .f32 0x43800000#32))) vc (constant S8x4x4x4096x64 .f32 0x00000000#32))
    (broadcastTo S8x4x4x4096x64 (mulf (shapeCast S8x4x1x1x64 vs shapeCasts_S8x4x64_S8x4x1x1x64) (broadcast S8x4x1x1x64 (Scalar.ofBits .f32 0x3B800000#32)))
      broadcasts_S8x4x1x1x64_S8x4x4x4096x64))
    (broadcastTo S8x4x4x4096x64 (shapeCast S8x4x4x4096x1 (rowSum p) shapeCasts_S8x4x4x4096_S8x4x4x4096x1) broadcasts_S8x4x4x4096x1_S8x4x4x4096x64)

theorem divf_at {s : Shape} (x y : FVec Ideal s .f32) (j : s.Idx) : divf x y j = Ideal.div (x j) (y j) := rfl

theorem outs_at (vs : FVec Ideal S8x4x64 .f32) (vc : FVec Ideal S8x4x64x4096 .fp8e4m3) (p : FVec Ideal S8x4x4x4096x4096 .f32) (b : Fin 8) (g l : Fin 4) (q : Fin 4096) (d : Fin 64) :
    outs vs vc p (jO b g l q d) = Ideal.div ((∑ n : Fin 4096, clip (p (jS b g l q n) * c256) * vc (ix4 (n0 := 8) (n1 := 4) (n2 := 64) (n3 := 4096) b g d n))
      * (vs (ix3 (n0 := 8) (n1 := 4) (n2 := 64) b g d) * i256)) (rowSum p (jR b g l q)) := by
  unfold outs
  rw [divf_at, mulf_at, rowsO_at, chans_at, mulf_at, chanCast_at, values_at]
  rfl

theorem pay1_eq (vs : FVec Ideal S8x4x64 .f32) (vc : FVec Ideal S8x4x64x4096 .fp8e4m3) (s : FVec Ideal S8x4x4x4096x4096 .f32) (r : FVec Ideal S8x4x4x4096 .f32)
    (k : FVec Ideal S8x4x32x128 .f32) :
    k0_pay1 vs vc s r k = truncf .bf16 (shapeCast S8x4096x1024 (transpose S8x4096x4x4x64 [0, 3, 1, 2, 4] (outs vs vc (probs (scaled s r k)))
      transposes_S8x4x4x4096x64_p0_3_1_2_4_S8x4096x4x4x64) shapeCasts_S8x4096x4x4x64_S8x4096x1024) bitsLt_bf16_f32 := by
  unfold k0_pay1 outs probs rowSum rowMax scaled codes
  rfl

theorem pay1_at (vs : FVec Ideal S8x4x64 .f32) (vc : FVec Ideal S8x4x64x4096 .fp8e4m3) (s : FVec Ideal S8x4x4x4096x4096 .f32) (r : FVec Ideal S8x4x4x4096 .f32)
    (k : FVec Ideal S8x4x32x128 .f32) (b : Fin 8) (q : Fin 4096) (f : Fin 1024) (g l : Fin 4) (d : Fin 64) (hf : f.val = 256 * g.val + 64 * l.val + d.val) :
    k0_pay1 vs vc s r k (ix3 (n0 := 8) (n1 := 4096) (n2 := 1024) b q f) = outs vs vc (probs (scaled s r k)) (jO b g l q d) := by
  rw [pay1_eq]
  generalize outs vs vc (probs (scaled s r k)) = o
  show shapeCast S8x4096x1024 (transpose S8x4096x4x4x64 [0, 3, 1, 2, 4] o transposes_S8x4x4x4096x64_p0_3_1_2_4_S8x4096x4x4x64) shapeCasts_S8x4096x4x4x64_S8x4096x1024
    (ix3 (n0 := 8) (n1 := 4096) (n2 := 1024) b q f) = _
  refine (shapeCast_apply _ _ _ (ix5 (n0 := 8) (n1 := 4096) (n2 := 4) (n3 := 4) (n4 := 64) b q g l d) ?_).trans ?_
  · rw [Shape.rowMajor_val_three, Shape.rowMajor_val_five]
    show (((b.val * 4096 + q.val) * 4 + g.val) * 4 + l.val) * 64 + d.val = (b.val * 4096 + q.val) * 1024 + f.val
    omega
  refine transpose_apply _ _ _ _ _ fun a => ?_
  match a with
  | ⟨0, _⟩ => rfl
  | ⟨1, _⟩ => rfl
  | ⟨2, _⟩ => rfl
  | ⟨3, _⟩ => rfl
  | ⟨4, _⟩ => rfl

/-! ## The operands of the attention -/

theorem pay21_at (Q : FVec Ideal S8x16x64x32x128 .fp8e4m3) (K : FVec Ideal S8x4x64x32x128 .fp8e4m3) (b : Fin 8) (g l : Fin 4) (q n : Fin 4096) :
    k0_pay21 Q K (jS b g l q n) = ∑ d : Fin 64, Q (ix5 (n0 := 8) (n1 := 16) (n2 := 64) (n3 := 32) (n4 := 128) b (hd g l) d (bk q) (pl q))
      * K (ix5 (n0 := 8) (n1 := 4) (n2 := 64) (n3 := 32) (n4 := 128) b g d (bk n) (pl n)) := by
  unfold k0_pay21
  refine (scores_at _ _ b g l q n).trans (Finset.sum_congr rfl fun d _ => congrArg₂ (· * ·) ?_ ?_)
  · refine shapeCast_apply _ _ _ _ ?_
    rw [Shape.rowMajor_val_five, Shape.rowMajor_val_five]
    show (((b.val * 16 + (4 * g.val + l.val)) * 64 + d.val) * 32 + q.val / 128) * 128 + q.val % 128 = (((b.val * 4 + g.val) * 4 + l.val) * 64 + d.val) * 4096 + q.val
    omega
  · refine shapeCast_apply _ _ _ _ ?_
    rw [Shape.rowMajor_val_five, Shape.rowMajor_val_four]
    show (((b.val * 4 + g.val) * 64 + d.val) * 32 + n.val / 128) * 128 + n.val % 128 = ((b.val * 4 + g.val) * 64 + d.val) * 4096 + n.val
    omega

theorem pay22_at (s : FVec Ideal S8x16x32 .f32) (b : Fin 8) (g l : Fin 4) (q : Fin 4096) :
    k0_pay22 s (jR b g l q) = s (ix3 (n0 := 8) (n1 := 16) (n2 := 32) b (hd g l) (bk q)) * c0125 := by
  unfold k0_pay22
  refine congrArg (· * c0125) ?_
  refine (shapeCast_apply _ _ _ (ix4 (n0 := 8) (n1 := 16) (n2 := 32) (n3 := 128) b (hd g l) (bk q) (pl q)) ?_).trans ?_
  · rw [Shape.rowMajor_val_four, Shape.rowMajor_val_four]
    show ((b.val * 16 + (4 * g.val + l.val)) * 32 + q.val / 128) * 128 + q.val % 128 = ((b.val * 4 + g.val) * 4 + l.val) * 4096 + q.val
    omega
  rw [shapeCast_self]
  refine (broadcastTo_apply _ _ _ (ix4 (n0 := 8) (n1 := 16) (n2 := 32) (n3 := 1) b (hd g l) (bk q) 0) fun a => ?_).trans ?_
  · match a with
    | ⟨0, _⟩ => rfl
    | ⟨1, _⟩ => rfl
    | ⟨2, _⟩ => rfl
    | ⟨3, _⟩ => rfl
  refine shapeCast_apply _ _ _ _ ?_
  rw [Shape.rowMajor_val_three, Shape.rowMajor_val_four]
  show (b.val * 16 + (4 * g.val + l.val)) * 32 + q.val / 128 = ((b.val * 16 + (4 * g.val + l.val)) * 32 + q.val / 128) * 1 + 0
  omega

theorem pay23_at (s : FVec Ideal S8x4x32 .f32) (b : Fin 8) (g : Fin 4) (i : Fin 32) (w : Fin 128) :
    k0_pay23 s (ix4 (n0 := 8) (n1 := 4) (n2 := 32) (n3 := 128) b g i w) = s (ix3 (n0 := 8) (n1 := 4) (n2 := 32) b g i) := by
  unfold k0_pay23
  rw [shapeCast_self]
  refine (broadcastTo_apply _ _ _ (ix4 (n0 := 8) (n1 := 4) (n2 := 32) (n3 := 1) b g i 0) fun a => ?_).trans ?_
  · match a with
    | ⟨0, _⟩ => rfl
    | ⟨1, _⟩ => rfl
    | ⟨2, _⟩ => rfl
    | ⟨3, _⟩ => rfl
  refine shapeCast_apply _ _ _ _ ?_
  rw [Shape.rowMajor_val_three, Shape.rowMajor_val_four]
  show (b.val * 4 + g.val) * 32 + i.val = ((b.val * 4 + g.val) * 32 + i.val) * 1 + 0
  omega

/-! ## The attention of the arguments -/

section Out
variable (Pq : Vec Ideal S8x16x64x32x128 .f32) (Pk : Vec Ideal S8x4x64x32x128 .f32) (Pv : Vec Ideal S8x4x64x4096 .f32) (X K V : ℕ → ℕ → ℕ → EReal)
  (hQ : ∀ (b : Fin 8) (h : Fin 16) (d : Fin 64) (i : Fin 32) (w : Fin 128),
    Pq (ix5 (n0 := 8) (n1 := 16) (n2 := 64) (n3 := 32) (n4 := 128) b h d i w) = X b.val (128 * i.val + w.val) (64 * h.val + d.val))
  (hK : ∀ (b : Fin 8) (h : Fin 4) (d : Fin 64) (i : Fin 32) (w : Fin 128),
    Pk (ix5 (n0 := 8) (n1 := 4) (n2 := 64) (n3 := 32) (n4 := 128) b h d i w) = K b.val (128 * i.val + w.val) (64 * h.val + d.val))
  (hV : ∀ (b : Fin 8) (h : Fin 4) (d : Fin 64) (n : Fin 4096),
    Pv (ix4 (n0 := 8) (n1 := 4) (n2 := 64) (n3 := 4096) b h d n) = V b.val n.val (64 * h.val + d.val))
include hQ hK hV

/-- The scores of the arguments. -/
def scoresOf (Pq : Vec Ideal S8x16x64x32x128 .f32) (Pk : Vec Ideal S8x4x64x32x128 .f32) : FVec Ideal S8x4x4x4096x4096 .f32 :=
  scaled (k0_pay21 (k0_pay5 Pq) (k0_pay11 (k0_pay6 Pk) (k0_pay7 Pk) (k0_pay8 Pk))) (k0_pay22 (k0_pay4 Pq)) (k0_pay23 (k0_pay10 (k0_pay7 Pk) (k0_pay8 Pk)))

omit hV in
theorem scoresOf_at (b : Fin 8) (g l : Fin 4) (q n : Fin 4096) :
    scoresOf Pq Pk (jS b g l q n) = rfZ (X b.val) (K b.val) g.val l.val q.val n.val := by
  unfold scoresOf
  rw [scaled_at, pay21_at, pay22_at, pay23_at, pay4_at Pq X hQ, pay10_at Pk K hK]
  unfold rfZ rfS
  rw [← sum_fin]
  refine congrArg (fun z => z * _ * _) (Finset.sum_congr rfl fun d _ => ?_)
  rw [pay5_code Pq X hQ, pay11_code Pk K hK]
  simp only [Nat.div_add_mod]

omit hV in
theorem probsOf_at (b : Fin 8) (g l : Fin 4) (q n : Fin 4096) :
    probs (scoresOf Pq Pk) (jS b g l q n) = rfP (X b.val) (K b.val) g.val l.val q.val n.val := by
  rw [probs_at, scoresOf_at Pq Pk X K hQ hK, rowMax_at _ (fun n => rfZ (X b.val) (K b.val) g.val l.val q.val n) b g l q (fun n => scoresOf_at Pq Pk X K hQ hK b g l q n)]
  rfl

theorem outsOf_at (b : Fin 8) (g l : Fin 4) (q : Fin 4096) (d : Fin 64) :
    outs (k0_pay14 Pv) (k0_pay16 (k0_pay12 Pv) (k0_pay13 Pv) (k0_pay15 (F := Ideal))) (probs (scoresOf Pq Pk)) (jO b g l q d)
      = rfO (X b.val) (K b.val) (V b.val) g.val l.val q.val d.val := by
  have hs : (∑ n : Fin 4096, clip (probs (scoresOf Pq Pk) (jS b g l q n) * c256)
        * k0_pay16 (k0_pay12 Pv) (k0_pay13 Pv) (k0_pay15 (F := Ideal)) (ix4 (n0 := 8) (n1 := 4) (n2 := 64) (n3 := 4096) b g d n))
      = ∑ n ∈ Finset.range 4096, clip (rfP (X b.val) (K b.val) g.val l.val q.val n * c256) * codeV (V b.val) n (64 * g.val + d.val) := by
    rw [← sum_fin fun n => clip (rfP (X b.val) (K b.val) g.val l.val q.val n * c256) * codeV (V b.val) n (64 * g.val + d.val)]
    refine Finset.sum_congr rfl fun n _ => ?_
    rw [probsOf_at Pq Pk X K hQ hK, pay16_code Pv V hV]
  rw [outs_at, hs, rowSum_at _ (fun n => rfP (X b.val) (K b.val) g.val l.val q.val n) b g l q (fun n => probsOf_at Pq Pk X K hQ hK b g l q n), pay14_at Pv V hV]
  rfl

end Out

end Cert.ReferenceIdeal.Att
-- ==== Proof.RefArrays.lean ====
/- The reference's results, whole. -/
module

public import proofs.«01_k».proof.Proof.RefVal

@[expose] public section

set_option maxRecDepth 16384

noncomputable section

namespace Cert.ReferenceIdeal.Att

open Cert.ReferenceIdeal Cert.ReferenceIdeal.Gen
open Idealize.ShloMosaic Idealize.ShloMosaic.TcCoe Idealize.SL.Sem
open Idealize.ShloMosaic.Pipeline (Dat)
open Cert.KernelIdeal.Att (resO resB resS resV resT rfO out_ref)

theorem zeros3 : (![0, 0, 0] : Fin 3 → ℕ) = fun _ => 0 := by decide
theorem zeros4 : (![0, 0, 0, 0] : Fin 4 → ℕ) = fun _ => 0 := by decide
theorem zeros5 : (![0, 0, 0, 0, 0] : Fin 5 → ℕ) = fun _ => 0 := by decide

section Out
variable (Pq : Vec Ideal S8x16x64x32x128 .f32) (Pk : Vec Ideal S8x4x64x32x128 .f32) (Pv : Vec Ideal S8x4x64x4096 .f32) (X K V : ℕ → ℕ → ℕ → EReal)
  (hQ : ∀ (b : Fin 8) (h : Fin 16) (d : Fin 64) (i : Fin 32) (w : Fin 128),
    Pq (ix5 (n0 := 8) (n1 := 16) (n2 := 64) (n3 := 32) (n4 := 128) b h d i w) = X b.val (128 * i.val + w.val) (64 * h.val + d.val))
  (hK : ∀ (b : Fin 8) (h : Fin 4) (d : Fin 64) (i : Fin 32) (w : Fin 128),
    Pk (ix5 (n0 := 8) (n1 := 4) (n2 := 64) (n3 := 32) (n4 := 128) b h d i w) = K b.val (128 * i.val + w.val) (64 * h.val + d.val))
  (hV : ∀ (b : Fin 8) (h : Fin 4) (d : Fin 64) (n : Fin 4096),
    Pv (ix4 (n0 := 8) (n1 := 4) (n2 := 64) (n3 := 4096) b h d n) = V b.val n.val (64 * h.val + d.val))

omit hQ hK hV in
theorem ldQ : View.ld Pq r0_0 = Pq := View.ld_unit_zero (S := S8x16x64x32x128) zeros5 _ _
omit hQ hK hV in
theorem ldK : View.ld Pk r0_1 = Pk := View.ld_unit_zero (S := S8x4x64x32x128) zeros5 _ _
omit hQ hK hV in
theorem ldV : View.ld Pv r0_2 = Pv := View.ld_unit_zero (S := S8x4x64x4096) zeros4 _ _

include hQ hK hV in
theorem o3 : out0_3 Pq Pk Pv = resO X K V := by
  have e : out0_3 Pq Pk Pv = k0_pay1 (k0_pay14 Pv) (k0_pay16 (k0_pay12 Pv) (k0_pay13 Pv) (k0_pay15 (F := Ideal)))
      (k0_pay21 (k0_pay5 Pq) (k0_pay11 (k0_pay6 Pk) (k0_pay7 Pk) (k0_pay8 Pk))) (k0_pay22 (k0_pay4 Pq)) (k0_pay23 (k0_pay10 (k0_pay7 Pk) (k0_pay8 Pk))) := by
    unfold_out out0_3
    rw [View.canon_unit_zero (S := S8x4096x1024) zeros3]
    simp only [ldQ, ldK, ldV]
  rw [e]
  funext y
  have b0 : (y 0).val < 8 := (y 0).isLt
  have b1 : (y 1).val < 4096 := (y 1).isLt
  have b2 : (y 2).val < 1024 := (y 2).isLt
  rw [eq_ix3 (n0 := 8) (n1 := 4096) (n2 := 1024) y]
  refine (pay1_at _ _ _ _ _ (y 0) (y 1) (y 2) ⟨(y 2).val / 256, by omega⟩ ⟨(y 2).val % 256 / 64, by omega⟩ ⟨(y 2).val % 64, by omega⟩
    (by show (y 2).val = 256 * ((y 2).val / 256) + 64 * ((y 2).val % 256 / 64) + (y 2).val % 64; omega)).trans ?_
  refine (outsOf_at Pq Pk Pv X K V hQ hK hV _ _ _ _ _).trans ?_
  rw [← out_ref]
  rfl

include hQ in
theorem o4 : out0_4 Pq Pk Pv = resB (W := 1024) X := by
  have e : out0_4 Pq Pk Pv = k0_pay18 (k0_pay5 Pq) := by
    unfold_out out0_4
    rw [View.canon_unit_zero (S := S8x1024x4096) zeros3]
    simp only [ldQ, ldK, ldV]
  rw [e]
  funext y
  rw [eq_ix3 (n0 := 8) (n1 := 1024) (n2 := 4096) y]
  exact pay18_at Pq X hQ _ _ _

include hQ in
theorem o5 : out0_5 Pq Pk Pv = resS (W := 16) X := by
  have e : out0_5 Pq Pk Pv = k0_pay4 Pq := by
    unfold_out out0_5
    rw [View.canon_unit_zero (S := S8x16x32) zeros3]
    simp only [ldQ, ldK, ldV]
  rw [e]
  funext y
  rw [eq_ix3 (n0 := 8) (n1 := 16) (n2 := 32) y]
  exact pay4_at Pq X hQ _ _ _

include hK in
theorem o6 : out0_6 Pq Pk Pv = resB (W := 256) K := by
  have e : out0_6 Pq Pk Pv = k0_pay19 (k0_pay11 (k0_pay6 Pk) (k0_pay7 Pk) (k0_pay8 Pk)) := by
    unfold_out out0_6
    rw [View.canon_unit_zero (S := S8x256x4096) zeros3]
    simp only [ldQ, ldK, ldV]
  rw [e]
  funext y
  rw [eq_ix3 (n0 := 8) (n1 := 256) (n2 := 4096) y]
  exact pay19_at Pk K hK _ _ _

include hK in
theorem o7 : out0_7 Pq Pk Pv = resS (W := 4) K := by
  have e : out0_7 Pq Pk Pv = k0_pay10 (k0_pay7 Pk) (k0_pay8 Pk) := by
    unfold_out out0_7
    rw [View.canon_unit_zero (S := S8x4x32) zeros3]
    simp only [ldQ, ldK, ldV]
  rw [e]
  funext y
  rw [eq_ix3 (n0 := 8) (n1 := 4) (n2 := 32) y]
  exact pay10_at Pk K hK _ _ _

include hV in
theorem o8 : out0_8 Pq Pk Pv = resV V := by
  have e : out0_8 Pq Pk Pv = k0_pay20 (k0_pay12 Pv) (k0_pay13 Pv) (k0_pay15 (F := Ideal)) := by
    unfold_out out0_8
    rw [View.canon_unit_zero (S := S8x256x4096) zeros3]
    simp only [ldQ, ldK, ldV]
  rw [e]
  funext y
  rw [eq_ix3 (n0 := 8) (n1 := 256) (n2 := 4096) y]
  exact pay20_at Pv V hV _ _ _

include hV in
theorem o9 : out0_9 Pq Pk Pv = resT V := by
  have e : out0_9 Pq Pk Pv = k0_pay17 (k0_pay14 Pv) := by
    unfold_out out0_9
    rw [View.canon_unit_zero (S := S8x1x256) zeros3]
    simp only [ldQ, ldK, ldV]
  rw [e]
  funext y
  have e1 : y 1 = (0 : Fin 1) := Fin.ext (by have : (y 1).val < 1 := (y 1).isLt; show (y 1).val = 0; omega)
  have ey := eq_ix3 (n0 := 8) (n1 := 1) (n2 := 256) y
  rw [e1] at ey
  rw [ey]
  exact pay17_at Pv V hV _ _

end Out

/-! ## The run's arrays -/

section Run
variable (m : (ℓ : Loc nD τ sig) → Buf (Elt Ideal) ℓ) (c : Dev nD)

theorem at_0 : ∀ (t : Fin grid0.N) (a : Fin 5), win0_0.index t a = 0 := by decide +kernel
theorem at_1 : ∀ (t : Fin grid0.N) (a : Fin 5), win0_1.index t a = 0 := by decide +kernel
theorem at_2 : ∀ (t : Fin grid0.N) (a : Fin 4), win0_2.index t a = 0 := by decide +kernel
theorem at_3 : ∀ (t : Fin grid0.N) (a : Fin 3), win0_3.index t a = 0 := by decide +kernel
theorem at_4 : ∀ (t : Fin grid0.N) (a : Fin 3), win0_4.index t a = 0 := by decide +kernel
theorem at_5 : ∀ (t : Fin grid0.N) (a : Fin 3), win0_5.index t a = 0 := by decide +kernel
theorem at_6 : ∀ (t : Fin grid0.N) (a : Fin 3), win0_6.index t a = 0 := by decide +kernel
theorem at_7 : ∀ (t : Fin grid0.N) (a : Fin 3), win0_7.index t a = 0 := by decide +kernel
theorem at_8 : ∀ (t : Fin grid0.N) (a : Fin 3), win0_8.index t a = 0 := by decide +kernel
theorem at_9 : ∀ (t : Fin grid0.N) (a : Fin 3), win0_9.index t a = 0 := by decide +kernel

theorem whole_0 (t : Fin cfg0.N) (z : S8x16x64x32x128.Idx) : ((cfg0.win 0).blk t).view.emb z = z := by
  funext a
  apply Fin.ext
  refine (win0_0.rect_emb_val t z a).trans ?_
  rw [at_0 t a]
  omega

theorem whole_1 (t : Fin cfg0.N) (z : S8x4x64x32x128.Idx) : ((cfg0.win 1).blk t).view.emb z = z := by
  funext a
  apply Fin.ext
  refine (win0_1.rect_emb_val t z a).trans ?_
  rw [at_1 t a]
  omega

theorem whole_2 (t : Fin cfg0.N) (z : S8x4x64x4096.Idx) : ((cfg0.win 2).blk t).view.emb z = z := by
  funext a
  apply Fin.ext
  refine (win0_2.rect_emb_val t z a).trans ?_
  rw [at_2 t a]
  omega

theorem whole_3 (t : Fin cfg0.N) (z : S8x4096x1024.Idx) : ((cfg0.win 3).blk t).view.emb z = z := by
  funext a
  apply Fin.ext
  refine (win0_3.rect_emb_val t z a).trans ?_
  rw [at_3 t a]
  omega

theorem whole_4 (t : Fin cfg0.N) (z : S8x1024x4096.Idx) : ((cfg0.win 4).blk t).view.emb z = z := by
  funext a
  apply Fin.ext
  refine (win0_4.rect_emb_val t z a).trans ?_
  rw [at_4 t a]
  omega

theorem whole_5 (t : Fin cfg0.N) (z : S8x16x32.Idx) : ((cfg0.win 5).blk t).view.emb z = z := by
  funext a
  apply Fin.ext
  refine (win0_5.rect_emb_val t z a).trans ?_
  rw [at_5 t a]
  omega

theorem whole_6 (t : Fin cfg0.N) (z : S8x256x4096.Idx) : ((cfg0.win 6).blk t).view.emb z = z := by
  funext a
  apply Fin.ext
  refine (win0_6.rect_emb_val t z a).trans ?_
  rw [at_6 t a]
  omega

theorem whole_7 (t : Fin cfg0.N) (z : S8x4x32.Idx) : ((cfg0.win 7).blk t).view.emb z = z := by
  funext a
  apply Fin.ext
  refine (win0_7.rect_emb_val t z a).trans ?_
  rw [at_7 t a]
  omega

theorem whole_8 (t : Fin cfg0.N) (z : S8x256x4096.Idx) : ((cfg0.win 8).blk t).view.emb z = z := by
  funext a
  apply Fin.ext
  refine (win0_8.rect_emb_val t z a).trans ?_
  rw [at_8 t a]
  omega

theorem whole_9 (t : Fin cfg0.N) (z : S8x1x256.Idx) : ((cfg0.win 9).blk t).view.emb z = z := by
  funext a
  apply Fin.ext
  refine (win0_9.rect_emb_val t z a).trans ?_
  rw [at_9 t a]
  omega

theorem blkQ (t : Fin cfg0.N) (b : Fin 8) (h : Fin 16) (d : Fin 64) (i : Fin 32) (w : Fin 128) :
    iblk m c 0 t (ix5 (n0 := 8) (n1 := 16) (n2 := 64) (n3 := 32) (n4 := 128) b h d i w) = argX m c b.val (128 * i.val + w.val) (64 * h.val + d.val) := by
  rw [← in_q]
  exact congrArg (V m c main_v2) (whole_0 t _)

theorem blkK (t : Fin cfg0.N) (b : Fin 8) (h : Fin 4) (d : Fin 64) (i : Fin 32) (w : Fin 128) :
    iblk m c 1 t (ix5 (n0 := 8) (n1 := 4) (n2 := 64) (n3 := 32) (n4 := 128) b h d i w) = argK m c b.val (128 * i.val + w.val) (64 * h.val + d.val) := by
  rw [← in_k]
  exact congrArg (V m c main_v5) (whole_1 t _)

theorem blkV (t : Fin cfg0.N) (b : Fin 8) (h : Fin 4) (d : Fin 64) (n : Fin 4096) :
    iblk m c 2 t (ix4 (n0 := 8) (n1 := 4) (n2 := 64) (n3 := 4096) b h d n) = argV m c b.val n.val (64 * h.val + d.val) := by
  rw [← in_v]
  exact congrArg (V m c main_v8) (whole_2 t _)

/-- Result 0. -/
theorem arr_3 : (dats m 0 c).arrAt 3 cfg0.N = resO (argX m c) (argK m c) (argV m c) := by
  refine Dat.arrAt_eq_of_cover (dats m 0 c) 3 (resO (argX m c) (argK m c) (argV m c)) (fun t hf => ?_) (fun y => ⟨t0_0, flush0_3 _, ?_⟩)
  · rw [Cert.ReferenceIdeal.Value.flushed3, o3 _ _ _ _ _ _ (blkQ m c t) (blkK m c t) (blkV m c t)]
    funext z
    exact congrArg (resO (argX m c) (argK m c) (argV m c)) (whole_3 t z).symm
  · exact (whole_3 t0_0 y) ▸ View.emb_mem_set _ _

/-- Result 1. -/
theorem arr_4 : (dats m 0 c).arrAt 4 cfg0.N = resB (W := 1024) (argX m c) := by
  refine Dat.arrAt_eq_of_cover (dats m 0 c) 4 (resB (W := 1024) (argX m c)) (fun t hf => ?_) (fun y => ⟨t0_0, flush0_4 _, ?_⟩)
  · rw [Cert.ReferenceIdeal.Value.flushed4, o4 _ _ _ _ (blkQ m c t)]
    funext z
    exact congrArg (resB (W := 1024) (argX m c)) (whole_4 t z).symm
  · exact (whole_4 t0_0 y) ▸ View.emb_mem_set _ _

/-- Result 2. -/
theorem arr_5 : (dats m 0 c).arrAt 5 cfg0.N = resS (W := 16) (argX m c) := by
  refine Dat.arrAt_eq_of_cover (dats m 0 c) 5 (resS (W := 16) (argX m c)) (fun t hf => ?_) (fun y => ⟨t0_0, flush0_5 _, ?_⟩)
  · rw [Cert.ReferenceIdeal.Value.flushed5, o5 _ _ _ _ (blkQ m c t)]
    funext z
    exact congrArg (resS (W := 16) (argX m c)) (whole_5 t z).symm
  · exact (whole_5 t0_0 y) ▸ View.emb_mem_set _ _

/-- Result 3. -/
theorem arr_6 : (dats m 0 c).arrAt 6 cfg0.N = resB (W := 256) (argK m c) := by
  refine Dat.arrAt_eq_of_cover (dats m 0 c) 6 (resB (W := 256) (argK m c)) (fun t hf => ?_) (fun y => ⟨t0_0, flush0_6 _, ?_⟩)
  · rw [Cert.ReferenceIdeal.Value.flushed6, o6 _ _ _ _ (blkK m c t)]
    funext z
    exact congrArg (resB (W := 256) (argK m c)) (whole_6 t z).symm
  · exact (whole_6 t0_0 y) ▸ View.emb_mem_set _ _

/-- Result 4. -/
theorem arr_7 : (dats m 0 c).arrAt 7 cfg0.N = resS (W := 4) (argK m c) := by
  refine Dat.arrAt_eq_of_cover (dats m 0 c) 7 (resS (W := 4) (argK m c)) (fun t hf => ?_) (fun y => ⟨t0_0, flush0_7 _, ?_⟩)
  · rw [Cert.ReferenceIdeal.Value.flushed7, o7 _ _ _ _ (blkK m c t)]
    funext z
    exact congrArg (resS (W := 4) (argK m c)) (whole_7 t z).symm
  · exact (whole_7 t0_0 y) ▸ View.emb_mem_set _ _

/-- Result 5. -/
theorem arr_8 : (dats m 0 c).arrAt 8 cfg0.N = resV (argV m c) := by
  refine Dat.arrAt_eq_of_cover (dats m 0 c) 8 (resV (argV m c)) (fun t hf => ?_) (fun y => ⟨t0_0, flush0_8 _, ?_⟩)
  · rw [Cert.ReferenceIdeal.Value.flushed8, o8 _ _ _ _ (blkV m c t)]
    funext z
    exact congrArg (resV (argV m c)) (whole_8 t z).symm
  · exact (whole_8 t0_0 y) ▸ View.emb_mem_set _ _

/-- Result 6. -/
theorem arr_9 : (dats m 0 c).arrAt 9 cfg0.N = resT (argV m c) := by
  refine Dat.arrAt_eq_of_cover (dats m 0 c) 9 (resT (argV m c)) (fun t hf => ?_) (fun y => ⟨t0_0, flush0_9 _, ?_⟩)
  · rw [Cert.ReferenceIdeal.Value.flushed9, o9 _ _ _ _ (blkV m c t)]
    funext z
    exact congrArg (resT (argV m c)) (whole_9 t z).symm
  · exact (whole_9 t0_0 y) ▸ View.emb_mem_set _ _

end Run

end Cert.ReferenceIdeal.Att
-- ==== Proof.Algebraic.lean ====
/- Kernel and reference leave the same results, over the extended reals. -/
module

public import proofs.«01_k».proof.Proof.Quiet
public import proofs.«01_k».proof.Proof.Arrays
public import proofs.«01_k».proof.Proof.RefArrays

@[expose] public section

noncomputable section

open Idealize.ShloMosaic Idealize.ShloMosaic.TcCoe Idealize.SL.Sem
open Idealize.ShloMosaic.Pipeline (RDat Dat)

namespace Cert.KernelIdeal.Att

open Cert.KernelIdeal Cert.KernelIdeal.Gen

variable (m : (ℓ : Loc nD τ sig) → Buf (Elt Ideal) ℓ) (ρ : Dev nD → PrngReg)

/-- The kernel's run: the results as functions of the arguments. -/
theorem run_values :
    θ_run (defs (F := Ideal)) (onTc (τ := τ) (main (F := Ideal))) ⟨m, fun _ => 0, ρ⟩ (fun r => ∀ c : Dev nD,
      r.2.mem ((c.tc : Thread nD τ).loc main_v0_0) = resO (argX m c) (argK m c) (argV m c)
      ∧ r.2.mem ((c.tc : Thread nD τ).loc main_v0_1) = resB (W := 1024) (argX m c)
      ∧ r.2.mem ((c.tc : Thread nD τ).loc main_v0_2) = resS (W := 16) (argX m c)
      ∧ r.2.mem ((c.tc : Thread nD τ).loc main_v0_3) = resB (W := 256) (argK m c)
      ∧ r.2.mem ((c.tc : Thread nD τ).loc main_v0_4) = resS (W := 4) (argK m c)
      ∧ r.2.mem ((c.tc : Thread nD τ).loc main_v0_5) = resV (argV m c)
      ∧ r.2.mem ((c.tc : Thread nD τ).loc main_v0_6) = resT (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main ρ (valStep m))
  obtain ⟨after, hL, hG⟩ := RDat.FramePost.exists_exact h.1 c
  have hL' : ∀ (w : Fin cfg0.W) (u : Fin cfg0.N), (cfg0.win w).flush u = true → (vdat m c).Leaves w u (after w u) := fun w u hf => hL w u hf
  exact ⟨(hG 3).trans (arr_3 m c after hL'), (hG 4).trans (arr_4 m c after hL'), (hG 5).trans (arr_5 m c after hL'), (hG 6).trans (arr_6 m c after hL'),
    (hG 7).trans (arr_7 m c after hL'), (hG 8).trans (arr_8 m c after hL'), (hG 9).trans (arr_9 m c after hL'), args_of m h.1 c⟩

end Cert.KernelIdeal.Att

namespace Cert.ReferenceIdeal.Att

open Cert.ReferenceIdeal Cert.ReferenceIdeal.Gen
open Cert.KernelIdeal.Att (resO resB resS resV resT)

variable (m : (ℓ : Loc nD τ sig) → Buf (Elt Ideal) ℓ) (ρ : Dev nD → PrngReg)

/-- The reference's run: the same functions of its arguments. -/
theorem run_values :
    θ_run (defs (F := Ideal)) (onTc (τ := τ) (main (F := Ideal))) ⟨m, fun _ => 0, ρ⟩ (fun r => ∀ c : Dev nD,
      r.2.mem ((c.tc : Thread nD τ).loc main_v9_0) = resO (argX m c) (argK m c) (argV m c)
      ∧ r.2.mem ((c.tc : Thread nD τ).loc main_v9_1) = resB (W := 1024) (argX m c)
      ∧ r.2.mem ((c.tc : Thread nD τ).loc main_v9_2) = resS (W := 16) (argX m c)
      ∧ r.2.mem ((c.tc : Thread nD τ).loc main_v9_3) = resB (W := 256) (argK m c)
      ∧ r.2.mem ((c.tc : Thread nD τ).loc main_v9_4) = resS (W := 4) (argK m c)
      ∧ r.2.mem ((c.tc : Thread nD τ).loc main_v9_5) = resV (argV m c)
      ∧ r.2.mem ((c.tc : Thread nD τ).loc main_v9_6) = resT (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.ReferenceIdeal.Value.run_blocks m ρ)
  obtain ⟨h3, h4, h5, h6, h7, h8, h9, hargs⟩ := h c
  exact ⟨h3.trans (arr_3 m c), h4.trans (arr_4 m c), h5.trans (arr_5 m c), h6.trans (arr_6 m c), h7.trans (arr_7 m c), h8.trans (arr_8 m c),
    h9.trans (arr_9 m c), hargs⟩

end Cert.ReferenceIdeal.Att
-- ==== Proof.lean ====
/- The certificate: the kernel, its ideal form and the reference run without a fault and leave their arguments
   unchanged; the ideal form is the kernel over the extended reals; and kernel and reference leave the same seven
   results there. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Value
public import proofs.«01_k».proof.Proof.Gen.ReferenceIdeal.Frame
public import proofs.«01_k».proof.Proof.QuietBits
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem preserves : Cert.preserves_Kernel_KernelIdeal :=
  IdealRules.named_const.statement Cert.KernelIdeal.κ "scale_log2e" .f32 0x3E38AA3B#32 (((8 * (Real.log 2))⁻¹ : ℝ) : EReal) rfl

/-- Both runs leave the same functions of the arguments; the arguments agree. -/
theorem algebraic : Cert.algebraic_KernelIdeal_ReferenceIdeal (hKernelIdeal := Cert.KernelIdeal.Gen.facts) (hReferenceIdeal := Cert.ReferenceIdeal.Gen.facts) := by
  intro m g m' g' _ hm
  have eX : ∀ c, Cert.ReferenceIdeal.Att.argX m' c = Cert.KernelIdeal.Att.argX m c := fun c => by
    unfold Cert.ReferenceIdeal.Att.argX Cert.KernelIdeal.Att.argX
    rw [(hm c).1]
  have eK : ∀ c, Cert.ReferenceIdeal.Att.argK m' c = Cert.KernelIdeal.Att.argK m c := fun c => by
    unfold Cert.ReferenceIdeal.Att.argK Cert.KernelIdeal.Att.argK
    rw [(hm c).2.1]
  have eV : ∀ c, Cert.ReferenceIdeal.Att.argV m' c = Cert.KernelIdeal.Att.argV m c := fun c => by
    unfold Cert.ReferenceIdeal.Att.argV Cert.KernelIdeal.Att.argV
    rw [(hm c).2.2]
  refine ⟨_, _, _, _, _, _, _, Cert.KernelIdeal.Att.run_values m g, ?_⟩
  have hr := Cert.ReferenceIdeal.Att.run_values m' g'
  simp only [eX, eK, eV] at hr
  exact hr

theorem claim : Cert.Claim := ⟨Cert.Kernel.Gen.facts, Cert.KernelIdeal.Gen.facts, Cert.ReferenceIdeal.Gen.facts,
  Cert.KernelIdeal.Att.quiet_bits, fun m ρ _ => Cert.KernelIdeal.Att.quiet (F := Ideal) m ρ,
  fun m ρ _ => Cert.ReferenceIdeal.Gen.frame (F := Ideal) m ρ, preserves, algebraic⟩

end Cert.Proof

end
